-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Momentum (m : (ℓ : Loc Cert.Momentum.nD Cert.Momentum.τ Cert.Momentum.sig) → Buf (Elt Bits) ℓ) : Prop :=
  True

def Pre_MomentumIdeal (m : (ℓ : Loc Cert.MomentumIdeal.nD Cert.MomentumIdeal.τ Cert.MomentumIdeal.sig) → Buf (Elt Ideal) ℓ) : Prop :=
  True

def Pre_MomentumReferenceIdeal (m : (ℓ : Loc Cert.MomentumReferenceIdeal.nD Cert.MomentumReferenceIdeal.τ Cert.MomentumReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Momentum [hMomentum : Cert.Momentum.Facts] : Prop :=
  ∀ (m : (ℓ : Loc Cert.Momentum.nD Cert.Momentum.τ Cert.Momentum.sig) → Buf (Elt Bits) ℓ) (g : Dev Cert.Momentum.nD → PrngReg), Pre_Momentum m →
    θ_run (Cert.Momentum.defs (F := Bits)) (onTc (τ := Cert.Momentum.τ) (Cert.Momentum.main (F := Bits))) ⟨m, fun _ => 0, g⟩ (fun r => (∀ c : Dev Cert.Momentum.nD,
      r.2.mem ((c.tc : Thread Cert.Momentum.nD Cert.Momentum.τ).loc Cert.Momentum.main_arg0) = m ((c.tc : Thread Cert.Momentum.nD Cert.Momentum.τ).loc Cert.Momentum.main_arg0)
      ∧ r.2.mem ((c.tc : Thread Cert.Momentum.nD Cert.Momentum.τ).loc Cert.Momentum.main_arg1) = m ((c.tc : Thread Cert.Momentum.nD Cert.Momentum.τ).loc Cert.Momentum.main_arg1)
      ∧ r.2.mem ((c.tc : Thread Cert.Momentum.nD Cert.Momentum.τ).loc Cert.Momentum.main_arg2) = m ((c.tc : Thread Cert.Momentum.nD Cert.Momentum.τ).loc Cert.Momentum.main_arg2)
      ∧ r.2.mem ((c.tc : Thread Cert.Momentum.nD Cert.Momentum.τ).loc Cert.Momentum.main_arg3) = m ((c.tc : Thread Cert.Momentum.nD Cert.Momentum.τ).loc Cert.Momentum.main_arg3))
      ∧ r.2.sem = fun _ => 0)

def quiescent_MomentumIdeal [hMomentumIdeal : Cert.MomentumIdeal.Facts] : Prop :=
  ∀ (m : (ℓ : Loc Cert.MomentumIdeal.nD Cert.MomentumIdeal.τ Cert.MomentumIdeal.sig) → Buf (Elt Ideal) ℓ) (g : Dev Cert.MomentumIdeal.nD → PrngReg), Pre_MomentumIdeal m →
    θ_run (Cert.MomentumIdeal.defs (F := Ideal)) (onTc (τ := Cert.MomentumIdeal.τ) (Cert.MomentumIdeal.main (F := Ideal))) ⟨m, fun _ => 0, g⟩ (fun r => (∀ c : Dev Cert.MomentumIdeal.nD,
      r.2.mem ((c.tc : Thread Cert.MomentumIdeal.nD Cert.MomentumIdeal.τ).loc Cert.MomentumIdeal.main_arg0) = m ((c.tc : Thread Cert.MomentumIdeal.nD Cert.MomentumIdeal.τ).loc Cert.MomentumIdeal.main_arg0)
      ∧ r.2.mem ((c.tc : Thread Cert.MomentumIdeal.nD Cert.MomentumIdeal.τ).loc Cert.MomentumIdeal.main_arg1) = m ((c.tc : Thread Cert.MomentumIdeal.nD Cert.MomentumIdeal.τ).loc Cert.MomentumIdeal.main_arg1)
      ∧ r.2.mem ((c.tc : Thread Cert.MomentumIdeal.nD Cert.MomentumIdeal.τ).loc Cert.MomentumIdeal.main_arg2) = m ((c.tc : Thread Cert.MomentumIdeal.nD Cert.MomentumIdeal.τ).loc Cert.MomentumIdeal.main_arg2)
      ∧ r.2.mem ((c.tc : Thread Cert.MomentumIdeal.nD Cert.MomentumIdeal.τ).loc Cert.MomentumIdeal.main_arg3) = m ((c.tc : Thread Cert.MomentumIdeal.nD Cert.MomentumIdeal.τ).loc Cert.MomentumIdeal.main_arg3))
      ∧ r.2.sem = fun _ => 0)

def quiescent_MomentumReferenceIdeal [hMomentumReferenceIdeal : Cert.MomentumReferenceIdeal.Facts] : Prop :=
  ∀ (m : (ℓ : Loc Cert.MomentumReferenceIdeal.nD Cert.MomentumReferenceIdeal.τ Cert.MomentumReferenceIdeal.sig) → Buf (Elt Ideal) ℓ) (g : Dev Cert.MomentumReferenceIdeal.nD → PrngReg), Pre_MomentumReferenceIdeal m →
    θ_run (Cert.MomentumReferenceIdeal.defs (F := Ideal)) (onTc (τ := Cert.MomentumReferenceIdeal.τ) (Cert.MomentumReferenceIdeal.main (F := Ideal))) ⟨m, fun _ => 0, g⟩ (fun r => (∀ c : Dev Cert.MomentumReferenceIdeal.nD,
      r.2.mem ((c.tc : Thread Cert.MomentumReferenceIdeal.nD Cert.MomentumReferenceIdeal.τ).loc Cert.MomentumReferenceIdeal.main_arg0) = m ((c.tc : Thread Cert.MomentumReferenceIdeal.nD Cert.MomentumReferenceIdeal.τ).loc Cert.MomentumReferenceIdeal.main_arg0)
      ∧ r.2.mem ((c.tc : Thread Cert.MomentumReferenceIdeal.nD Cert.MomentumReferenceIdeal.τ).loc Cert.MomentumReferenceIdeal.main_arg1) = m ((c.tc : Thread Cert.MomentumReferenceIdeal.nD Cert.MomentumReferenceIdeal.τ).loc Cert.MomentumReferenceIdeal.main_arg1)
      ∧ r.2.mem ((c.tc : Thread Cert.MomentumReferenceIdeal.nD Cert.MomentumReferenceIdeal.τ).loc Cert.MomentumReferenceIdeal.main_arg2) = m ((c.tc : Thread Cert.MomentumReferenceIdeal.nD Cert.MomentumReferenceIdeal.τ).loc Cert.MomentumReferenceIdeal.main_arg2)
      ∧ r.2.mem ((c.tc : Thread Cert.MomentumReferenceIdeal.nD Cert.MomentumReferenceIdeal.τ).loc Cert.MomentumReferenceIdeal.main_arg3) = m ((c.tc : Thread Cert.MomentumReferenceIdeal.nD Cert.MomentumReferenceIdeal.τ).loc Cert.MomentumReferenceIdeal.main_arg3))
      ∧ r.2.sem = fun _ => 0)

def preserves_Kernel_KernelIdeal : Prop :=
  IdealRules.bf16_pair.PackStatement Cert.KernelIdeal.S256x256
  ∧ IdealRules.bf16_pair.Statement Cert.KernelIdeal.S512x256 Cert.KernelIdeal.S256x256
  ∧ IdealRules.bf16_pair.PackStatement Cert.KernelIdeal.S128x256
  ∧ IdealRules.bf16_pair.Statement Cert.KernelIdeal.S256x256 Cert.KernelIdeal.S128x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v18_0)) (v3 : (c : Dev Cert.KernelIdeal.nD) → Buf (Elt Ideal) ((c.tc : Thread Cert.KernelIdeal.nD Cert.KernelIdeal.τ).loc Cert.KernelIdeal.main_v19_0)) (v4 : (c : Dev Cert.KernelIdeal.nD) → Buf (Elt Ideal) ((c.tc : Thread Cert.KernelIdeal.nD Cert.KernelIdeal.τ).loc Cert.KernelIdeal.main_v18_1)) (v5 : (c : Dev Cert.KernelIdeal.nD) → Buf (Elt Ideal) ((c.tc : Thread Cert.KernelIdeal.nD Cert.KernelIdeal.τ).loc Cert.KernelIdeal.main_v19_1)) (v6 : (c : Dev Cert.KernelIdeal.nD) → Buf (Elt Ideal) ((c.tc : Thread Cert.KernelIdeal.nD Cert.KernelIdeal.τ).loc Cert.KernelIdeal.main_v16_1)) (v7 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v18_0) = v2 c
          ∧ r.2.mem ((c.tc : Thread Cert.KernelIdeal.nD Cert.KernelIdeal.τ).loc Cert.KernelIdeal.main_v19_0) = v3 c
          ∧ r.2.mem ((c.tc : Thread Cert.KernelIdeal.nD Cert.KernelIdeal.τ).loc Cert.KernelIdeal.main_v18_1) = v4 c
          ∧ r.2.mem ((c.tc : Thread Cert.KernelIdeal.nD Cert.KernelIdeal.τ).loc Cert.KernelIdeal.main_v19_1) = v5 c
          ∧ r.2.mem ((c.tc : Thread Cert.KernelIdeal.nD Cert.KernelIdeal.τ).loc Cert.KernelIdeal.main_v16_1) = v6 c
          ∧ r.2.mem ((c.tc : Thread Cert.KernelIdeal.nD Cert.KernelIdeal.τ).loc Cert.KernelIdeal.main_v16_2) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v131) = v3 c
          ∧ r.2.mem ((c.tc : Thread Cert.ReferenceIdeal.nD Cert.ReferenceIdeal.τ).loc Cert.ReferenceIdeal.main_v134) = v4 c
          ∧ r.2.mem ((c.tc : Thread Cert.ReferenceIdeal.nD Cert.ReferenceIdeal.τ).loc Cert.ReferenceIdeal.main_v137) = v5 c
          ∧ r.2.mem ((c.tc : Thread Cert.ReferenceIdeal.nD Cert.ReferenceIdeal.τ).loc Cert.ReferenceIdeal.main_v108) = v6 c
          ∧ r.2.mem ((c.tc : Thread Cert.ReferenceIdeal.nD Cert.ReferenceIdeal.τ).loc Cert.ReferenceIdeal.main_v100) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Momentum_MomentumIdeal : Prop :=
  True

def algebraic_MomentumIdeal_MomentumReferenceIdeal [hMomentumIdeal : Cert.MomentumIdeal.Facts] [hMomentumReferenceIdeal : Cert.MomentumReferenceIdeal.Facts] : Prop :=
  ∀ (m : (ℓ : Loc Cert.MomentumIdeal.nD Cert.MomentumIdeal.τ Cert.MomentumIdeal.sig) → Buf (Elt Ideal) ℓ) (g : Dev Cert.MomentumIdeal.nD → PrngReg)
    (m' : (ℓ : Loc Cert.MomentumReferenceIdeal.nD Cert.MomentumReferenceIdeal.τ Cert.MomentumReferenceIdeal.sig) → Buf (Elt Ideal) ℓ) (g' : Dev Cert.MomentumReferenceIdeal.nD → PrngReg), Pre_MomentumIdeal m →
    (∀ c : Dev Cert.MomentumIdeal.nD,
      m' ((c.tc : Thread Cert.MomentumReferenceIdeal.nD Cert.MomentumReferenceIdeal.τ).loc Cert.MomentumReferenceIdeal.main_arg0) = m ((c.tc : Thread Cert.MomentumIdeal.nD Cert.MomentumIdeal.τ).loc Cert.MomentumIdeal.main_arg0)
      ∧ m' ((c.tc : Thread Cert.MomentumReferenceIdeal.nD Cert.MomentumReferenceIdeal.τ).loc Cert.MomentumReferenceIdeal.main_arg1) = m ((c.tc : Thread Cert.MomentumIdeal.nD Cert.MomentumIdeal.τ).loc Cert.MomentumIdeal.main_arg1)
      ∧ m' ((c.tc : Thread Cert.MomentumReferenceIdeal.nD Cert.MomentumReferenceIdeal.τ).loc Cert.MomentumReferenceIdeal.main_arg2) = m ((c.tc : Thread Cert.MomentumIdeal.nD Cert.MomentumIdeal.τ).loc Cert.MomentumIdeal.main_arg2)
      ∧ m' ((c.tc : Thread Cert.MomentumReferenceIdeal.nD Cert.MomentumReferenceIdeal.τ).loc Cert.MomentumReferenceIdeal.main_arg3) = m ((c.tc : Thread Cert.MomentumIdeal.nD Cert.MomentumIdeal.τ).loc Cert.MomentumIdeal.main_arg3)) →
    ∃ (v0 : (c : Dev Cert.MomentumIdeal.nD) → Buf (Elt Ideal) ((c.tc : Thread Cert.MomentumIdeal.nD Cert.MomentumIdeal.τ).loc Cert.MomentumIdeal.main_v0_0)) (v1 : (c : Dev Cert.MomentumIdeal.nD) → Buf (Elt Ideal) ((c.tc : Thread Cert.MomentumIdeal.nD Cert.MomentumIdeal.τ).loc Cert.MomentumIdeal.main_v0_1)) (v2 : (c : Dev Cert.MomentumIdeal.nD) → Buf (Elt Ideal) ((c.tc : Thread Cert.MomentumIdeal.nD Cert.MomentumIdeal.τ).loc Cert.MomentumIdeal.main_v0_2)) (v3 : (c : Dev Cert.MomentumIdeal.nD) → Buf (Elt Ideal) ((c.tc : Thread Cert.MomentumIdeal.nD Cert.MomentumIdeal.τ).loc Cert.MomentumIdeal.main_v0_3)),
      θ_run (Cert.MomentumIdeal.defs (F := Ideal)) (onTc (τ := Cert.MomentumIdeal.τ) (Cert.MomentumIdeal.main (F := Ideal))) ⟨m, fun _ => 0, g⟩ (fun r => ∀ c : Dev Cert.MomentumIdeal.nD,
          r.2.mem ((c.tc : Thread Cert.MomentumIdeal.nD Cert.MomentumIdeal.τ).loc Cert.MomentumIdeal.main_v0_0) = v0 c
          ∧ r.2.mem ((c.tc : Thread Cert.MomentumIdeal.nD Cert.MomentumIdeal.τ).loc Cert.MomentumIdeal.main_v0_1) = v1 c
          ∧ r.2.mem ((c.tc : Thread Cert.MomentumIdeal.nD Cert.MomentumIdeal.τ).loc Cert.MomentumIdeal.main_v0_2) = v2 c
          ∧ r.2.mem ((c.tc : Thread Cert.MomentumIdeal.nD Cert.MomentumIdeal.τ).loc Cert.MomentumIdeal.main_v0_3) = v3 c
          ∧ r.2.mem ((c.tc : Thread Cert.MomentumIdeal.nD Cert.MomentumIdeal.τ).loc Cert.MomentumIdeal.main_arg0) = m ((c.tc : Thread Cert.MomentumIdeal.nD Cert.MomentumIdeal.τ).loc Cert.MomentumIdeal.main_arg0)
          ∧ r.2.mem ((c.tc : Thread Cert.MomentumIdeal.nD Cert.MomentumIdeal.τ).loc Cert.MomentumIdeal.main_arg1) = m ((c.tc : Thread Cert.MomentumIdeal.nD Cert.MomentumIdeal.τ).loc Cert.MomentumIdeal.main_arg1)
          ∧ r.2.mem ((c.tc : Thread Cert.MomentumIdeal.nD Cert.MomentumIdeal.τ).loc Cert.MomentumIdeal.main_arg2) = m ((c.tc : Thread Cert.MomentumIdeal.nD Cert.MomentumIdeal.τ).loc Cert.MomentumIdeal.main_arg2)
          ∧ r.2.mem ((c.tc : Thread Cert.MomentumIdeal.nD Cert.MomentumIdeal.τ).loc Cert.MomentumIdeal.main_arg3) = m ((c.tc : Thread Cert.MomentumIdeal.nD Cert.MomentumIdeal.τ).loc Cert.MomentumIdeal.main_arg3))
      ∧ θ_run (Cert.MomentumReferenceIdeal.defs (F := Ideal)) (onTc (τ := Cert.MomentumReferenceIdeal.τ) (Cert.MomentumReferenceIdeal.main (F := Ideal))) ⟨m', fun _ => 0, g'⟩ (fun r => ∀ c : Dev Cert.MomentumReferenceIdeal.nD,
          r.2.mem ((c.tc : Thread Cert.MomentumReferenceIdeal.nD Cert.MomentumReferenceIdeal.τ).loc Cert.MomentumReferenceIdeal.main_v30) = v0 c
          ∧ r.2.mem ((c.tc : Thread Cert.MomentumReferenceIdeal.nD Cert.MomentumReferenceIdeal.τ).loc Cert.MomentumReferenceIdeal.main_v33) = v1 c
          ∧ r.2.mem ((c.tc : Thread Cert.MomentumReferenceIdeal.nD Cert.MomentumReferenceIdeal.τ).loc Cert.MomentumReferenceIdeal.main_v28) = v2 c
          ∧ r.2.mem ((c.tc : Thread Cert.MomentumReferenceIdeal.nD Cert.MomentumReferenceIdeal.τ).loc Cert.MomentumReferenceIdeal.main_v20) = v3 c
          ∧ r.2.mem ((c.tc : Thread Cert.MomentumReferenceIdeal.nD Cert.MomentumReferenceIdeal.τ).loc Cert.MomentumReferenceIdeal.main_arg0) = m' ((c.tc : Thread Cert.MomentumReferenceIdeal.nD Cert.MomentumReferenceIdeal.τ).loc Cert.MomentumReferenceIdeal.main_arg0)
          ∧ r.2.mem ((c.tc : Thread Cert.MomentumReferenceIdeal.nD Cert.MomentumReferenceIdeal.τ).loc Cert.MomentumReferenceIdeal.main_arg1) = m' ((c.tc : Thread Cert.MomentumReferenceIdeal.nD Cert.MomentumReferenceIdeal.τ).loc Cert.MomentumReferenceIdeal.main_arg1)
          ∧ r.2.mem ((c.tc : Thread Cert.MomentumReferenceIdeal.nD Cert.MomentumReferenceIdeal.τ).loc Cert.MomentumReferenceIdeal.main_arg2) = m' ((c.tc : Thread Cert.MomentumReferenceIdeal.nD Cert.MomentumReferenceIdeal.τ).loc Cert.MomentumReferenceIdeal.main_arg2)
          ∧ r.2.mem ((c.tc : Thread Cert.MomentumReferenceIdeal.nD Cert.MomentumReferenceIdeal.τ).loc Cert.MomentumReferenceIdeal.main_arg3) = m' ((c.tc : Thread Cert.MomentumReferenceIdeal.nD Cert.MomentumReferenceIdeal.τ).loc Cert.MomentumReferenceIdeal.main_arg3))

def Claim : Prop :=
  ∃ (hKernel : Cert.Kernel.Facts) (hKernelIdeal : Cert.KernelIdeal.Facts) (hReferenceIdeal : Cert.ReferenceIdeal.Facts) (hMomentum : Cert.Momentum.Facts) (hMomentumIdeal : Cert.MomentumIdeal.Facts) (hMomentumReferenceIdeal : Cert.MomentumReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Momentum (hMomentum := hMomentum)
    ∧ quiescent_MomentumIdeal (hMomentumIdeal := hMomentumIdeal)
    ∧ quiescent_MomentumReferenceIdeal (hMomentumReferenceIdeal := hMomentumReferenceIdeal)
    ∧ preserves_Kernel_KernelIdeal
    ∧ algebraic_KernelIdeal_ReferenceIdeal (hKernelIdeal := hKernelIdeal) (hReferenceIdeal := hReferenceIdeal)
    ∧ preserves_Momentum_MomentumIdeal
    ∧ algebraic_MomentumIdeal_MomentumReferenceIdeal (hMomentumIdeal := hMomentumIdeal) (hMomentumReferenceIdeal := hMomentumReferenceIdeal)
-- ==== Kernel.lean ====
abbrev S9x1536x2304 : Shape := ⟨3, ![9, 1536, 2304]⟩
abbrev S9x1536x18 : Shape := ⟨3, ![9, 1536, 18]⟩
abbrev S9x1536x1536 : Shape := ⟨3, ![9, 1536, 1536]⟩
abbrev S9x2304x2304 : Shape := ⟨3, ![9, 2304, 2304]⟩
abbrev S9x1536x768 : Shape := ⟨3, ![9, 1536, 768]⟩
abbrev S9x24x24 : Shape := ⟨3, ![9, 24, 24]⟩
abbrev S9x2304x1152 : Shape := ⟨3, ![9, 2304, 1152]⟩
abbrev S9x36x36 : Shape := ⟨3, ![9, 36, 36]⟩
abbrev S9 : Shape := ⟨1, ![9]⟩
abbrev S9x1 : Shape := ⟨2, ![9, 1]⟩
abbrev S9x5 : Shape := ⟨2, ![9, 5]⟩
abbrev S9x24x24x64 : Shape := ⟨4, ![9, 24, 24, 64]⟩
abbrev S9x24x1536 : Shape := ⟨3, ![9, 24, 1536]⟩
abbrev S9x3x8x1536 : Shape := ⟨4, ![9, 3, 8, 1536]⟩
abbrev S1x256x256 : Shape := ⟨3, ![1, 256, 256]⟩
abbrev S1x1x8x256 : Shape := ⟨4, ![1, 1, 8, 256]⟩
abbrev S1x512x256 : Shape := ⟨3, ![1, 512, 256]⟩
abbrev S256x256 : Shape := ⟨2, ![256, 256]⟩
abbrev S8x256 : Shape := ⟨2, ![8, 256]⟩
abbrev S1x256 : Shape := ⟨2, ![1, 256]⟩
abbrev S32x256 : Shape := ⟨2, ![32, 256]⟩
abbrev S512x256 : Shape := ⟨2, ![512, 256]⟩
abbrev S9x36x36x64 : Shape := ⟨4, ![9, 36, 36, 64]⟩
abbrev S9x36x2304 : Shape := ⟨3, ![9, 36, 2304]⟩
abbrev S9x9x4x2304 : Shape := ⟨4, ![9, 9, 4, 2304]⟩
abbrev S1x256x128 : Shape := ⟨3, ![1, 256, 128]⟩
abbrev S1x1x4x256 : Shape := ⟨4, ![1, 1, 4, 256]⟩
abbrev S256x128 : Shape := ⟨2, ![256, 128]⟩
abbrev S128x256 : Shape := ⟨2, ![128, 256]⟩
abbrev S4x256 : Shape := ⟨2, ![4, 256]⟩
abbrev S1x2304x2304 : Shape := ⟨3, ![1, 2304, 2304]⟩
abbrev S1x256x2304 : Shape := ⟨3, ![1, 256, 2304]⟩
abbrev S1x256x18 : Shape := ⟨3, ![1, 256, 18]⟩
abbrev S1x1 : Shape := ⟨2, ![1, 1]⟩
abbrev S256x2304 : Shape := ⟨2, ![256, 2304]⟩
abbrev S256x18 : Shape := ⟨2, ![256, 18]⟩
abbrev S256x1 : Shape := ⟨2, ![256, 1]⟩
abbrev S256 : Shape := ⟨1, ![256]⟩
abbrev S1x1536x256 : Shape := ⟨3, ![1, 1536, 256]⟩
abbrev S1x1536x2304 : Shape := ⟨3, ![1, 1536, 2304]⟩
abbrev S1536x256 : Shape := ⟨2, ![1536, 256]⟩
abbrev S1536x2304 : Shape := ⟨2, ![1536, 2304]⟩
abbrev S2304x2304 : Shape := ⟨2, ![2304, 2304]⟩
abbrev S1x1536x1536 : Shape := ⟨3, ![1, 1536, 1536]⟩
abbrev S1x512x1536 : Shape := ⟨3, ![1, 512, 1536]⟩
abbrev S1x512x2304 : Shape := ⟨3, ![1, 512, 2304]⟩
abbrev S512x2304 : Shape := ⟨2, ![512, 2304]⟩
abbrev S512x1536 : Shape := ⟨2, ![512, 1536]⟩
abbrev S1536x1536 : Shape := ⟨2, ![1536, 1536]⟩

abbrev nBuf : Space → Nat
  | .hbm => 42
  | .vmem => 62
  | .smem => 2
  | _ => 0

abbrev bufTy : (tb : Table) → Fin (tcTables nBuf tb) → BufTy
  | .hbm, ⟨0, _⟩ => ⟨S9x1536x2304, .f32⟩
  | .hbm, ⟨1, _⟩ => ⟨S9x1536x2304, .bf16⟩
  | .hbm, ⟨2, _⟩ => ⟨S9x1536x2304, .bf16⟩
  | .hbm, ⟨3, _⟩ => ⟨S9x1536x2304, .bf16⟩
  | .hbm, ⟨4, _⟩ => ⟨S9x1536x2304, .i8⟩
  | .hbm, ⟨5, _⟩ => ⟨S9x1536x18, .f32⟩
  | .hbm, ⟨6, _⟩ => ⟨S9x1536x1536, .f32⟩
  | .hbm, ⟨7, _⟩ => ⟨S9x2304x2304, .f32⟩
  | .hbm, ⟨8, _⟩ => ⟨S9x1536x768, .i8⟩
  | .hbm, ⟨9, _⟩ => ⟨S9x24x24, .f32⟩
  | .hbm, ⟨10, _⟩ => ⟨S9x2304x1152, .i8⟩
  | .hbm, ⟨11, _⟩ => ⟨S9x36x36, .f32⟩
  | .hbm, ⟨12, _⟩ => ⟨S9, .f32⟩
  | .hbm, ⟨13, _⟩ => ⟨S9, .f32⟩
  | .hbm, ⟨14, _⟩ => ⟨S9, .f32⟩
  | .hbm, ⟨15, _⟩ => ⟨S9, .f32⟩
  | .hbm, ⟨16, _⟩ => ⟨S9, .f32⟩
  | .hbm, ⟨17, _⟩ => ⟨S9x1, .f32⟩
  | .hbm, ⟨18, _⟩ => ⟨S9x1, .f32⟩
  | .hbm, ⟨19, _⟩ => ⟨S9x1, .f32⟩
  | .hbm, ⟨20, _⟩ => ⟨S9x1, .f32⟩
  | .hbm, ⟨21, _⟩ => ⟨S9x1, .f32⟩
  | .hbm, ⟨22, _⟩ => ⟨S9x5, .f32⟩
  | .hbm, ⟨23, _⟩ => ⟨S9x24x24, .f32⟩
  | .hbm, ⟨24, _⟩ => ⟨S9x24x24x64, .f32⟩
  | .hbm, ⟨25, _⟩ => ⟨S9x24x1536, .f32⟩
  | .hbm, ⟨26, _⟩ => ⟨S9x3x8x1536, .f32⟩
  | .hbm, ⟨27, _⟩ => ⟨S9x1536x1536, .bf16⟩
  | .hbm, ⟨28, _⟩ => ⟨S9x36x36, .f32⟩
  | .hbm, ⟨29, _⟩ => ⟨S9x36x36x64, .f32⟩
  | .hbm, ⟨30, _⟩ => ⟨S9x36x2304, .f32⟩
  | .hbm, ⟨31, _⟩ => ⟨S9x9x4x2304, .f32⟩
  | .hbm, ⟨32, _⟩ => ⟨S9x2304x2304, .bf16⟩
  | .hbm, ⟨33, _⟩ => ⟨S9x1536x2304, .bf16⟩
  | .hbm, ⟨34, _⟩ => ⟨S9x1536x2304, .i8⟩
  | .hbm, ⟨35, _⟩ => ⟨S9x1536x18, .f32⟩
  | .hbm, ⟨36, _⟩ => ⟨S9x1536x2304, .f32⟩
  | .hbm, ⟨37, _⟩ => ⟨S9x1536x2304, .f32⟩
  | .hbm, ⟨38, _⟩ => ⟨S9x1536x1536, .f32⟩
  | .hbm, ⟨39, _⟩ => ⟨S9x1536x1536, .bf16⟩
  | .hbm, ⟨40, _⟩ => ⟨S9x2304x2304, .f32⟩
  | .hbm, ⟨41, _⟩ => ⟨S9x2304x2304, .bf16⟩
  | .local _ .vmem, ⟨0, _⟩ => ⟨S1x256x256, .i8⟩
  | .local _ .vmem, ⟨1, _⟩ => ⟨S1x256x256, .i8⟩
  | .local _ .vmem, ⟨2, _⟩ => ⟨S1x1x8x256, .f32⟩
  | .local _ .vmem, ⟨3, _⟩ => ⟨S1x1x8x256, .f32⟩
  | .local _ .vmem, ⟨4, _⟩ => ⟨S1x512x256, .bf16⟩
  | .local _ .vmem, ⟨5, _⟩ => ⟨S1x512x256, .bf16⟩
  | .local _ .vmem, ⟨6, _⟩ => ⟨S1x256x128, .i8⟩
  | .local _ .vmem, ⟨7, _⟩ => ⟨S1x256x128, .i8⟩
  | .local _ .vmem, ⟨8, _⟩ => ⟨S1x1x4x256, .f32⟩
  | .local _ .vmem, ⟨9, _⟩ => ⟨S1x1x4x256, .f32⟩
  | .local _ .vmem, ⟨10, _⟩ => ⟨S1x256x256, .bf16⟩
  | .local _ .vmem, ⟨11, _⟩ => ⟨S1x256x256, .bf16⟩
  | .local _ .vmem, ⟨12, _⟩ => ⟨S1x2304x2304, .bf16⟩
  | .local _ .vmem, ⟨13, _⟩ => ⟨S1x2304x2304, .bf16⟩
  | .local _ .vmem, ⟨14, _⟩ => ⟨S1x256x2304, .bf16⟩
  | .local _ .vmem, ⟨15, _⟩ => ⟨S1x256x2304, .bf16⟩
  | .local _ .vmem, ⟨16, _⟩ => ⟨S1x256x2304, .bf16⟩
  | .local _ .vmem, ⟨17, _⟩ => ⟨S1x256x2304, .bf16⟩
  | .local _ .vmem, ⟨18, _⟩ => ⟨S1x256x2304, .i8⟩
  | .local _ .vmem, ⟨19, _⟩ => ⟨S1x256x2304, .i8⟩
  | .local _ .vmem, ⟨20, _⟩ => ⟨S1x256x18, .f32⟩
  | .local _ .vmem, ⟨21, _⟩ => ⟨S1x256x18, .f32⟩
  | .local _ .vmem, ⟨22, _⟩ => ⟨S1x256x2304, .bf16⟩
  | .local _ .vmem, ⟨23, _⟩ => ⟨S1x256x2304, .bf16⟩
  | .local _ .vmem, ⟨24, _⟩ => ⟨S1x256x2304, .i8⟩
  | .local _ .vmem, ⟨25, _⟩ => ⟨S1x256x2304, .i8⟩
  | .local _ .vmem, ⟨26, _⟩ => ⟨S1x256x18, .f32⟩
  | .local _ .vmem, ⟨27, _⟩ => ⟨S1x256x18, .f32⟩
  | .local _ .vmem, ⟨28, _⟩ => ⟨S1x1536x256, .bf16⟩
  | .local _ .vmem, ⟨29, _⟩ => ⟨S1x1536x256, .bf16⟩
  | .local _ .vmem, ⟨30, _⟩ => ⟨S1x1536x2304, .bf16⟩
  | .local _ .vmem, ⟨31, _⟩ => ⟨S1x1536x2304, .bf16⟩
  | .local _ .vmem, ⟨32, _⟩ => ⟨S1x2304x2304, .bf16⟩
  | .local _ .vmem, ⟨33, _⟩ => ⟨S1x2304x2304, .bf16⟩
  | .local _ .vmem, ⟨34, _⟩ => ⟨S1x256x2304, .f32⟩
  | .local _ .vmem, ⟨35, _⟩ => ⟨S1x256x2304, .f32⟩
  | .local _ .vmem, ⟨36, _⟩ => ⟨S1x256x2304, .f32⟩
  | .local _ .vmem, ⟨37, _⟩ => ⟨S1x256x2304, .f32⟩
  | .local _ .vmem, ⟨38, _⟩ => ⟨S1x256x2304, .f32⟩
  | .local _ .vmem, ⟨39, _⟩ => ⟨S1x256x2304, .f32⟩
  | .local _ .vmem, ⟨40, _⟩ => ⟨S1x1536x2304, .bf16⟩
  | .local _ .vmem, ⟨41, _⟩ => ⟨S1x1536x2304, .bf16⟩
  | .local _ .vmem, ⟨42, _⟩ => ⟨S1x1536x1536, .bf16⟩
  | .local _ .vmem, ⟨43, _⟩ => ⟨S1x1536x1536, .bf16⟩
  | .local _ .vmem, ⟨44, _⟩ => ⟨S1x512x1536, .f32⟩
  | .local _ .vmem, ⟨45, _⟩ => ⟨S1x512x1536, .f32⟩
  | .local _ .vmem, ⟨46, _⟩ => ⟨S1x512x1536, .f32⟩
  | .local _ .vmem, ⟨47, _⟩ => ⟨S1x512x1536, .f32⟩
  | .local _ .vmem, ⟨48, _⟩ => ⟨S1x512x1536, .bf16⟩
  | .local _ .vmem, ⟨49, _⟩ => ⟨S1x512x1536, .bf16⟩
  | .local _ .vmem, ⟨50, _⟩ => ⟨S1x1536x256, .bf16⟩
  | .local _ .vmem, ⟨51, _⟩ => ⟨S1x1536x256, .bf16⟩
  | .local _ .vmem, ⟨52, _⟩ => ⟨S1x1536x2304, .bf16⟩
  | .local _ .vmem, ⟨53, _⟩ => ⟨S1x1536x2304, .bf16⟩
  | .local _ .vmem, ⟨54, _⟩ => ⟨S1x2304x2304, .bf16⟩
  | .local _ .vmem, ⟨55, _⟩ => ⟨S1x2304x2304, .bf16⟩
  | .local _ .vmem, ⟨56, _⟩ => ⟨S1x256x2304, .f32⟩
  | .local _ .vmem, ⟨57, _⟩ => ⟨S1x256x2304, .f32⟩
  | .local _ .vmem, ⟨58, _⟩ => ⟨S1x256x2304, .f32⟩
  | .local _ .vmem, ⟨59, _⟩ => ⟨S1x256x2304, .f32⟩
  | .local _ .vmem, ⟨60, _⟩ => ⟨S1x256x2304, .bf16⟩
  | .local _ .vmem, ⟨61, _⟩ => ⟨S1x256x2304, .bf16⟩
  | .local _ .smem, ⟨0, _⟩ => ⟨S9x5, .f32⟩
  | .local _ .smem, ⟨1, _⟩ => ⟨S9x5, .f32⟩
  | _, _ => ⟨S9x1536x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v17_0 : Ref sig .tc := ⟨.hbm, 36, rfl⟩
abbrev main_v17_1 : Ref sig .tc := ⟨.hbm, 37, rfl⟩
abbrev main_v18_0 : Ref sig .tc := ⟨.hbm, 38, rfl⟩
abbrev main_v18_1 : Ref sig .tc := ⟨.hbm, 39, rfl⟩
abbrev main_v19_0 : Ref sig .tc := ⟨.hbm, 40, rfl⟩
abbrev main_v19_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc5_stg5_0 : Ref sig .tc := ⟨.vmem, 60, rfl⟩
abbrev cc5_stg5_1 : Ref sig .tc := ⟨.vmem, 61, rfl⟩
abbrev cc2_stg0_0 : Ref sig .tc := ⟨.smem, 0, rfl⟩
abbrev cc3_stg0_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem3_1 : DmaSem sig := 59
abbrev cc5_sem4_0 : DmaSem sig := 60
abbrev cc5_sem4_1 : DmaSem sig := 61
abbrev cc5_sem5_0 : DmaSem sig := 62
abbrev cc5_sem5_1 : DmaSem sig := 63

abbrev nD : Nat := 1
abbrev τ : Topo := Topo.v7x

variable {F : FTy → Type} [BitOps F]

abbrev grid0 : Pipeline.Grid := ⟨3, ![9, 6, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![9, 9, 9], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x4x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨2, ![9, 6], ![false, false]⟩

def k2_off1 (i : grid2.Coords) : Fin 2 → Nat :=
  let arg0 : BitVec 32 := BitVec.ofNat 32 (i 0).val
  let v0 : Index := Scalar.indexCast arg0
  let c0 : Index := 0#32
  ![v0.toNat, 0]
def k2_off2 (i : grid2.Coords) : Fin 2 → Nat :=
  let arg0 : BitVec 32 := BitVec.ofNat 32 (i 0).val
  let v2 : Index := Scalar.indexCast arg0
  let c1 : Index := 1#32
  ![v2.toNat, 1]
def k2_off3 (i : grid2.Coords) : Fin 2 → Nat :=
  let arg0 : BitVec 32 := BitVec.ofNat 32 (i 0).val
  let v4 : Index := Scalar.indexCast arg0
  let c2 : Index := 2#32
  ![v4.toNat, 2]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .smem S9x5 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x2304x2304 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x2304 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x2304 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x2304 .i8 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x256x18 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x2304 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256x2304 .i8 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x256x18 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![9, 6], ![false, false]⟩

def k3_off1 (i : grid3.Coords) : Fin 2 → Nat :=
  let arg0 : BitVec 32 := BitVec.ofNat 32 (i 0).val
  let v0 : Index := Scalar.indexCast arg0
  let c3 : Index := 3#32
  ![v0.toNat, 3]
def k3_off2 (i : grid3.Coords) : Fin 2 → Nat :=
  let arg0 : BitVec 32 := BitVec.ofNat 32 (i 0).val
  let v2 : Index := Scalar.indexCast arg0
  let c4 : Index := 4#32
  ![v2.toNat, 4]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .smem S9x5 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1x1536x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1536x2304 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x2304x2304 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x256x2304 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x256x2304 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x256x2304 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![9, 3], ![false, false]⟩

def k4_mult1 (i : grid4.Coords) : BitVec 32 :=
  let arg1 : BitVec 32 := BitVec.ofNat 32 (i 1).val
  let c512_i32 : BitVec 32 := 512#32
  let v0 : BitVec 32 := Scalar.muli arg1 c512_i32
  v0
def k4_off1 (i : grid4.Coords) : Fin 3 → Nat :=
  let c0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0_0 : Index := 0#32
  ![0, v2.toNat, 0]
def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x1536x2304 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x1536x1536 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x512x1536 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x512x1536 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x512x1536 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![9, 9], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x1536x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1536x2304 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x2304x2304 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x256x2304 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1x256x2304 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1x256x2304 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]
-- ==== KernelIdeal.lean ====
variable {F : FTy → Type} [FloatOps F]
-- ==== ReferenceIdeal.lean ====
abbrev S9x1536x2304 : Shape := ⟨3, ![9, 1536, 2304]⟩
abbrev S9x1536x18 : Shape := ⟨3, ![9, 1536, 18]⟩
abbrev S9x1536x1536 : Shape := ⟨3, ![9, 1536, 1536]⟩
abbrev S9x2304x2304 : Shape := ⟨3, ![9, 2304, 2304]⟩
abbrev S9x1536x768 : Shape := ⟨3, ![9, 1536, 768]⟩
abbrev S9x24x24 : Shape := ⟨3, ![9, 24, 24]⟩
abbrev S9x2304x1152 : Shape := ⟨3, ![9, 2304, 1152]⟩
abbrev S9x36x36 : Shape := ⟨3, ![9, 36, 36]⟩
abbrev S9 : Shape := ⟨1, ![9]⟩
abbrev S9x768x1536 : Shape := ⟨3, ![9, 768, 1536]⟩
abbrev S9x24x24x64 : Shape := ⟨4, ![9, 24, 24, 64]⟩
abbrev S9x24x1536 : Shape := ⟨3, ![9, 24, 1536]⟩
abbrev S_ : Shape := ⟨0, ![]⟩
abbrev S9x24x32x1536 : Shape := ⟨4, ![9, 24, 32, 1536]⟩
abbrev S9x24x1x1536 : Shape := ⟨4, ![9, 24, 1, 1536]⟩
abbrev S9x768x1x1536 : Shape := ⟨4, ![9, 768, 1, 1536]⟩
abbrev S9x768x2x1536 : Shape := ⟨4, ![9, 768, 2, 1536]⟩
abbrev S9x1152x2304 : Shape := ⟨3, ![9, 1152, 2304]⟩
abbrev S9x36x36x64 : Shape := ⟨4, ![9, 36, 36, 64]⟩
abbrev S9x36x2304 : Shape := ⟨3, ![9, 36, 2304]⟩
abbrev S9x36x32x2304 : Shape := ⟨4, ![9, 36, 32, 2304]⟩
abbrev S9x36x1x2304 : Shape := ⟨4, ![9, 36, 1, 2304]⟩
abbrev S9x1152x1x2304 : Shape := ⟨4, ![9, 1152, 1, 2304]⟩
abbrev S9x1152x2x2304 : Shape := ⟨4, ![9, 1152, 2, 2304]⟩
abbrev S9x1536x18x128 : Shape := ⟨4, ![9, 1536, 18, 128]⟩
abbrev S9x1536x18x1 : Shape := ⟨4, ![9, 1536, 18, 1]⟩
abbrev S9x1x1 : Shape := ⟨3, ![9, 1, 1]⟩

abbrev nBuf : Space → Nat
  | .hbm => 182
  | .vmem => 0
  | .smem => 0
  | _ => 0

abbrev hbmTy0_0 (i : Nat) : BufTy := match i % 128 with
  | 0 => ⟨S9x1536x2304, .f32⟩
  | 1 => ⟨S9x1536x2304, .bf16⟩
  | 2 => ⟨S9x1536x2304, .bf16⟩
  | 3 => ⟨S9x1536x2304, .bf16⟩
  | 4 => ⟨S9x1536x2304, .i8⟩
  | 5 => ⟨S9x1536x18, .f32⟩
  | 6 => ⟨S9x1536x1536, .f32⟩
  | 7 => ⟨S9x2304x2304, .f32⟩
  | 8 => ⟨S9x1536x768, .i8⟩
  | 9 => ⟨S9x24x24, .f32⟩
  | 10 => ⟨S9x2304x1152, .i8⟩
  | 11 => ⟨S9x36x36, .f32⟩
  | 12 => ⟨S9, .f32⟩
  | 13 => ⟨S9, .f32⟩
  | 14 => ⟨S9, .f32⟩
  | 15 => ⟨S9, .f32⟩
  | 16 => ⟨S9, .f32⟩
  | 17 => ⟨S9x768x1536, .i8⟩
  | 18 => ⟨S9x768x1536, .i32⟩
  | 19 => ⟨S9x24x24, .f32⟩
  | 20 => ⟨S9x24x24, .bf16⟩
  | 21 => ⟨S9x24x24x64, .bf16⟩
  | 22 => ⟨S9x24x1536, .bf16⟩
  | 23 => ⟨S_, .i32⟩
  | 24 => ⟨S9x768x1536, .i32⟩
  | 25 => ⟨S9x768x1536, .i32⟩
  | 26 => ⟨S_, .i32⟩
  | 27 => ⟨S9x768x1536, .i32⟩
  | 28 => ⟨S9x768x1536, .i32⟩
  | 29 => ⟨S_, .i32⟩
  | 30 => ⟨S9x768x1536, .i32⟩
  | 31 => ⟨S9x768x1536, .i32⟩
  | 32 => ⟨S9x768x1536, .bf16⟩
  | 33 => ⟨S9x24x32x1536, .bf16⟩
  | 34 => ⟨S9x24x1x1536, .bf16⟩
  | 35 => ⟨S9x24x32x1536, .bf16⟩
  | 36 => ⟨S9x24x32x1536, .bf16⟩
  | 37 => ⟨S9x768x1536, .bf16⟩
  | 38 => ⟨S_, .i32⟩
  | 39 => ⟨S9x768x1536, .i32⟩
  | 40 => ⟨S9x768x1536, .i32⟩
  | 41 => ⟨S_, .i32⟩
  | 42 => ⟨S9x768x1536, .i32⟩
  | 43 => ⟨S9x768x1536, .i32⟩
  | 44 => ⟨S_, .i32⟩
  | 45 => ⟨S9x768x1536, .i32⟩
  | 46 => ⟨S9x768x1536, .i32⟩
  | 47 => ⟨S9x768x1536, .bf16⟩
  | 48 => ⟨S9x24x32x1536, .bf16⟩
  | 49 => ⟨S9x24x1x1536, .bf16⟩
  | 50 => ⟨S9x24x32x1536, .bf16⟩
  | 51 => ⟨S9x24x32x1536, .bf16⟩
  | 52 => ⟨S9x768x1536, .bf16⟩
  | 53 => ⟨S9x768x1x1536, .bf16⟩
  | 54 => ⟨S9x768x1x1536, .bf16⟩
  | 55 => ⟨S9x768x2x1536, .bf16⟩
  | 56 => ⟨S9x1536x1536, .bf16⟩
  | 57 => ⟨S9x1152x2304, .i8⟩
  | 58 => ⟨S9x1152x2304, .i32⟩
  | 59 => ⟨S9x36x36, .f32⟩
  | 60 => ⟨S9x36x36, .bf16⟩
  | 61 => ⟨S9x36x36x64, .bf16⟩
  | 62 => ⟨S9x36x2304, .bf16⟩
  | 63 => ⟨S_, .i32⟩
  | 64 => ⟨S9x1152x2304, .i32⟩
  | 65 => ⟨S9x1152x2304, .i32⟩
  | 66 => ⟨S_, .i32⟩
  | 67 => ⟨S9x1152x2304, .i32⟩
  | 68 => ⟨S9x1152x2304, .i32⟩
  | 69 => ⟨S_, .i32⟩
  | 70 => ⟨S9x1152x2304, .i32⟩
  | 71 => ⟨S9x1152x2304, .i32⟩
  | 72 => ⟨S9x1152x2304, .bf16⟩
  | 73 => ⟨S9x36x32x2304, .bf16⟩
  | 74 => ⟨S9x36x1x2304, .bf16⟩
  | 75 => ⟨S9x36x32x2304, .bf16⟩
  | 76 => ⟨S9x36x32x2304, .bf16⟩
  | 77 => ⟨S9x1152x2304, .bf16⟩
  | 78 => ⟨S_, .i32⟩
  | 79 => ⟨S9x1152x2304, .i32⟩
  | 80 => ⟨S9x1152x2304, .i32⟩
  | 81 => ⟨S_, .i32⟩
  | 82 => ⟨S9x1152x2304, .i32⟩
  | 83 => ⟨S9x1152x2304, .i32⟩
  | 84 => ⟨S_, .i32⟩
  | 85 => ⟨S9x1152x2304, .i32⟩
  | 86 => ⟨S9x1152x2304, .i32⟩
  | 87 => ⟨S9x1152x2304, .bf16⟩
  | 88 => ⟨S9x36x32x2304, .bf16⟩
  | 89 => ⟨S9x36x1x2304, .bf16⟩
  | 90 => ⟨S9x36x32x2304, .bf16⟩
  | 91 => ⟨S9x36x32x2304, .bf16⟩
  | 92 => ⟨S9x1152x2304, .bf16⟩
  | 93 => ⟨S9x1152x1x2304, .bf16⟩
  | 94 => ⟨S9x1152x1x2304, .bf16⟩
  | 95 => ⟨S9x1152x2x2304, .bf16⟩
  | 96 => ⟨S9x2304x2304, .bf16⟩
  | 97 => ⟨S9x1536x2304, .f32⟩
  | 98 => ⟨S9x1536x2304, .f32⟩
  | 99 => ⟨S9x1536x2304, .i32⟩
  | 100 => ⟨S9x1536x2304, .f32⟩
  | 101 => ⟨S9x1536x18x128, .f32⟩
  | 102 => ⟨S9x1536x18x1, .f32⟩
  | 103 => ⟨S9x1536x18x128, .f32⟩
  | 104 => ⟨S9x1536x18x128, .f32⟩
  | 105 => ⟨S9x1536x2304, .f32⟩
  | 106 => ⟨S_, .f32⟩
  | 107 => ⟨S9x1536x2304, .f32⟩
  | 108 => ⟨S9x1536x2304, .f32⟩
  | 109 => ⟨S9x1536x2304, .f32⟩
  | 110 => ⟨S_, .f32⟩
  | 111 => ⟨S9x1536x2304, .f32⟩
  | 112 => ⟨S9x1536x2304, .f32⟩
  | 113 => ⟨S9x1536x2304, .f32⟩
  | 114 => ⟨S9x1536x2304, .f32⟩
  | 115 => ⟨S9x1x1, .f32⟩
  | 116 => ⟨S9x1536x2304, .f32⟩
  | 117 => ⟨S9x1536x2304, .f32⟩
  | 118 => ⟨S9x1x1, .f32⟩
  | 119 => ⟨S9x1536x2304, .f32⟩
  | 120 => ⟨S9x1536x2304, .f32⟩
  | 121 => ⟨S9x1536x2304, .f32⟩
  | 122 => ⟨S9x1x1, .f32⟩
  | 123 => ⟨S9x1536x2304, .f32⟩
  | 124 => ⟨S9x1536x2304, .f32⟩
  | 125 => ⟨S9x1536x2304, .f32⟩
  | 126 => ⟨S9x1536x2304, .bf16⟩
  | 127 => ⟨S9x1536x2304, .f32⟩
  | _ => ⟨S9x1536x2304, .f32⟩

abbrev hbmTy0_1 (i : Nat) : BufTy := match i % 128 with
  | 0 => ⟨S9x1536x18x128, .f32⟩
  | 1 => ⟨S_, .f32⟩
  | 2 => ⟨S9x1536x18, .f32⟩
  | 3 => ⟨S_, .f32⟩
  | 4 => ⟨S9x1536x18, .f32⟩
  | 5 => ⟨S9x1536x18, .f32⟩
  | 6 => ⟨S9x1536x18x1, .f32⟩
  | 7 => ⟨S9x1536x18x128, .f32⟩
  | 8 => ⟨S9x1536x18x128, .f32⟩
  | 9 => ⟨S9x1536x18x128, .f32⟩
  | 10 => ⟨S_, .i32⟩
  | 11 => ⟨S_, .i32⟩
  | 12 => ⟨S_, .f32⟩
  | 13 => ⟨S9x1536x18x128, .f32⟩
  | 14 => ⟨S9x1536x18x128, .f32⟩
  | 15 => ⟨S_, .f32⟩
  | 16 => ⟨S9x1536x18x128, .f32⟩
  | 17 => ⟨S9x1536x18x128, .f32⟩
  | 18 => ⟨S9x1536x18x128, .i32⟩
  | 19 => ⟨S9x1536x18x128, .i8⟩
  | 20 => ⟨S9x1536x2304, .i8⟩
  | 21 => ⟨S9x1536x2304, .f32⟩
  | 22 => ⟨S9x1536x2304, .bf16⟩
  | 23 => ⟨S9x1536x2304, .f32⟩
  | 24 => ⟨S9x1x1, .f32⟩
  | 25 => ⟨S9x1x1, .f32⟩
  | 26 => ⟨S9x1536x2304, .f32⟩
  | 27 => ⟨S9x1536x2304, .f32⟩
  | 28 => ⟨S9x1536x2304, .f32⟩
  | 29 => ⟨S9x1536x2304, .f32⟩
  | 30 => ⟨S9x1536x2304, .f32⟩
  | 31 => ⟨S9x1536x2304, .f32⟩
  | 32 => ⟨S_, .f32⟩
  | 33 => ⟨S9x1536x1536, .f32⟩
  | 34 => ⟨S9x1536x1536, .f32⟩
  | 35 => ⟨S9x1536x1536, .f32⟩
  | 36 => ⟨S_, .f32⟩
  | 37 => ⟨S9x1536x1536, .f32⟩
  | 38 => ⟨S9x1536x1536, .f32⟩
  | 39 => ⟨S9x1536x1536, .f32⟩
  | 40 => ⟨S_, .f32⟩
  | 41 => ⟨S9x2304x2304, .f32⟩
  | 42 => ⟨S9x2304x2304, .f32⟩
  | 43 => ⟨S9x2304x2304, .f32⟩
  | 44 => ⟨S_, .f32⟩
  | 45 => ⟨S9x2304x2304, .f32⟩
  | 46 => ⟨S9x2304x2304, .f32⟩
  | 47 => ⟨S9x2304x2304, .f32⟩
  | 48 => ⟨S9x1536x1536, .bf16⟩
  | 49 => ⟨S9x1536x1536, .f32⟩
  | 50 => ⟨S9x1536x1536, .bf16⟩
  | 51 => ⟨S9x2304x2304, .bf16⟩
  | 52 => ⟨S9x2304x2304, .f32⟩
  | 53 => ⟨S9x2304x2304, .bf16⟩
  | _ => ⟨S9x1536x2304, .f32⟩

abbrev hbmTy (i : Nat) : BufTy := match i / 128 with
  | 0 => hbmTy0_0 i
  | 1 => hbmTy0_1 i
  | _ => ⟨S9x1536x2304, .f32⟩

abbrev bufTy : (tb : Table) → Fin (tcTables nBuf tb) → BufTy
  | .hbm, ⟨i, _⟩ => hbmTy i
  | _, _ => ⟨S9x1536x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_8 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_11 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_12 : Ref sig .tc := ⟨.hbm, 129, rfl⟩
abbrev main_v98 : Ref sig .tc := ⟨.hbm, 130, rfl⟩
abbrev main_cst_13 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_c_14 : Ref sig .tc := ⟨.hbm, 138, rfl⟩
abbrev main_c_15 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_call1_v3 : Ref sig .tc := ⟨.hbm, 143, rfl⟩
abbrev main_call1_v4 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_16 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_17 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_18 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_19 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩

abbrev nD : Nat := 1
abbrev τ : Topo := Topo.v7x

variable {F : FTy → Type} [FloatOps F]
-- ==== Momentum.lean ====
abbrev S9x1536x1536 : Shape := ⟨3, ![9, 1536, 1536]⟩
abbrev S9x1536x2304 : Shape := ⟨3, ![9, 1536, 2304]⟩
abbrev S9x1536x18 : Shape := ⟨3, ![9, 1536, 18]⟩
abbrev S1x1536x1536 : Shape := ⟨3, ![1, 1536, 1536]⟩
abbrev S1x1536x768 : Shape := ⟨3, ![1, 1536, 768]⟩
abbrev S1x1536x18 : Shape := ⟨3, ![1, 1536, 18]⟩
abbrev S1536x768 : Shape := ⟨2, ![1536, 768]⟩
abbrev S1536x1536 : Shape := ⟨2, ![1536, 1536]⟩
abbrev S1x128x18 : Shape := ⟨3, ![1, 128, 18]⟩
abbrev S128x18 : Shape := ⟨2, ![128, 18]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 8
  | .vmem => 17
  | .smem => 0
  | _ => 0

abbrev bufTy : (tb : Table) → Fin (tcTables nBuf tb) → BufTy
  | .hbm, ⟨0, _⟩ => ⟨S9x1536x1536, .bf16⟩
  | .hbm, ⟨1, _⟩ => ⟨S9x1536x2304, .bf16⟩
  | .hbm, ⟨2, _⟩ => ⟨S9x1536x2304, .i8⟩
  | .hbm, ⟨3, _⟩ => ⟨S9x1536x18, .f32⟩
  | .hbm, ⟨4, _⟩ => ⟨S9x1536x2304, .bf16⟩
  | .hbm, ⟨5, _⟩ => ⟨S9x1536x2304, .bf16⟩
  | .hbm, ⟨6, _⟩ => ⟨S9x1536x2304, .i8⟩
  | .hbm, ⟨7, _⟩ => ⟨S9x1536x18, .f32⟩
  | .local _ .vmem, ⟨0, _⟩ => ⟨S1x1536x1536, .bf16⟩
  | .local _ .vmem, ⟨1, _⟩ => ⟨S1x1536x1536, .bf16⟩
  | .local _ .vmem, ⟨2, _⟩ => ⟨S1x1536x768, .bf16⟩
  | .local _ .vmem, ⟨3, _⟩ => ⟨S1x1536x768, .bf16⟩
  | .local _ .vmem, ⟨4, _⟩ => ⟨S1x1536x768, .i8⟩
  | .local _ .vmem, ⟨5, _⟩ => ⟨S1x1536x768, .i8⟩
  | .local _ .vmem, ⟨6, _⟩ => ⟨S1x1536x18, .f32⟩
  | .local _ .vmem, ⟨7, _⟩ => ⟨S1x1536x18, .f32⟩
  | .local _ .vmem, ⟨8, _⟩ => ⟨S1x1536x768, .bf16⟩
  | .local _ .vmem, ⟨9, _⟩ => ⟨S1x1536x768, .bf16⟩
  | .local _ .vmem, ⟨10, _⟩ => ⟨S1x1536x768, .bf16⟩
  | .local _ .vmem, ⟨11, _⟩ => ⟨S1x1536x768, .bf16⟩
  | .local _ .vmem, ⟨12, _⟩ => ⟨S1x1536x768, .i8⟩
  | .local _ .vmem, ⟨13, _⟩ => ⟨S1x1536x768, .i8⟩
  | .local _ .vmem, ⟨14, _⟩ => ⟨S1x1536x18, .f32⟩
  | .local _ .vmem, ⟨15, _⟩ => ⟨S1x1536x18, .f32⟩
  | .local _ .vmem, ⟨16, _⟩ => ⟨S1536x768, .bf16⟩
  | _, _ => ⟨S9x1536x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![9, 3], ![false, false]⟩

@[reducible] def k0_t1_loop : Scf.Loop 32 :=
  let c0_i32 : BitVec 32 := 0#32
  let c12_i32 : BitVec 32 := 12#32
  let v9 : BitVec 32 := Scalar.addi c0_i32 c12_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  v16
def k0_off1 (k0_t1 : Fin k0_t1_loop.trips) : Fin 3 → Nat :=
  let c0_15 : Index := 0#32
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v18 : Index := Scalar.indexCast v17
  let c0_16 : Index := 0#32
  ![0, v18.toNat, 0]
def k0_off2 (k0_t1 : Fin k0_t1_loop.trips) : Fin 3 → Nat :=
  let c0_22 : Index := 0#32
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v33 : Index := Scalar.indexCast v17
  let c0_23 : Index := 0#32
  ![0, v33.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v77 : Index := Scalar.indexCast v17
  let c0_34 : Index := 0#32
  ![v77.toNat, 0]
def k0_off4 (k0_t1 : Fin k0_t1_loop.trips) : Fin 3 → Nat :=
  let c0_39 : Index := 0#32
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v89 : Index := Scalar.indexCast v17
  let c128 : Index := 128#32
  ![0, v89.toNat, 128]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v133 : Index := Scalar.indexCast v17
  let c128_52 : Index := 128#32
  ![v133.toNat, 128]
def k0_off6 (k0_t1 : Fin k0_t1_loop.trips) : Fin 3 → Nat :=
  let c0_56 : Index := 0#32
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v145 : Index := Scalar.indexCast v17
  let c256 : Index := 256#32
  ![0, v145.toNat, 256]
def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v189 : Index := Scalar.indexCast v17
  let c256_69 : Index := 256#32
  ![v189.toNat, 256]
def k0_off8 (k0_t1 : Fin k0_t1_loop.trips) : Fin 3 → Nat :=
  let c0_73 : Index := 0#32
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v201 : Index := Scalar.indexCast v17
  let c384 : Index := 384#32
  ![0, v201.toNat, 384]
def k0_off9 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v245 : Index := Scalar.indexCast v17
  let c384_86 : Index := 384#32
  ![v245.toNat, 384]
def k0_off10 (k0_t1 : Fin k0_t1_loop.trips) : Fin 3 → Nat :=
  let c0_90 : Index := 0#32
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v257 : Index := Scalar.indexCast v17
  let c512 : Index := 512#32
  ![0, v257.toNat, 512]
def k0_off11 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v301 : Index := Scalar.indexCast v17
  let c512_103 : Index := 512#32
  ![v301.toNat, 512]
def k0_off12 (k0_t1 : Fin k0_t1_loop.trips) : Fin 3 → Nat :=
  let c0_107 : Index := 0#32
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v313 : Index := Scalar.indexCast v17
  let c640 : Index := 640#32
  ![0, v313.toNat, 640]
def k0_off13 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v16 : BitVec 32 := Scalar.muli arg11 c128_i32
  let v17 : BitVec 32 := v16
  let v357 : Index := Scalar.indexCast v17
  let c640_120 : Index := 640#32
  ![v357.toNat, 640]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x18 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1536x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1536x768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1536x18 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MomentumReferenceIdeal.lean ====
abbrev S9x1536x1536 : Shape := ⟨3, ![9, 1536, 1536]⟩
abbrev S9x1536x2304 : Shape := ⟨3, ![9, 1536, 2304]⟩
abbrev S9x1536x18 : Shape := ⟨3, ![9, 1536, 18]⟩
abbrev S9x1536x18x128 : Shape := ⟨4, ![9, 1536, 18, 128]⟩
abbrev S9x1536x18x1 : Shape := ⟨4, ![9, 1536, 18, 1]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S9x1536x1536, .bf16⟩
  | .hbm, ⟨1, _⟩ => ⟨S9x1536x2304, .bf16⟩
  | .hbm, ⟨2, _⟩ => ⟨S9x1536x2304, .i8⟩
  | .hbm, ⟨3, _⟩ => ⟨S9x1536x18, .f32⟩
  | .hbm, ⟨4, _⟩ => ⟨S9x1536x2304, .i32⟩
  | .hbm, ⟨5, _⟩ => ⟨S9x1536x2304, .f32⟩
  | .hbm, ⟨6, _⟩ => ⟨S9x1536x18x128, .f32⟩
  | .hbm, ⟨7, _⟩ => ⟨S9x1536x18x1, .f32⟩
  | .hbm, ⟨8, _⟩ => ⟨S9x1536x18x128, .f32⟩
  | .hbm, ⟨9, _⟩ => ⟨S9x1536x18x128, .f32⟩
  | .hbm, ⟨10, _⟩ => ⟨S9x1536x2304, .f32⟩
  | .hbm, ⟨11, _⟩ => ⟨S_, .f32⟩
  | .hbm, ⟨12, _⟩ => ⟨S9x1536x2304, .f32⟩
  | .hbm, ⟨13, _⟩ => ⟨S9x1536x2304, .f32⟩
  | .hbm, ⟨14, _⟩ => ⟨S9x1536x2304, .f32⟩
  | .hbm, ⟨15, _⟩ => ⟨S_, .f32⟩
  | .hbm, ⟨16, _⟩ => ⟨S9x1536x2304, .f32⟩
  | .hbm, ⟨17, _⟩ => ⟨S9x1536x2304, .f32⟩
  | .hbm, ⟨18, _⟩ => ⟨S9x1536x2304, .f32⟩
  | .hbm, ⟨19, _⟩ => ⟨S9x1536x18x128, .f32⟩
  | .hbm, ⟨20, _⟩ => ⟨S9x1536x18x128, .f32⟩
  | .hbm, ⟨21, _⟩ => ⟨S_, .f32⟩
  | .hbm, ⟨22, _⟩ => ⟨S9x1536x18, .f32⟩
  | .hbm, ⟨23, _⟩ => ⟨S_, .f32⟩
  | .hbm, ⟨24, _⟩ => ⟨S9x1536x18, .f32⟩
  | .hbm, ⟨25, _⟩ => ⟨S9x1536x18, .i1⟩
  | .hbm, ⟨26, _⟩ => ⟨S_, .f32⟩
  | .hbm, ⟨27, _⟩ => ⟨S9x1536x18, .f32⟩
  | .hbm, ⟨28, _⟩ => ⟨S9x1536x18, .f32⟩
  | .hbm, ⟨29, _⟩ => ⟨S_, .f32⟩
  | .hbm, ⟨30, _⟩ => ⟨S_, .f32⟩
  | .hbm, ⟨31, _⟩ => ⟨S9x1536x18, .f32⟩
  | .hbm, ⟨32, _⟩ => ⟨S9x1536x18, .f32⟩
  | .hbm, ⟨33, _⟩ => ⟨S9x1536x18x1, .f32⟩
  | .hbm, ⟨34, _⟩ => ⟨S9x1536x18x128, .f32⟩
  | .hbm, ⟨35, _⟩ => ⟨S9x1536x18x128, .f32⟩
  | .hbm, ⟨36, _⟩ => ⟨S9x1536x18x128, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S9x1536x18x128, .f32⟩
  | .hbm, ⟨41, _⟩ => ⟨S9x1536x18x128, .f32⟩
  | .hbm, ⟨42, _⟩ => ⟨S_, .f32⟩
  | .hbm, ⟨43, _⟩ => ⟨S9x1536x18x128, .f32⟩
  | .hbm, ⟨44, _⟩ => ⟨S9x1536x18x128, .f32⟩
  | .hbm, ⟨45, _⟩ => ⟨S9x1536x18x128, .i32⟩
  | .hbm, ⟨46, _⟩ => ⟨S9x1536x18x128, .i8⟩
  | .hbm, ⟨47, _⟩ => ⟨S9x1536x2304, .i8⟩
  | .hbm, ⟨48, _⟩ => ⟨S9x1536x2304, .f32⟩
  | .hbm, ⟨49, _⟩ => ⟨S9x1536x2304, .bf16⟩
  | .hbm, ⟨50, _⟩ => ⟨S9x1536x2304, .bf16⟩
  | .hbm, ⟨51, _⟩ => ⟨S9x1536x2304, .f32⟩
  | .hbm, ⟨52, _⟩ => ⟨S9x1536x2304, .bf16⟩
  | _, _ => ⟨S9x1536x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_c_5 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Proof.Spec.lean ====
/- The mathematics both programs are shown to compute, over the extended reals, with no tiling in it: the signed value of half
   a byte (`nib`), the transposed rotation basis a packed array and its block scales stand for (`basisT`), the two statistics
   (`leftNew`, `rightNew`) and the projection of one array on the rows of another (`proj`). -/
module

public import Idealize.ShloMosaic.Lib.ValueIdx
public import Idealize.ShloMosaic.PureOps.Ideal.Laws

@[expose] public section

noncomputable section

namespace Cert.Proof.Spec

open Idealize.ShloMosaic Idealize.ShloMosaic.ValueIdx

/-- A three-axis shape. -/
abbrev A3 (a b c : Nat) : Shape := ⟨3, ![a, b, c]⟩

/-- Half `p` of a byte (`0` the low one) as a signed four-bit integer, widened to 32 bits: shifted to the top of the word
    and back with its sign. -/
def nibW (p : Nat) (x : BitVec 8) : BitVec 32 :=
  IntOp.shrsi .vector (IntOp.shli .vector (x.setWidth 32) (if p = 0 then 28#32 else 24#32)) 28#32

/-- Its value. -/
def nib (p : Nat) (x : BitVec 8) : EReal := ((nibW p x).toInt : ℝ)

/-- The transposed basis: entry (column `i 1`, row `i 2`) is the signed half byte of column `i 1` times the scale of the
    64 by 64 block it lies in. -/
def basisT (d half nb : Nat) (hh : d = 2 * half) (hn : d = 64 * nb) (q : (A3 9 d half).Idx → BitVec 8)
    (s : (A3 9 nb nb).Idx → EReal) (i : (A3 9 d d).Idx) : EReal :=
  nib ((i 1).val % 2) (q (ix3 (i 0) (i 2) ⟨(i 1).val / 2, by have : (i 1).val < d := (i 1).isLt; omega⟩))
    * s (ix3 (i 0) ⟨(i 2).val / 64, by have : (i 2).val < d := (i 2).isLt; omega⟩
        ⟨(i 1).val / 64, by have : (i 1).val < d := (i 1).isLt; omega⟩)

/-- The two weights of the running average, as the programs state them. -/
abbrev c95 : EReal := Ideal.ofBits .f32 0x3F733333#32
abbrev c05 : EReal := Ideal.ofBits .f32 0x3D4CCCCD#32

/-- The left statistic: the old one averaged with `g gᵀ`. -/
def leftNew (m n : Nat) (g : (A3 9 m n).Idx → EReal) (l : (A3 9 m m).Idx → EReal) (i : (A3 9 m m).Idx) : EReal :=
  c95 * l i + c05 * ∑ k : Fin n, g (ix3 (i 0) (i 1) k) * g (ix3 (i 0) (i 2) k)

/-- The right statistic: the old one averaged with `gᵀ g`. -/
def rightNew (m n : Nat) (g : (A3 9 m n).Idx → EReal) (r : (A3 9 n n).Idx → EReal) (i : (A3 9 n n).Idx) : EReal :=
  c95 * r i + c05 * ∑ k : Fin m, g (ix3 (i 0) k (i 1)) * g (ix3 (i 0) k (i 2))

/-- The rows of `x` against the rows of `q`. -/
def proj (d : Nat) (x q : (A3 9 d d).Idx → EReal) (i : (A3 9 d d).Idx) : EReal :=
  ∑ k : Fin d, x (ix3 (i 0) (i 1) k) * q (ix3 (i 0) (i 2) k)

/-- The low half byte, by masking it and flipping its sign bit. -/
theorem nibW_low (x : BitVec 8) :
    IntOp.subi (IntOp.xori (IntOp.andi (x.setWidth 32) 15#32) 8#32) 8#32 = nibW 0 x := by
  have h : ∀ n : Fin 256, IntOp.subi (IntOp.xori (IntOp.andi ((BitVec.ofFin n : BitVec 8).setWidth 32) 15#32) 8#32) 8#32
      = nibW 0 (BitVec.ofFin n) := by decide +kernel
  exact h x.toFin

/-- The high half byte, by shifting it down and flipping its sign bit. -/
theorem nibW_high (x : BitVec 8) :
    IntOp.subi (IntOp.xori (IntOp.shrsi .host (x.setWidth 32) 4#32) 8#32) 8#32 = nibW 1 x := by
  have h : ∀ n : Fin 256, IntOp.subi (IntOp.xori (IntOp.shrsi .host ((BitVec.ofFin n : BitVec 8).setWidth 32) 4#32) 8#32) 8#32
      = nibW 1 (BitVec.ofFin n) := by decide +kernel
  exact h x.toFin

end Cert.Proof.Spec

end
-- ==== Proof.Dot.lean ====
/- A matrix product from a zero accumulator, read at an index as a sum over the contracted axis, in the three orientations the
   kernel uses: rows against rows (`dot_nt`), columns against columns (`dot_tn`) and rows against columns (`dot_nn`). -/
module

public import Idealize.ShloMosaic.Lib.ValueIdx
public import Idealize.ShloMosaic.PureOps.Ideal.Laws

@[expose] public section

noncomputable section

namespace Cert.Proof.Dot

open Idealize.ShloMosaic Idealize.ShloMosaic.ValueIdx

/-- A two-axis shape. -/
abbrev A2 (a b : Nat) : Shape := ⟨2, ![a, b]⟩

variable {M N K : Nat} {φ₁ φ₂ : FTy}

/-- Rows of the left against rows of the right. -/
theorem dot_nt (D : DotDims (A2 M K) (A2 N K) (A2 M N)) (wf) (hD : D = ⟨[1], [1], [0], [0], [], [], wf⟩)
    (x : FVec Ideal (A2 M K) φ₁) (y : FVec Ideal (A2 N K) φ₂) (j : (A2 M N).Idx) :
    matmul D none x y (constant (A2 M N) .f32 0x00000000#32) j = ∑ k : Fin K, x (ix2 (j 0) k) * y (ix2 (j 1) k) := by
  simp only [matmul]
  rw [Ideal.matmul_constant_zero_apply]
  have hr : D.contr.rank = 1 := by rw [hD]; rfl
  have hs : D.contr.size ⟨0, by omega⟩ = K := by subst hD; rfl
  refine (Fintype.sum_equiv (contrEquiv1 D K hr hs).symm _ _ fun k => ?_).symm
  have e := contrEquiv1_symm_val D K hr hs k
  congr 1
  · refine congrArg x ?_
    funext a; refine Fin.ext ?_
    match a with
    | ⟨0, _⟩ =>
      subst hD
      show _ = (DotDims.lhsIdx (sl := A2 M K) (sr := A2 N K) (so := A2 M N) _ j _ (0 : Fin 2)).val
      unfold DotDims.lhsIdx
      rw [dif_neg (show ¬(0 : Fin 2) ∈ ([] : List (Fin 2)) by decide), dif_pos (show (0 : Fin 2) ∈ ([0] : List (Fin 2)) by decide)]
      rfl
    | ⟨1, _⟩ => exact e.symm.trans (D.lhsIdx_val_of_single (cl := (1 : Fin 2)) (by rw [hD]) j _).symm
  · refine congrArg y ?_
    funext a; refine Fin.ext ?_
    match a with
    | ⟨0, _⟩ =>
      subst hD
      show _ = (DotDims.rhsIdx (sl := A2 M K) (sr := A2 N K) (so := A2 M N) _ j _ (0 : Fin 2)).val
      unfold DotDims.rhsIdx
      rw [dif_neg (show ¬(0 : Fin 2) ∈ ([] : List (Fin 2)) by decide), dif_pos (show (0 : Fin 2) ∈ ([0] : List (Fin 2)) by decide)]
      rfl
    | ⟨1, _⟩ => exact e.symm.trans (D.rhsIdx_val_of_single (cr := (1 : Fin 2)) (by rw [hD]) j _).symm

/-- Columns of the left against columns of the right. -/
theorem dot_tn (D : DotDims (A2 K M) (A2 K N) (A2 M N)) (wf) (hD : D = ⟨[0], [0], [1], [1], [], [], wf⟩)
    (x : FVec Ideal (A2 K M) φ₁) (y : FVec Ideal (A2 K N) φ₂) (j : (A2 M N).Idx) :
    matmul D none x y (constant (A2 M N) .f32 0x00000000#32) j = ∑ k : Fin K, x (ix2 k (j 0)) * y (ix2 k (j 1)) := by
  simp only [matmul]
  rw [Ideal.matmul_constant_zero_apply]
  have hr : D.contr.rank = 1 := by rw [hD]; rfl
  have hs : D.contr.size ⟨0, by omega⟩ = K := by subst hD; rfl
  refine (Fintype.sum_equiv (contrEquiv1 D K hr hs).symm _ _ fun k => ?_).symm
  have e := contrEquiv1_symm_val D K hr hs k
  congr 1
  · refine congrArg x ?_
    funext a; refine Fin.ext ?_
    match a with
    | ⟨1, _⟩ =>
      subst hD
      show _ = (DotDims.lhsIdx (sl := A2 K M) (sr := A2 K N) (so := A2 M N) _ j _ (1 : Fin 2)).val
      unfold DotDims.lhsIdx
      rw [dif_neg (show ¬(1 : Fin 2) ∈ ([] : List (Fin 2)) by decide), dif_pos (show (1 : Fin 2) ∈ ([1] : List (Fin 2)) by decide)]
      rfl
    | ⟨0, _⟩ => exact e.symm.trans (D.lhsIdx_val_of_single (cl := (0 : Fin 2)) (by rw [hD]) j _).symm
  · refine congrArg y ?_
    funext a; refine Fin.ext ?_
    match a with
    | ⟨1, _⟩ =>
      subst hD
      show _ = (DotDims.rhsIdx (sl := A2 K M) (sr := A2 K N) (so := A2 M N) _ j _ (1 : Fin 2)).val
      unfold DotDims.rhsIdx
      rw [dif_neg (show ¬(1 : Fin 2) ∈ ([] : List (Fin 2)) by decide), dif_pos (show (1 : Fin 2) ∈ ([1] : List (Fin 2)) by decide)]
      rfl
    | ⟨0, _⟩ => exact e.symm.trans (D.rhsIdx_val_of_single (cr := (0 : Fin 2)) (by rw [hD]) j _).symm

/-- Rows of the left against columns of the right. -/
theorem dot_nn (D : DotDims (A2 M K) (A2 K N) (A2 M N)) (wf) (hD : D = ⟨[1], [0], [0], [1], [], [], wf⟩)
    (x : FVec Ideal (A2 M K) φ₁) (y : FVec Ideal (A2 K N) φ₂) (j : (A2 M N).Idx) :
    matmul D none x y (constant (A2 M N) .f32 0x00000000#32) j = ∑ k : Fin K, x (ix2 (j 0) k) * y (ix2 k (j 1)) := by
  simp only [matmul]
  rw [Ideal.matmul_constant_zero_apply]
  have hr : D.contr.rank = 1 := by rw [hD]; rfl
  have hs : D.contr.size ⟨0, by omega⟩ = K := by subst hD; rfl
  refine (Fintype.sum_equiv (contrEquiv1 D K hr hs).symm _ _ fun k => ?_).symm
  have e := contrEquiv1_symm_val D K hr hs k
  congr 1
  · refine congrArg x ?_
    funext a; refine Fin.ext ?_
    match a with
    | ⟨0, _⟩ =>
      subst hD
      show _ = (DotDims.lhsIdx (sl := A2 M K) (sr := A2 K N) (so := A2 M N) _ j _ (0 : Fin 2)).val
      unfold DotDims.lhsIdx
      rw [dif_neg (show ¬(0 : Fin 2) ∈ ([] : List (Fin 2)) by decide), dif_pos (show (0 : Fin 2) ∈ ([0] : List (Fin 2)) by decide)]
      rfl
    | ⟨1, _⟩ => exact e.symm.trans (D.lhsIdx_val_of_single (cl := (1 : Fin 2)) (by rw [hD]) j _).symm
  · refine congrArg y ?_
    funext a; refine Fin.ext ?_
    match a with
    | ⟨1, _⟩ =>
      subst hD
      show _ = (DotDims.rhsIdx (sl := A2 M K) (sr := A2 K N) (so := A2 M N) _ j _ (1 : Fin 2)).val
      unfold DotDims.rhsIdx
      rw [dif_neg (show ¬(1 : Fin 2) ∈ ([] : List (Fin 2)) by decide), dif_pos (show (1 : Fin 2) ∈ ([1] : List (Fin 2)) by decide)]
      rfl
    | ⟨0, _⟩ => exact e.symm.trans (D.rhsIdx_val_of_single (cr := (0 : Fin 2)) (by rw [hD]) j _).symm

/-- A sum whose terms agree. -/
theorem sum_congr' {n : Nat} {f g : Fin n → EReal} (h : ∀ k, f k = g k) : ∑ k, f k = ∑ k, g k :=
  Finset.sum_congr rfl fun k _ => h k

end Cert.Proof.Dot

end
-- ==== Proof.Tile.lean ====
/- Two operations of the decoding kernels read at an index: rows put together from two half arrays alternately
   (`interleave_apply`), and one row of scales repeated down 32 rows (`piece_apply`). -/
module

public import Idealize.ShloMosaic.Lib.ValueIdx
public import Idealize.ShloMosaic.Lib.Pipeline.Value
public import proofs.«01_k».proof.Proof.Dot

@[expose] public section

noncomputable section

namespace Cert.Proof.Tile

open Idealize.ShloMosaic Idealize.ShloMosaic.ValueIdx Cert.Proof.Dot

/-- Row `i 0` of the interleaving: row `i 0 / 2` of the first array at an even row, of the second at an odd one. -/
theorem interleave_apply {α : Type} {n2 n w : Nat} (hn : n2 = 2 * n) (lo hi : (A2 n w).Idx → α)
    (h : (A2 n2 w).Bitcasts 16 (A2 n w) 32) (i : (A2 n2 w).Idx) :
    interleaveRows (A2 n2 w) lo hi h i
      = if (i 0).val % 2 = 0 then lo (ix2 ⟨(i 0).val / 2, by have : (i 0).val < n2 := (i 0).isLt; omega⟩ (i 1))
        else hi (ix2 ⟨(i 0).val / 2, by have : (i 0).val < n2 := (i 0).isLt; omega⟩ (i 1)) := by
  unfold interleaveRows
  have hj : (fun b : Fin (A2 n w).rank =>
      if hb : (b.cast h.1).val + 2 = (A2 n2 w).rank then
        (⟨(i (b.cast h.1)).val / 2, by
          have hs : (A2 n2 w).size (b.cast h.1) * 16 = (A2 n w).size b * 32 := by
            have hs := h.2.2 (b.cast h.1); rw [if_pos hb] at hs; exact hs
          have hi := (i (b.cast h.1)).isLt
          omega⟩ : Fin ((A2 n w).size b))
      else (i (b.cast h.1)).cast (by have hs := h.2.2 (b.cast h.1); rw [if_neg hb] at hs; exact hs))
      = ix2 ⟨(i 0).val / 2, by have : (i 0).val < n2 := (i 0).isLt; omega⟩ (i 1) := by
    funext b
    match b with
    | ⟨0, _⟩ => rfl
    | ⟨1, _⟩ => rfl
  show (if (A2 n2 w).row i % 2 = 0 then lo _ else hi _) = _
  rw [hj]
  rfl

/-- Row `k` of `v`, repeated down 32 rows. -/
theorem piece_apply {α : Type} {n w k : Nat} (hk : k < n) (hw : w ≠ 1) (v : (A2 n w).Idx → α)
    (h₁ : (A2 n w).Slices ![k, 0] (A2 1 w)) (h₂ : (A2 1 w).ShapeCasts (A2 1 w)) (h₃ : (A2 1 w).Broadcasts (A2 32 w))
    (i : (A2 32 w).Idx) :
    broadcastTo (A2 32 w) (shapeCast (A2 1 w) (extractStridedSlice (A2 1 w) ![k, 0] v h₁) h₂) h₃ i
      = v (ix2 ⟨k, hk⟩ (i 1)) := by
  rw [shapeCast_self]
  refine (broadcastTo_apply _ h₃ i (ix2 0 (i 1)) fun a => ?_).trans ?_
  · match a with
    | ⟨0, _⟩ => rfl
    | ⟨1, _⟩ => show (i 1).val = if w = 1 then 0 else (i 1).val; rw [if_neg hw]
  · refine extractStridedSlice_apply _ v h₁ _ _ fun a => ?_
    match a with
    | ⟨0, _⟩ => rfl
    | ⟨1, _⟩ => show (i 1).val = 0 + (i 1).val; omega

end Cert.Proof.Tile

end
-- ==== Proof.DecodeL.lean ====
/- The kernel that decodes the left basis, region 0: what one grid point stores (`pay1_apply`), which parts of the arrays a
   point's blocks are (`idx*`), and so what its result array holds after the run (`final2`), as a function of the packed
   array and the array of row scales it is given. -/
module

public import proofs.«01_k».proof.Proof.Gen.KernelIdeal.Frame
public import proofs.«01_k».proof.Proof.Spec
public import proofs.«01_k».proof.Proof.Tile
public import Idealize.ShloMosaic.Lib.Pipeline.ValueKit.Tiles

@[expose] public section

noncomputable section

namespace Cert.Proof.DecodeL

open Cert.KernelIdeal Cert.KernelIdeal.Gen Idealize.ShloMosaic Idealize.ShloMosaic.TcCoe Idealize.ShloMosaic.ValueIdx
  Idealize.ShloMosaic.Pipeline Idealize.SL.Sem Cert.Proof.Spec Cert.Proof.Dot Cert.Proof.Tile

/-! ## What one point stores -/

/-- The packed bytes, transposed. -/
theorem pay2_apply (x : Vec Ideal S1x256x256 .i8) (j : S256x256.Idx) :
    k0_pay2 (F := Ideal) x j = (x (ix3 0 (j 1) (j 0)) : BitVec 8).setWidth 32 := by
  unfold k0_pay2
  refine (transpose_apply _ _ _ j (ix2 (j 1) (j 0)) fun b => ?_).trans ?_
  · match b with
    | ⟨0, _⟩ => rfl
    | ⟨1, _⟩ => rfl
  · refine congrArg (BitVec.setWidth 32) ((shapeCast_dropUnit_apply ![256, 256] _ _ _).trans (congrArg x ?_))
    funext a; match a with | ⟨0, _⟩ => rfl | ⟨1, _⟩ => rfl | ⟨2, _⟩ => rfl

theorem slices : ∀ n : Fin 8, S8x256.Slices ![n.val, 0] S1x256 := by decide

/-- The scales, each row of them repeated down 32 rows. -/
theorem pay3_apply (x : Vec Ideal S1x1x8x256 .f32) (j : S256x256.Idx) :
    k0_pay3 (F := Ideal) x j = x (ix4 0 0 ⟨(j 0).val / 32, by have : (j 0).val < 256 := (j 0).isLt; omega⟩ (j 1)) := by
  unfold k0_pay3
  refine (concatenate_ofFn_apply (t := S256x256) (s₁ := S32x256) 0 (N := 8)
    (fun n => broadcastTo S32x256 (shapeCast S1x256 (extractStridedSlice S1x256 ![n.val, 0]
      (extf (F := Ideal) .f32 (truncf (F := Ideal) .bf16 (shapeCast S8x256 x shapeCasts_S1x1x8x256_S8x256) bitsLt_bf16_f32)
        bitsLt_bf16_f32) (slices n)) shapeCasts_S1x256_S1x256) broadcasts_S1x256_S32x256)
    concatenates_S32x256_S32x256_S32x256_S32x256_S32x256_S32x256_S32x256_S32x256_S256x256_d0 rfl 32 rfl j
    ⟨(j 0).val / 32, by have : (j 0).val < 256 := (j 0).isLt; omega⟩ rfl
    (ix2 ⟨(j 0).val % 32, by omega⟩ (j 1)) rfl fun b hb => ?_).trans ?_
  · match b with
    | ⟨0, _⟩ => exact absurd rfl hb
    | ⟨1, _⟩ => rfl
  · refine (piece_apply (n := 8) (w := 256) (by have : (j 0).val < 256 := (j 0).isLt; omega) (by decide) _ _ _ _ _).trans ?_
    refine shapeCast_apply x _ _ _ ?_
    rw [Shape.rowMajor_val_four, Shape.rowMajor_val_two]
    show ((0 * 1 + 0) * 8 + (j 0).val / 32) * 256 + (j 1).val = (j 0).val / 32 * 256 + (j 1).val
    omega

theorem pay4_apply (x : Vec Ideal S1x256x256 .i8) (s : Vec Ideal S1x1x8x256 .f32) (j : S256x256.Idx) :
    k0_pay4 (F := Ideal) x s j = nib 1 (x (ix3 0 (j 1) (j 0)))
      * s (ix4 0 0 ⟨(j 0).val / 32, by have : (j 0).val < 256 := (j 0).isLt; omega⟩ (j 1)) := by
  unfold k0_pay4
  rw [mulf_apply, pay3_apply]
  refine congrArg (· * _) ?_
  show (((IntOp.shrsi .vector (IntOp.shli .vector (k0_pay2 (F := Ideal) x j) 24#32) 28#32).toInt : ℝ) : EReal) = _
  rw [pay2_apply]
  rfl

theorem pay5_apply (x : Vec Ideal S1x256x256 .i8) (s : Vec Ideal S1x1x8x256 .f32) (j : S256x256.Idx) :
    k0_pay5 (F := Ideal) x s j = nib 0 (x (ix3 0 (j 1) (j 0)))
      * s (ix4 0 0 ⟨(j 0).val / 32, by have : (j 0).val < 256 := (j 0).isLt; omega⟩ (j 1)) := by
  unfold k0_pay5
  rw [truncf_apply, mulf_apply, pay3_apply]
  refine congrArg (· * _) ?_
  show (((IntOp.shrsi .vector (IntOp.shli .vector (k0_pay2 (F := Ideal) x j) 28#32) 28#32).toInt : ℝ) : EReal) = _
  rw [pay2_apply]
  rfl

theorem pay1_apply (x : Vec Ideal S1x256x256 .i8) (s : Vec Ideal S1x1x8x256 .f32) (j : S1x512x256.Idx) :
    k0_pay1 (F := Ideal) (k0_pay4 (F := Ideal) x s) (k0_pay5 (F := Ideal) x s) j
      = nib ((j 1).val % 2) (x (ix3 0 (j 2) ⟨(j 1).val / 2, by have : (j 1).val < 512 := (j 1).isLt; omega⟩))
        * s (ix4 0 0 ⟨(j 1).val / 64, by have : (j 1).val < 512 := (j 1).isLt; omega⟩ (j 2)) := by
  have h1 : (j 1).val < 512 := (j 1).isLt
  unfold k0_pay1
  refine (shapeCast_addUnit_apply ![512, 256] _ _ _).trans ?_
  refine (interleave_apply (n2 := 512) (n := 256) (w := 256) rfl _ _ _ _).trans ?_
  have hd : ∀ h, (⟨(j 1).val / 2 / 32, h⟩ : Fin 8) = ⟨(j 1).val / 64, by omega⟩ := fun h => Fin.ext (by
    show (j 1).val / 2 / 32 = (j 1).val / 64; omega)
  show (if (j 1).val % 2 = 0 then k0_pay5 (F := Ideal) x s (ix2 ⟨(j 1).val / 2, _⟩ (j 2))
    else k0_pay4 (F := Ideal) x s (ix2 ⟨(j 1).val / 2, _⟩ (j 2))) = _
  by_cases h : (j 1).val % 2 = 0
  · rw [if_pos h, pay5_apply, h]
    exact congrArg (fun q => _ * s (ix4 0 0 q (j 2))) (hd _)
  · have h' : (j 1).val % 2 = 1 := by omega
    rw [if_neg h, pay4_apply, h']
    exact congrArg (fun q => _ * s (ix4 0 0 q (j 2))) (hd _)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem out_eq (x : Vec Ideal S1x256x256 .i8) (s : Vec Ideal S1x1x8x256 .f32) : out0_2 (F := Ideal) x s
    = k0_pay1 (F := Ideal) (k0_pay4 (F := Ideal) x s) (k0_pay5 (F := Ideal) x s) := by
  unfold out0_2
  rw [View.canon_unit_zero hz3, View.ld_unit_zero hz3, View.ld_unit_zero hz4]

/-! ## Which parts of the arrays a point's blocks are -/

theorem idx0 : ∀ t : Fin cfg0.N, win0_0.index t (0 : Fin 3) = t.val / 18 ∧ win0_0.index t (1 : Fin 3) = t.val / 3 % 6
    ∧ win0_0.index t (2 : Fin 3) = t.val % 3 := (by decide +kernel : ∀ t : Fin grid0.N, _)
theorem idx1 : ∀ t : Fin cfg0.N, win0_1.index t (0 : Fin 4) = t.val / 18 ∧ win0_1.index t (1 : Fin 4) = t.val % 3
    ∧ win0_1.index t (2 : Fin 4) = 0 ∧ win0_1.index t (3 : Fin 4) = t.val / 3 % 6 :=
  (by decide +kernel : ∀ t : Fin grid0.N, _)
theorem idx2 : ∀ t : Fin cfg0.N, win0_2.index t (0 : Fin 3) = t.val / 18 ∧ win0_2.index t (1 : Fin 3) = t.val % 3
    ∧ win0_2.index t (2 : Fin 3) = t.val / 3 % 6 := (by decide +kernel : ∀ t : Fin grid0.N, _)

theorem lt (t : Fin cfg0.N) : t.val < 162 := t.isLt

/-- The matrix a point works on, and the places of its rows, packed columns and columns in the arrays. -/
abbrev mat (t : Fin cfg0.N) : Fin 9 := ⟨t.val / 18, by have := lt t; omega⟩
abbrev row (t : Fin cfg0.N) (r : Fin 256) : Fin 1536 := ⟨256 * (t.val / 3 % 6) + r.val, by omega⟩
abbrev byt (t : Fin cfg0.N) (k : Fin 256) : Fin 768 := ⟨256 * (t.val % 3) + k.val, by omega⟩
abbrev col (t : Fin cfg0.N) (k : Fin 512) : Fin 1536 := ⟨512 * (t.val % 3) + k.val, by omega⟩

theorem emb2 (t : Fin cfg0.N) (j : S1x512x256.Idx) :
    ((cfg0.win 2).blk t).view.emb j = ix3 (mat t) (col t (j 1)) (row t (j 2)) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val / 18; omega
  | ⟨1, _⟩ => show win0_2.index t (1 : Fin 3) * 512 + 1 * (j 1).val = 512 * (t.val % 3) + (j 1).val; omega
  | ⟨2, _⟩ => show win0_2.index t (2 : Fin 3) * 256 + 1 * (j 2).val = 256 * (t.val / 3 % 6) + (j 2).val; omega

variable (V : (c : Dev nD) → (b : Ref sig .tc) → Buf (Elt Ideal) ((c : Thread nD τ).loc b))

theorem iblk0_apply (c : Dev nD) (t : Fin cfg0.N) (j : S1x256x256.Idx) :
    iblk0 V c 0 t j = V c main_arg8 (ix3 (mat t) (row t (j 1)) (byt t (j 2))) := by
  obtain ⟨e0, e1, e2⟩ := idx0 t
  have h0 : (j 0).val < 1 := (j 0).isLt
  show V c main_arg8 (((cfg0.win 0).blk t).view.emb j) = _
  refine congrArg (V c main_arg8) ?_
  funext a; apply Fin.ext
  match a with
  | ⟨0, _⟩ => show win0_0.index t (0 : Fin 3) * 1 + 1 * (j 0).val = t.val / 18; omega
  | ⟨1, _⟩ => show win0_0.index t (1 : Fin 3) * 256 + 1 * (j 1).val = 256 * (t.val / 3 % 6) + (j 1).val; omega
  | ⟨2, _⟩ => show win0_0.index t (2 : Fin 3) * 256 + 1 * (j 2).val = 256 * (t.val % 3) + (j 2).val; omega
theorem iblk1_apply (c : Dev nD) (t : Fin cfg0.N) (j : S1x1x8x256.Idx) :
    iblk0 V c 1 t j = V c main_v9 (ix4 (mat t) ⟨t.val % 3, by omega⟩ (j 2) (row t (j 3))) := by
  obtain ⟨e0, e1, e2, e3⟩ := idx1 t
  have h0 : (j 0).val < 1 := (j 0).isLt
  have h1 : (j 1).val < 1 := (j 1).isLt
  show V c main_v9 (((cfg0.win 1).blk t).view.emb j) = _
  refine congrArg (V c main_v9) ?_
  funext a; apply Fin.ext
  match a with
  | ⟨0, _⟩ => show win0_1.index t (0 : Fin 4) * 1 + 1 * (j 0).val = t.val / 18; omega
  | ⟨1, _⟩ => show win0_1.index t (1 : Fin 4) * 1 + 1 * (j 1).val = t.val % 3; omega
  | ⟨2, _⟩ => show win0_1.index t (2 : Fin 4) * 8 + 1 * (j 2).val = (j 2).val; omega
  | ⟨3, _⟩ => show win0_1.index t (3 : Fin 4) * 256 + 1 * (j 3).val = 256 * (t.val / 3 % 6) + (j 3).val; omega

/-! ## What the array holds after the run -/

/-- The decoded array, as a function of the packed bytes and the row scales the region is given. -/
def G (q : Vec Ideal S9x1536x768 .i8) (s : Vec Ideal S9x3x8x1536 .f32) : Vec Ideal S9x1536x1536 .bf16 :=
  fun i : (A3 9 1536 1536).Idx =>
    nib ((i 1).val % 2) (q (ix3 (i 0) (i 2) ⟨(i 1).val / 2, by have : (i 1).val < 1536 := (i 1).isLt; omega⟩))
      * s (ix4 (i 0) ⟨(i 1).val / 512, by have : (i 1).val < 1536 := (i 1).isLt; omega⟩
          ⟨(i 1).val % 512 / 64, by omega⟩ (i 2))

theorem block (c : Dev nD) (t : Fin cfg0.N) (j : S1x512x256.Idx) :
    out0_2 (F := Ideal) (iblk0 V c 0 t) (iblk0 V c 1 t) j
      = G (V c main_arg8) (V c main_v9) (ix3 (mat t) (col t (j 1)) (row t (j 2))) := by
  have h1 : (j 1).val < 512 := (j 1).isLt
  rw [out_eq, pay1_apply, iblk0_apply, iblk1_apply]
  have e1 : (512 * (t.val % 3) + (j 1).val) % 2 = (j 1).val % 2 := by omega
  show nib ((j 1).val % 2) _ * _ = nib ((512 * (t.val % 3) + (j 1).val) % 2) _ * _
  rw [e1]
  refine congrArg₂ (· * ·) (congrArg _ (congrArg (V c main_arg8) ?_)) (congrArg (V c main_v9) ?_)
  · funext a; apply Fin.ext
    match a with
    | ⟨0, _⟩ => rfl
    | ⟨1, _⟩ => rfl
    | ⟨2, _⟩ => show 256 * (t.val % 3) + (j 1).val / 2 = (512 * (t.val % 3) + (j 1).val) / 2; omega
  · funext a; apply Fin.ext
    match a with
    | ⟨0, _⟩ => rfl
    | ⟨1, _⟩ => show t.val % 3 = (512 * (t.val % 3) + (j 1).val) / 512; omega
    | ⟨2, _⟩ => show (j 1).val / 64 = (512 * (t.val % 3) + (j 1).val) % 512 / 64; omega
    | ⟨3, _⟩ => rfl

theorem flushed2 (c : Dev nD) (t : Fin cfg0.N) :
    (dat0 V c).flushed 2 t = ((cfg0.win 2).blk t).view.read (Elt Ideal) (G (V c main_arg8) (V c main_v9)) := by
  funext j
  show (dat0 V c).after 2 t j = G (V c main_arg8) (V c main_v9) (((cfg0.win 2).blk t).view.emb j)
  rw [emb2, after0_2]
  exact block V c t j

/-- The point that writes entry `i`. -/
def pt (i : (A3 9 1536 1536).Idx) : Fin cfg0.N :=
  (⟨(i 0).val * 18 + (i 2).val / 256 * 3 + (i 1).val / 512, by
    have h0 : (i 0).val < 9 := (i 0).isLt
    have h1 : (i 1).val < 1536 := (i 1).isLt
    have h2 : (i 2).val < 1536 := (i 2).isLt
    show _ < 162; omega⟩ : Fin 162)

theorem covered (i : (A3 9 1536 1536).Idx) (t : Fin cfg0.N)
    (ht : t.val = (i 0).val * 18 + (i 2).val / 256 * 3 + (i 1).val / 512) :
    ix3 (mat t) (col t ⟨(i 1).val % 512, by omega⟩) (row t ⟨(i 2).val % 256, by omega⟩) = i := by
  have h1 : (i 1).val < 1536 := (i 1).isLt
  have h2 : (i 2).val < 1536 := (i 2).isLt
  funext a; apply Fin.ext
  match a with
  | ⟨0, _⟩ => show t.val / 18 = (i 0).val; omega
  | ⟨1, _⟩ => show 512 * (t.val % 3) + (i 1).val % 512 = (i 1).val; omega
  | ⟨2, _⟩ => show 256 * (t.val / 3 % 6) + (i 2).val % 256 = (i 2).val; omega

theorem cov2 (i : (A3 9 1536 1536).Idx) (t : Fin cfg0.N)
    (ht : t.val = (i 0).val * 18 + (i 2).val / 256 * 3 + (i 1).val / 512) : i ∈ ((cfg0.win 2).blk t).view.set := by
  have h := ((cfg0.win 2).blk t).view.emb_mem_set (ix3 0 ⟨(i 1).val % 512, by omega⟩ ⟨(i 2).val % 256, by omega⟩)
  have e := (emb2 t (ix3 0 ⟨(i 1).val % 512, by omega⟩ ⟨(i 2).val % 256, by omega⟩)).trans (covered i t ht)
  exact Eq.mp (congrArg (fun x => x ∈ ((cfg0.win 2).blk t).view.set) e) h

theorem final2 (c : Dev nD) : (dat0 V c).arrAt 2 cfg0.N = G (V c main_arg8) (V c main_v9) :=
  (dat0 V c).arrAt_eq_of_cover 2 _ (fun t _ => flushed2 V c t) fun i => ⟨pt i, flush0_2 _, cov2 i (pt i) rfl⟩

end Cert.Proof.DecodeL

end
-- ==== Proof.DecodeR.lean ====
/- The kernel that decodes the right basis, region 1: what one grid point stores (`pay1_apply`), which parts of the arrays a
   point's blocks are (`idx*`), and so what its result array holds after the run (`final2`), as a function of the packed
   array and the array of row scales it is given. -/
module

public import proofs.«01_k».proof.Proof.Gen.KernelIdeal.Frame
public import proofs.«01_k».proof.Proof.Spec
public import proofs.«01_k».proof.Proof.Tile
public import Idealize.ShloMosaic.Lib.Pipeline.ValueKit.Tiles

@[expose] public section

noncomputable section

namespace Cert.Proof.DecodeR

open Cert.KernelIdeal Cert.KernelIdeal.Gen Idealize.ShloMosaic Idealize.ShloMosaic.TcCoe Idealize.ShloMosaic.ValueIdx
  Idealize.ShloMosaic.Pipeline Idealize.SL.Sem Cert.Proof.Spec Cert.Proof.Dot Cert.Proof.Tile

/-! ## What one point stores -/

/-- The packed bytes, transposed. -/
theorem bytes_apply (x : Vec Ideal S1x256x128 .i8) (j : S128x256.Idx) :
    transpose S128x256 [1, 0] (extui 32 (shapeCast S256x128 x shapeCasts_S1x256x128_S256x128) natLt_8_32)
      transposes_S256x128_p1_0_S128x256 j = (x (ix3 0 (j 1) (j 0)) : BitVec 8).setWidth 32 := by
  refine (transpose_apply _ _ _ j (ix2 (j 1) (j 0)) fun b => ?_).trans ?_
  · match b with
    | ⟨0, _⟩ => rfl
    | ⟨1, _⟩ => rfl
  · refine congrArg (BitVec.setWidth 32) ((shapeCast_dropUnit_apply ![256, 128] _ _ _).trans (congrArg x ?_))
    funext a; match a with | ⟨0, _⟩ => rfl | ⟨1, _⟩ => rfl | ⟨2, _⟩ => rfl

theorem slices : ∀ n : Fin 4, S4x256.Slices ![n.val, 0] S1x256 := by decide

/-- The scales, each row of them repeated down 32 rows. -/
abbrev scales (x : Vec Ideal S1x1x4x256 .f32) : FVec Ideal S128x256 .f32 :=
  concatenate S128x256 0 (List.ofFn fun n : Fin 4 => (⟨S32x256, broadcastTo S32x256 (shapeCast S1x256
      (extractStridedSlice S1x256 ![n.val, 0]
      (extf (F := Ideal) .f32 (truncf (F := Ideal) .bf16 (shapeCast S4x256 x shapeCasts_S1x1x4x256_S4x256) bitsLt_bf16_f32)
        bitsLt_bf16_f32) (slices n)) shapeCasts_S1x256_S1x256) broadcasts_S1x256_S32x256⟩ : (s : Shape) × (s.Idx → EReal)))
    concatenates_S32x256_S32x256_S32x256_S32x256_S128x256_d0

theorem scales_apply (x : Vec Ideal S1x1x4x256 .f32) (j : S128x256.Idx) :
    scales x j = x (ix4 0 0 ⟨(j 0).val / 32, by have : (j 0).val < 128 := (j 0).isLt; omega⟩ (j 1)) := by
  refine (concatenate_ofFn_apply (t := S128x256) (s₁ := S32x256) 0 (N := 4) _
    concatenates_S32x256_S32x256_S32x256_S32x256_S128x256_d0 rfl 32 rfl j
    ⟨(j 0).val / 32, by have : (j 0).val < 128 := (j 0).isLt; omega⟩ rfl
    (ix2 ⟨(j 0).val % 32, by omega⟩ (j 1)) rfl fun b hb => ?_).trans ?_
  · match b with
    | ⟨0, _⟩ => exact absurd rfl hb
    | ⟨1, _⟩ => rfl
  · refine (piece_apply (n := 4) (w := 256) (by have : (j 0).val < 128 := (j 0).isLt; omega) (by decide) _ _ _ _ _).trans ?_
    refine shapeCast_apply x _ _ _ ?_
    rw [Shape.rowMajor_val_four, Shape.rowMajor_val_two]
    show ((0 * 1 + 0) * 4 + (j 0).val / 32) * 256 + (j 1).val = (j 0).val / 32 * 256 + (j 1).val
    omega

/-- Half `p` of the bytes, times the scales. -/
abbrev half (p : BitVec 32) (x : Vec Ideal S1x256x128 .i8) (s : Vec Ideal S1x1x4x256 .f32) : FVec Ideal S128x256 .bf16 :=
  truncf .bf16 (mulf (sitofp .f32 (shrsi (shli (transpose S128x256 [1, 0] (extui 32 (shapeCast S256x128 x
    shapeCasts_S1x256x128_S256x128) natLt_8_32) transposes_S256x128_p1_0_S128x256) (broadcast S128x256 p))
    (broadcast S128x256 28#32))) (scales s)) bitsLt_bf16_f32

theorem half_apply (p : BitVec 32) (x : Vec Ideal S1x256x128 .i8) (s : Vec Ideal S1x1x4x256 .f32) (j : S128x256.Idx) :
    half p x s j = (((IntOp.shrsi .vector (IntOp.shli .vector ((x (ix3 0 (j 1) (j 0)) : BitVec 8).setWidth 32) p) 28#32).toInt
        : ℝ) : EReal)
      * s (ix4 0 0 ⟨(j 0).val / 32, by have : (j 0).val < 128 := (j 0).isLt; omega⟩ (j 1)) := by
  exact congrArg₂ (fun (b : BitVec 32) (y : EReal) =>
      (((IntOp.shrsi .vector (IntOp.shli .vector b p) 28#32).toInt : ℝ) : EReal) * y) (bytes_apply x j) (scales_apply s j)

theorem pay1_apply (x : Vec Ideal S1x256x128 .i8) (s : Vec Ideal S1x1x4x256 .f32) (j : S1x256x256.Idx) :
    k1_pay1 (F := Ideal) x s j
      = nib ((j 1).val % 2) (x (ix3 0 (j 2) ⟨(j 1).val / 2, by have : (j 1).val < 256 := (j 1).isLt; omega⟩))
        * s (ix4 0 0 ⟨(j 1).val / 64, by have : (j 1).val < 256 := (j 1).isLt; omega⟩ (j 2)) := by
  have h1 : (j 1).val < 256 := (j 1).isLt
  unfold k1_pay1
  refine (shapeCast_addUnit_apply ![256, 256] _ _ _).trans ?_
  refine (interleave_apply (n2 := 256) (n := 128) (w := 256) rfl _ _ _ _).trans ?_
  have hd : ∀ h, (⟨(j 1).val / 2 / 32, h⟩ : Fin 4) = ⟨(j 1).val / 64, by omega⟩ := fun h => Fin.ext (by
    show (j 1).val / 2 / 32 = (j 1).val / 64; omega)
  show (if (j 1).val % 2 = 0 then half 28#32 x s (ix2 ⟨(j 1).val / 2, _⟩ (j 2))
    else half 24#32 x s (ix2 ⟨(j 1).val / 2, _⟩ (j 2))) = _
  by_cases h : (j 1).val % 2 = 0
  · rw [if_pos h, half_apply, h]
    exact congrArg (fun q => _ * s (ix4 0 0 q (j 2))) (hd _)
  · have h' : (j 1).val % 2 = 1 := by omega
    rw [if_neg h, half_apply, h']
    exact congrArg (fun q => _ * s (ix4 0 0 q (j 2))) (hd _)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem out_eq (x : Vec Ideal S1x256x128 .i8) (s : Vec Ideal S1x1x4x256 .f32) : out1_2 (F := Ideal) x s
    = k1_pay1 (F := Ideal) x s := by
  unfold out1_2
  rw [View.canon_unit_zero hz3, View.ld_unit_zero hz3, View.ld_unit_zero hz4]

/-! ## Which parts of the arrays a point's blocks are -/

theorem idx0 : ∀ t : Fin cfg1.N, win1_0.index t (0 : Fin 3) = t.val / 81 ∧ win1_0.index t (1 : Fin 3) = t.val / 9 % 9
    ∧ win1_0.index t (2 : Fin 3) = t.val % 9 := (by decide +kernel : ∀ t : Fin grid1.N, _)
theorem idx1 : ∀ t : Fin cfg1.N, win1_1.index t (0 : Fin 4) = t.val / 81 ∧ win1_1.index t (1 : Fin 4) = t.val % 9
    ∧ win1_1.index t (2 : Fin 4) = 0 ∧ win1_1.index t (3 : Fin 4) = t.val / 9 % 9 :=
  (by decide +kernel : ∀ t : Fin grid1.N, _)
theorem idx2 : ∀ t : Fin cfg1.N, win1_2.index t (0 : Fin 3) = t.val / 81 ∧ win1_2.index t (1 : Fin 3) = t.val % 9
    ∧ win1_2.index t (2 : Fin 3) = t.val / 9 % 9 := (by decide +kernel : ∀ t : Fin grid1.N, _)

theorem lt (t : Fin cfg1.N) : t.val < 729 := t.isLt

/-- The matrix a point works on, and the places of its rows, packed columns and columns in the arrays. -/
abbrev mat (t : Fin cfg1.N) : Fin 9 := ⟨t.val / 81, by have := lt t; omega⟩
abbrev row (t : Fin cfg1.N) (r : Fin 256) : Fin 2304 := ⟨256 * (t.val / 9 % 9) + r.val, by omega⟩
abbrev byt (t : Fin cfg1.N) (k : Fin 128) : Fin 1152 := ⟨128 * (t.val % 9) + k.val, by omega⟩
abbrev col (t : Fin cfg1.N) (k : Fin 256) : Fin 2304 := ⟨256 * (t.val % 9) + k.val, by omega⟩

theorem emb2 (t : Fin cfg1.N) (j : S1x256x256.Idx) :
    ((cfg1.win 2).blk t).view.emb j = ix3 (mat t) (col t (j 1)) (row t (j 2)) := by
  obtain ⟨e0, e1, e2⟩ := idx2 t
  have h0 : (j 0).val < 1 := (j 0).isLt
  funext a; apply Fin.ext
  match a with
  | ⟨0, _⟩ => show win1_2.index t (0 : Fin 3) * 1 + 1 * (j 0).val = t.val / 81; omega
  | ⟨1, _⟩ => show win1_2.index t (1 : Fin 3) * 256 + 1 * (j 1).val = 256 * (t.val % 9) + (j 1).val; omega
  | ⟨2, _⟩ => show win1_2.index t (2 : Fin 3) * 256 + 1 * (j 2).val = 256 * (t.val / 9 % 9) + (j 2).val; omega

variable (V : (c : Dev nD) → (b : Ref sig .tc) → Buf (Elt Ideal) ((c : Thread nD τ).loc b))

theorem iblk0_apply (c : Dev nD) (t : Fin cfg1.N) (j : S1x256x128.Idx) :
    iblk1 V c 0 t j = V c main_arg10 (ix3 (mat t) (row t (j 1)) (byt t (j 2))) := by
  obtain ⟨e0, e1, e2⟩ := idx0 t
  have h0 : (j 0).val < 1 := (j 0).isLt
  show V c main_arg10 (((cfg1.win 0).blk t).view.emb j) = _
  refine congrArg (V c main_arg10) ?_
  funext a; apply Fin.ext
  match a with
  | ⟨0, _⟩ => show win1_0.index t (0 : Fin 3) * 1 + 1 * (j 0).val = t.val / 81; omega
  | ⟨1, _⟩ => show win1_0.index t (1 : Fin 3) * 256 + 1 * (j 1).val = 256 * (t.val / 9 % 9) + (j 1).val; omega
  | ⟨2, _⟩ => show win1_0.index t (2 : Fin 3) * 128 + 1 * (j 2).val = 128 * (t.val % 9) + (j 2).val; omega
theorem iblk1_apply (c : Dev nD) (t : Fin cfg1.N) (j : S1x1x4x256.Idx) :
    iblk1 V c 1 t j = V c main_v14 (ix4 (mat t) ⟨t.val % 9, by omega⟩ (j 2) (row t (j 3))) := by
  obtain ⟨e0, e1, e2, e3⟩ := idx1 t
  have h0 : (j 0).val < 1 := (j 0).isLt
  have h1 : (j 1).val < 1 := (j 1).isLt
  show V c main_v14 (((cfg1.win 1).blk t).view.emb j) = _
  refine congrArg (V c main_v14) ?_
  funext a; apply Fin.ext
  match a with
  | ⟨0, _⟩ => show win1_1.index t (0 : Fin 4) * 1 + 1 * (j 0).val = t.val / 81; omega
  | ⟨1, _⟩ => show win1_1.index t (1 : Fin 4) * 1 + 1 * (j 1).val = t.val % 9; omega
  | ⟨2, _⟩ => show win1_1.index t (2 : Fin 4) * 4 + 1 * (j 2).val = (j 2).val; omega
  | ⟨3, _⟩ => show win1_1.index t (3 : Fin 4) * 256 + 1 * (j 3).val = 256 * (t.val / 9 % 9) + (j 3).val; omega

/-! ## What the array holds after the run -/

/-- The decoded array, as a function of the packed bytes and the row scales the region is given. -/
def G (q : Vec Ideal S9x2304x1152 .i8) (s : Vec Ideal S9x9x4x2304 .f32) : Vec Ideal S9x2304x2304 .bf16 :=
  fun i : (A3 9 2304 2304).Idx =>
    nib ((i 1).val % 2) (q (ix3 (i 0) (i 2) ⟨(i 1).val / 2, by have : (i 1).val < 2304 := (i 1).isLt; omega⟩))
      * s (ix4 (i 0) ⟨(i 1).val / 256, by have : (i 1).val < 2304 := (i 1).isLt; omega⟩
          ⟨(i 1).val % 256 / 64, by omega⟩ (i 2))

theorem block (c : Dev nD) (t : Fin cfg1.N) (j : S1x256x256.Idx) :
    out1_2 (F := Ideal) (iblk1 V c 0 t) (iblk1 V c 1 t) j
      = G (V c main_arg10) (V c main_v14) (ix3 (mat t) (col t (j 1)) (row t (j 2))) := by
  have h1 : (j 1).val < 256 := (j 1).isLt
  rw [out_eq, pay1_apply, iblk0_apply, iblk1_apply]
  have e1 : (256 * (t.val % 9) + (j 1).val) % 2 = (j 1).val % 2 := by omega
  show nib ((j 1).val % 2) _ * _ = nib ((256 * (t.val % 9) + (j 1).val) % 2) _ * _
  rw [e1]
  refine congrArg₂ (· * ·) (congrArg _ (congrArg (V c main_arg10) ?_)) (congrArg (V c main_v14) ?_)
  · funext a; apply Fin.ext
    match a with
    | ⟨0, _⟩ => rfl
    | ⟨1, _⟩ => rfl
    | ⟨2, _⟩ => show 128 * (t.val % 9) + (j 1).val / 2 = (256 * (t.val % 9) + (j 1).val) / 2; omega
  · funext a; apply Fin.ext
    match a with
    | ⟨0, _⟩ => rfl
    | ⟨1, _⟩ => show t.val % 9 = (256 * (t.val % 9) + (j 1).val) / 256; omega
    | ⟨2, _⟩ => show (j 1).val / 64 = (256 * (t.val % 9) + (j 1).val) % 256 / 64; omega
    | ⟨3, _⟩ => rfl

theorem flushed2 (c : Dev nD) (t : Fin cfg1.N) :
    (dat1 V c).flushed 2 t = ((cfg1.win 2).blk t).view.read (Elt Ideal) (G (V c main_arg10) (V c main_v14)) := by
  funext j
  show (dat1 V c).after 2 t j = G (V c main_arg10) (V c main_v14) (((cfg1.win 2).blk t).view.emb j)
  rw [emb2, after1_2]
  exact block V c t j

/-- The point that writes entry `i`. -/
def pt (i : (A3 9 2304 2304).Idx) : Fin cfg1.N :=
  (⟨(i 0).val * 81 + (i 2).val / 256 * 9 + (i 1).val / 256, by
    have h0 : (i 0).val < 9 := (i 0).isLt
    have h1 : (i 1).val < 2304 := (i 1).isLt
    have h2 : (i 2).val < 2304 := (i 2).isLt
    show _ < 729; omega⟩ : Fin 729)

theorem covered (i : (A3 9 2304 2304).Idx) (t : Fin cfg1.N)
    (ht : t.val = (i 0).val * 81 + (i 2).val / 256 * 9 + (i 1).val / 256) :
    ix3 (mat t) (col t ⟨(i 1).val % 256, by omega⟩) (row t ⟨(i 2).val % 256, by omega⟩) = i := by
  have h1 : (i 1).val < 2304 := (i 1).isLt
  have h2 : (i 2).val < 2304 := (i 2).isLt
  funext a; apply Fin.ext
  match a with
  | ⟨0, _⟩ => show t.val / 81 = (i 0).val; omega
  | ⟨1, _⟩ => show 256 * (t.val % 9) + (i 1).val % 256 = (i 1).val; omega
  | ⟨2, _⟩ => show 256 * (t.val / 9 % 9) + (i 2).val % 256 = (i 2).val; omega

theorem cov2 (i : (A3 9 2304 2304).Idx) (t : Fin cfg1.N)
    (ht : t.val = (i 0).val * 81 + (i 2).val / 256 * 9 + (i 1).val / 256) : i ∈ ((cfg1.win 2).blk t).view.set := by
  have h := ((cfg1.win 2).blk t).view.emb_mem_set (ix3 0 ⟨(i 1).val % 256, by omega⟩ ⟨(i 2).val % 256, by omega⟩)
  have e := (emb2 t (ix3 0 ⟨(i 1).val % 256, by omega⟩ ⟨(i 2).val % 256, by omega⟩)).trans (covered i t ht)
  exact Eq.mp (congrArg (fun x => x ∈ ((cfg1.win 2).blk t).view.set) e) h

theorem final2 (c : Dev nD) : (dat1 V c).arrAt 2 cfg1.N = G (V c main_arg10) (V c main_v14) :=
  (dat1 V c).arrAt_eq_of_cover 2 _ (fun t _ => flushed2 V c t) fun i => ⟨pt i, flush1_2 _, cov2 i (pt i) rfl⟩

end Cert.Proof.DecodeR

end
-- ==== Proof.Scales.lean ====
/- The block scales as the decodes read them: transposed, spread over the rows and cut into column blocks before the call
   (`readLeft`, `readRight`). With them the two decodes leave the transposed bases (`basisLeft`, `basisRight`).
   And the table of per-matrix scalars: its columns are the five vectors (`column0` … `column4`). -/
module

public import proofs.«01_k».proof.Proof.DecodeL
public import proofs.«01_k».proof.Proof.DecodeR
public import Idealize.ShloMosaic.Lib.Pipeline.ValueKit.Tiles

@[expose] public section

noncomputable section

namespace Cert.Proof.Scales

open Cert.KernelIdeal Cert.KernelIdeal.Gen Idealize.ShloMosaic Idealize.ShloMosaic.ValueIdx Cert.Proof.Spec

/-! ## The Left side -/

/-- The scales as the left decode reads them: row `r` of column block `(c, k)`, at `(c, k, r)`. -/
def rowsLeft (s : Vec Ideal S9x24x24 .f32) : Vec Ideal S9x3x8x1536 .f32 :=
  shapeCast S9x3x8x1536 (shapeCast S9x24x1536 (broadcastInDim S9x24x24x64 ![0, 1, 2] bcast_S9x24x24_S9x24x24x64_0_1_2
    (transpose S9x24x24 [0, 2, 1] s transposes_S9x24x24_S9x24x24_0_2_1)) shapeCasts_S9x24x24x64_S9x24x1536)
    shapeCasts_S9x24x1536_S9x3x8x1536

theorem readLeft (V : Valuation τ sig (Elt Ideal)) :
    StableHlo.after (hostOps0 (F := Ideal)) V (Proc.devRef .tc main_v9) = rowsLeft (V (Proc.devRef .tc main_arg9)) := by
  after_results_simp <;> rfl

theorem rowsLeft_apply (s : Vec Ideal S9x24x24 .f32) (b : Fin 9) (c : Fin 3) (k : Fin 8) (r : Fin 1536) :
    rowsLeft s (ix4 b c k r) = s (ix3 b ⟨r.val / 64, by omega⟩ ⟨c.val * 8 + k.val, by omega⟩) := by
  unfold rowsLeft
  rw [shapeCast_apply _ _ (ix4 b c k r) (ix3 b (⟨c.val * 8 + k.val, by omega⟩ : Fin 24) r) (by
      rw [Shape.rowMajor_val_three, Shape.rowMajor_val_four]
      show (b.val * 24 + (c.val * 8 + k.val)) * 1536 + r.val = ((b.val * 3 + c.val) * 8 + k.val) * 1536 + r.val
      omega),
    shapeCast_apply _ _ (ix3 b (⟨c.val * 8 + k.val, by omega⟩ : Fin 24) r)
      (ix4 b (⟨c.val * 8 + k.val, by omega⟩ : Fin 24) (⟨r.val / 64, by omega⟩ : Fin 24) (⟨r.val % 64, by omega⟩ : Fin 64) : S9x24x24x64.Idx) (by
      rw [Shape.rowMajor_val_three, Shape.rowMajor_val_four]
      show ((b.val * 24 + (c.val * 8 + k.val)) * 24 + r.val / 64) * 64 + r.val % 64
        = (b.val * 24 + (c.val * 8 + k.val)) * 1536 + r.val
      omega),
    broadcastInDim_apply _ _ _ _ (ix3 b (⟨c.val * 8 + k.val, by omega⟩ : Fin 24) (⟨r.val / 64, by omega⟩ : Fin 24) : S9x24x24.Idx) (fun a => by
      match a with
      | ⟨0, _⟩ => rfl
      | ⟨1, _⟩ => rfl
      | ⟨2, _⟩ => rfl),
    transpose_apply _ _ _ _ (ix3 b (⟨r.val / 64, by omega⟩ : Fin 24) (⟨c.val * 8 + k.val, by omega⟩ : Fin 24) : S9x24x24.Idx) (fun a => by
      match a with
      | ⟨0, _⟩ => rfl
      | ⟨1, _⟩ => rfl
      | ⟨2, _⟩ => rfl)]

/-- So the left decode leaves the transposed basis. -/
theorem basisLeft (q : Vec Ideal S9x1536x768 .i8) (s : Vec Ideal S9x24x24 .f32) :
    DecodeL.G q (rowsLeft s) = basisT 1536 768 24 rfl rfl q s := by
  funext i
  have h1 : (i 1).val < 1536 := (i 1).isLt
  refine congrArg₂ (· * ·) rfl ((rowsLeft_apply s (i 0) _ _ (i 2)).trans (congrArg s ?_))
  funext a; apply Fin.ext
  match a with
  | ⟨0, _⟩ => rfl
  | ⟨1, _⟩ => rfl
  | ⟨2, _⟩ => show (i 1).val / 512 * 8 + (i 1).val % 512 / 64 = (i 1).val / 64; omega

/-! ## The Right side -/

/-- The scales as the right decode reads them: row `r` of column block `(c, k)`, at `(c, k, r)`. -/
def rowsRight (s : Vec Ideal S9x36x36 .f32) : Vec Ideal S9x9x4x2304 .f32 :=
  shapeCast S9x9x4x2304 (shapeCast S9x36x2304 (broadcastInDim S9x36x36x64 ![0, 1, 2] bcast_S9x36x36_S9x36x36x64_0_1_2
    (transpose S9x36x36 [0, 2, 1] s transposes_S9x36x36_S9x36x36_0_2_1)) shapeCasts_S9x36x36x64_S9x36x2304)
    shapeCasts_S9x36x2304_S9x9x4x2304

theorem readRight (V : Valuation τ sig (Elt Ideal)) :
    StableHlo.after (hostOps1 (F := Ideal)) V (Proc.devRef .tc main_v14) = rowsRight (V (Proc.devRef .tc main_arg11)) := by
  after_results_simp <;> rfl

theorem rowsRight_apply (s : Vec Ideal S9x36x36 .f32) (b : Fin 9) (c : Fin 9) (k : Fin 4) (r : Fin 2304) :
    rowsRight s (ix4 b c k r) = s (ix3 b ⟨r.val / 64, by omega⟩ ⟨c.val * 4 + k.val, by omega⟩) := by
  unfold rowsRight
  rw [shapeCast_apply _ _ (ix4 b c k r) (ix3 b (⟨c.val * 4 + k.val, by omega⟩ : Fin 36) r) (by
      rw [Shape.rowMajor_val_three, Shape.rowMajor_val_four]
      show (b.val * 36 + (c.val * 4 + k.val)) * 2304 + r.val = ((b.val * 9 + c.val) * 4 + k.val) * 2304 + r.val
      omega),
    shapeCast_apply _ _ (ix3 b (⟨c.val * 4 + k.val, by omega⟩ : Fin 36) r)
      (ix4 b (⟨c.val * 4 + k.val, by omega⟩ : Fin 36) (⟨r.val / 64, by omega⟩ : Fin 36) (⟨r.val % 64, by omega⟩ : Fin 64) : S9x36x36x64.Idx) (by
      rw [Shape.rowMajor_val_three, Shape.rowMajor_val_four]
      show ((b.val * 36 + (c.val * 4 + k.val)) * 36 + r.val / 64) * 64 + r.val % 64
        = (b.val * 36 + (c.val * 4 + k.val)) * 2304 + r.val
      omega),
    broadcastInDim_apply _ _ _ _ (ix3 b (⟨c.val * 4 + k.val, by omega⟩ : Fin 36) (⟨r.val / 64, by omega⟩ : Fin 36) : S9x36x36.Idx) (fun a => by
      match a with
      | ⟨0, _⟩ => rfl
      | ⟨1, _⟩ => rfl
      | ⟨2, _⟩ => rfl),
    transpose_apply _ _ _ _ (ix3 b (⟨r.val / 64, by omega⟩ : Fin 36) (⟨c.val * 4 + k.val, by omega⟩ : Fin 36) : S9x36x36.Idx) (fun a => by
      match a with
      | ⟨0, _⟩ => rfl
      | ⟨1, _⟩ => rfl
      | ⟨2, _⟩ => rfl)]

/-- So the right decode leaves the transposed basis. -/
theorem basisRight (q : Vec Ideal S9x2304x1152 .i8) (s : Vec Ideal S9x36x36 .f32) :
    DecodeR.G q (rowsRight s) = basisT 2304 1152 36 rfl rfl q s := by
  funext i
  have h1 : (i 1).val < 2304 := (i 1).isLt
  refine congrArg₂ (· * ·) rfl ((rowsRight_apply s (i 0) _ _ (i 2)).trans (congrArg s ?_))
  funext a; apply Fin.ext
  match a with
  | ⟨0, _⟩ => rfl
  | ⟨1, _⟩ => rfl
  | ⟨2, _⟩ => show (i 1).val / 256 * 4 + (i 1).val % 256 / 64 = (i 1).val / 64; omega

/-! ## The five scalars of a matrix -/

/-- Five vectors side by side as columns. -/
def columns (y0 y1 y2 y3 y4 : Vec Ideal S9 .f32) : Vec Ideal S9x5 .f32 :=
  concatenate S9x5 1 [⟨S9x1, broadcastInDim S9x1 ![0] bcast_S9_S9x1_0 y0⟩, ⟨S9x1, broadcastInDim S9x1 ![0] bcast_S9_S9x1_0 y1⟩,
    ⟨S9x1, broadcastInDim S9x1 ![0] bcast_S9_S9x1_0 y2⟩, ⟨S9x1, broadcastInDim S9x1 ![0] bcast_S9_S9x1_0 y3⟩,
    ⟨S9x1, broadcastInDim S9x1 ![0] bcast_S9_S9x1_0 y4⟩] concatenates_S9x1_S9x1_S9x1_S9x1_S9x1_S9x5_d1

theorem readConsts (V : Valuation τ sig (Elt Ideal)) :
    StableHlo.after (hostOps0 (F := Ideal)) V (Proc.devRef .tc main_v5) = columns (V (Proc.devRef .tc main_arg12))
      (V (Proc.devRef .tc main_arg13)) (V (Proc.devRef .tc main_arg14)) (V (Proc.devRef .tc main_arg15))
      (V (Proc.devRef .tc main_arg16)) := by
  after_results_simp <;> rfl

/-- A vector's entry for a matrix. -/
def col (y : Vec Ideal S9 .f32) (b : Fin 9) : EReal := y (ix1 b)

theorem col_apply (y : Vec Ideal S9 .f32) (b : Fin 9) (i : S9x1.Idx) (h : (i 0).val = b.val) :
    broadcastInDim S9x1 ![0] bcast_S9_S9x1_0 y i = y (ix1 b) :=
  broadcastInDim_apply _ _ _ _ (ix1 b) fun a => match a with | ⟨0, _⟩ => h.symm

theorem column0 (y0 y1 y2 y3 y4 : Vec Ideal S9 .f32) : (fun b => columns y0 y1 y2 y3 y4 (ix2 b 0)) = col y0 := by
  funext b
  unfold columns col
  concat_tiles i h
  · exact col_apply y0 b i h0
  · exact absurd (show (0 : Nat) = 1 from h) (by decide)
  · exact absurd (show (0 : Nat) = 2 from h) (by decide)
  · exact absurd (show (0 : Nat) = 3 from h) (by decide)
  · exact absurd (show (0 : Nat) = 4 from h) (by decide)

theorem column1 (y0 y1 y2 y3 y4 : Vec Ideal S9 .f32) : (fun b => columns y0 y1 y2 y3 y4 (ix2 b 1)) = col y1 := by
  funext b
  unfold columns col
  concat_tiles i h
  · exact absurd (show (1 : Nat) = 0 from h) (by decide)
  · exact col_apply y1 b i h0
  · exact absurd (show (1 : Nat) = 2 from h) (by decide)
  · exact absurd (show (1 : Nat) = 3 from h) (by decide)
  · exact absurd (show (1 : Nat) = 4 from h) (by decide)

theorem column2 (y0 y1 y2 y3 y4 : Vec Ideal S9 .f32) : (fun b => columns y0 y1 y2 y3 y4 (ix2 b 2)) = col y2 := by
  funext b
  unfold columns col
  concat_tiles i h
  · exact absurd (show (2 : Nat) = 0 from h) (by decide)
  · exact absurd (show (2 : Nat) = 1 from h) (by decide)
  · exact col_apply y2 b i h0
  · exact absurd (show (2 : Nat) = 3 from h) (by decide)
  · exact absurd (show (2 : Nat) = 4 from h) (by decide)

theorem column3 (y0 y1 y2 y3 y4 : Vec Ideal S9 .f32) : (fun b => columns y0 y1 y2 y3 y4 (ix2 b 3)) = col y3 := by
  funext b
  unfold columns col
  concat_tiles i h
  · exact absurd (show (3 : Nat) = 0 from h) (by decide)
  · exact absurd (show (3 : Nat) = 1 from h) (by decide)
  · exact absurd (show (3 : Nat) = 2 from h) (by decide)
  · exact col_apply y3 b i h0
  · exact absurd (show (3 : Nat) = 4 from h) (by decide)

theorem column4 (y0 y1 y2 y3 y4 : Vec Ideal S9 .f32) : (fun b => columns y0 y1 y2 y3 y4 (ix2 b 4)) = col y4 := by
  funext b
  unfold columns col
  concat_tiles i h
  · exact absurd (show (4 : Nat) = 0 from h) (by decide)
  · exact absurd (show (4 : Nat) = 1 from h) (by decide)
  · exact absurd (show (4 : Nat) = 2 from h) (by decide)
  · exact absurd (show (4 : Nat) = 3 from h) (by decide)
  · exact col_apply y4 b i h0

end Cert.Proof.Scales

end
-- ==== Proof.SpecRot.lean ====
/- The mathematics of the step in the rotated basis and of the way back, over the extended reals, with no tiling in it: the
   product with the rows of a basis (`rot`), the dequantized old second moment (`old`) and the new one (`second`), the
   normalized update (`update`), the new second moment's block scales and codes (`scaleNew`, `codeNew`), and the update
   rotated back (`back1`, `back2`) and applied (`weight`). -/
module

public import proofs.«01_k».proof.Proof.Spec

@[expose] public section

noncomputable section

namespace Cert.Proof.Spec

open Idealize.ShloMosaic Idealize.ShloMosaic.ValueIdx

/-- The 128-wide block a column lies in. -/
abbrev blockOf (c : Fin 2304) : Fin 18 := ⟨c.val / 128, by omega⟩
/-- Column `l` of block `k`. -/
abbrev colOf (k : Fin 18) (l : Fin 128) : Fin 2304 := ⟨128 * k.val + l.val, by omega⟩

/-- The rows of `t` against the rows of `q`. -/
def rot (t : (A3 9 1536 2304).Idx → EReal) (q : (A3 9 2304 2304).Idx → EReal) (b : Fin 9) (i : Fin 1536) (c : Fin 2304) :
    EReal := ∑ k : Fin 2304, t (ix3 b i k) * q (ix3 b c k)

/-- The value of an unsigned byte. -/
def byte (x : BitVec 8) : EReal := (((x.setWidth 32).toInt : ℝ) : EReal)

/-- The old second moment: a code times the scale of its block. -/
def old (x : (A3 9 1536 2304).Idx → BitVec 8) (s : (A3 9 1536 18).Idx → EReal) (b : Fin 9) (i : Fin 1536) (c : Fin 2304) :
    EReal := byte (x (ix3 b i c)) * s (ix3 b i (blockOf c))

/-- The new second moment. The stored array is its square root's code, so the old one is squared. -/
def second (t : (A3 9 1536 2304).Idx → EReal) (q : (A3 9 2304 2304).Idx → EReal) (x : (A3 9 1536 2304).Idx → BitVec 8)
    (s : (A3 9 1536 18).Idx → EReal) (b : Fin 9) (i : Fin 1536) (c : Fin 2304) : EReal :=
  c95 * old x s b i c * old x s b i c + c05 * rot t q b i c * rot t q b i c

/-- Its square root. -/
def root (t : (A3 9 1536 2304).Idx → EReal) (q : (A3 9 2304 2304).Idx → EReal) (x : (A3 9 1536 2304).Idx → BitVec 8)
    (s : (A3 9 1536 18).Idx → EReal) (b : Fin 9) (i : Fin 1536) (c : Fin 2304) : EReal :=
  FloatOps.sqrt (F := Ideal) (φ := .f32) (second t q x s b i c)

/-- The update in the rotated basis: the rotated momentum over the root of the new second moment, each with its bias
    correction. -/
def update (t tm : (A3 9 1536 2304).Idx → EReal) (q : (A3 9 2304 2304).Idx → EReal) (x : (A3 9 1536 2304).Idx → BitVec 8)
    (s : (A3 9 1536 18).Idx → EReal) (c1 c2 eps : Fin 9 → EReal) (i : (A3 9 1536 2304).Idx) : EReal :=
  FloatOps.divf (F := Ideal) (φ := .f32) (FloatOps.divf (F := Ideal) (φ := .f32) (rot tm q (i 0) (i 1) (i 2)) (c1 (i 0)))
    (FloatOps.sqrt (F := Ideal) (φ := .f32)
      (FloatOps.divf (F := Ideal) (φ := .f32) (second t q x s (i 0) (i 1) (i 2)) (c2 (i 0))) + eps (i 0))

/-- The new scale of a block of 128 columns: the largest root in it over 255. -/
def scaleNew (t : (A3 9 1536 2304).Idx → EReal) (q : (A3 9 2304 2304).Idx → EReal) (x : (A3 9 1536 2304).Idx → BitVec 8)
    (s : (A3 9 1536 18).Idx → EReal) (i : (A3 9 1536 18).Idx) : EReal :=
  FloatOps.divf (F := Ideal) (φ := .f32)
    ((Finset.univ : Finset (Fin 128)).fold max (FloatOps.ofBits (F := Ideal) .f32 0xFF800000#32)
      (fun l => root t q x s (i 0) (i 1) (colOf (i 2) l)))
    (FloatOps.ofBits (F := Ideal) .f32 0x437F0000#32)

/-- A number rounded to the nearest of 0 … 255. -/
def quant (y : EReal) : BitVec 8 :=
  (FloatOps.fptosi (F := Ideal) (φ := .f32) 32 (FloatOps.minimumf (F := Ideal) (φ := .f32)
    (FloatOps.sitofp (F := Ideal) .f32 (255#32)) (FloatOps.maximumf (F := Ideal) (φ := .f32)
      (FloatOps.sitofp (F := Ideal) .f32 (0#32)) (FloatOps.roundeven (F := Ideal) (φ := .f32) y)))).setWidth 8

/-- The new codes: the root over its block's new scale, rounded. -/
def codeNew (t : (A3 9 1536 2304).Idx → EReal) (q : (A3 9 2304 2304).Idx → EReal) (x : (A3 9 1536 2304).Idx → BitVec 8)
    (s : (A3 9 1536 18).Idx → EReal) (i : (A3 9 1536 2304).Idx) : BitVec 8 :=
  quant (FloatOps.divf (F := Ideal) (φ := .f32) (root t q x s (i 0) (i 1) (i 2))
    (scaleNew t q x s (ix3 (i 0) (i 1) (blockOf (i 2)))))

/-- The update taken out of the left basis. -/
def back1 (ql : (A3 9 1536 1536).Idx → EReal) (n : (A3 9 1536 2304).Idx → EReal) (b : Fin 9) (i : Fin 1536) (c : Fin 2304) :
    EReal := ∑ k : Fin 1536, ql (ix3 b k i) * n (ix3 b k c)

/-- The update taken out of both bases. -/
def back2 (ql : (A3 9 1536 1536).Idx → EReal) (n : (A3 9 1536 2304).Idx → EReal) (qr : (A3 9 2304 2304).Idx → EReal)
    (i : (A3 9 1536 2304).Idx) : EReal := ∑ k : Fin 2304, back1 ql n (i 0) (i 1) k * qr (ix3 (i 0) k (i 2))

/-- The new weights: a step along the update, with weight decay. -/
def weight (w u : (A3 9 1536 2304).Idx → EReal) (lr wd : Fin 9 → EReal) (i : (A3 9 1536 2304).Idx) : EReal :=
  w i - lr (i 0) * (u i + wd (i 0) * w i)

end Cert.Proof.Spec

end
-- ==== Proof.Rot2.lean ====
/- The kernel that works in the rotated basis, region 2. Its 2304 columns are worked on in 18 blocks of 128, each by the same
   chain of operations: the new second moment (`secB`), the update (`nB`), the block's scale (`sB`) and its codes (`cB`). What
   one grid point stores (`blockN`, `blockC`, `blockS`) and so what the three result arrays hold after the run (`final6`,
   `final7`, `final8`), as functions of the arrays the region is given. -/
module

public import proofs.«01_k».proof.Proof.Gen.KernelIdeal.Frame
public import proofs.«01_k».proof.Proof.SpecRot
public import proofs.«01_k».proof.Proof.Dot
public import Idealize.ShloMosaic.Lib.Pipeline.ValueKit.Tiles

@[expose] public section

noncomputable section

namespace Cert.Proof.Rot2

open Cert.KernelIdeal Cert.KernelIdeal.Gen Idealize.ShloMosaic Idealize.ShloMosaic.TcCoe Idealize.ShloMosaic.ValueIdx
  Idealize.ShloMosaic.Pipeline Idealize.SL.Sem Cert.Proof.Spec Cert.Proof.Dot

/-! ## One block of 128 columns -/

/-- The new second moment of a block: 128 columns of the products `P` at offset `o`, the codes `x` and column `ok` of the
    scales `S`. -/
def secB (P : FVec Ideal S256x256 .f32) (S : FVec Ideal S256x18 .f32) (x : Vec Ideal S1x256x128 .i8) (o ok : Fin 2 → Nat)
    (h : S256x256.Slices o S256x128) (hk : S256x18.Slices ok S256x1) : FVec Ideal S256x128 .f32 :=
  addf
    (mulf (mulf (broadcast S256x128 (Scalar.ofBits .f32 0x3F733333#32))
        (mulf (sitofp .f32 (extui 32 (shapeCast S256x128 x shapeCasts_S1x256x128_S256x128) natLt_8_32))
          (broadcastTo S256x128 (extractStridedSlice S256x1 ok S hk) broadcasts_S256x1_S256x128)))
      (mulf (sitofp .f32 (extui 32 (shapeCast S256x128 x shapeCasts_S1x256x128_S256x128) natLt_8_32))
        (broadcastTo S256x128 (extractStridedSlice S256x1 ok S hk) broadcasts_S256x1_S256x128)))
    (mulf (mulf (broadcast S256x128 (Scalar.ofBits .f32 0x3D4CCCCD#32)) (extractStridedSlice S256x128 o P h))
      (extractStridedSlice S256x128 o P h))

theorem slice_apply (P : FVec Ideal S256x256 .f32) (o : Fin 2 → Nat) (h : S256x256.Slices o S256x128) (r : Fin 256)
    (l : Fin 128) (d : Fin 256) (h0 : o 0 = 0) (h1 : d.val = o 1 + l.val) :
    extractStridedSlice S256x128 o P h (ix2 r l) = P (ix2 r d) :=
  extractStridedSlice_apply o P h (ix2 r l) (ix2 r d) fun a => match a with
    | ⟨0, _⟩ => by show r.val = o 0 + r.val; omega
    | ⟨1, _⟩ => by show d.val = o 1 + l.val; exact h1

theorem secB_apply (P : FVec Ideal S256x256 .f32) (S : FVec Ideal S256x18 .f32) (x : Vec Ideal S1x256x128 .i8)
    (o ok : Fin 2 → Nat) (h : S256x256.Slices o S256x128) (hk : S256x18.Slices ok S256x1) (r : Fin 256) (l : Fin 128)
    (d : Fin 256) (k : Fin 18) (h0 : o 0 = 0) (h1 : d.val = o 1 + l.val) (k0 : ok 0 = 0) (k1 : k.val = ok 1) :
    secB P S x o ok h hk (ix2 r l) = c95 * (byte (x (ix3 0 r l)) * S (ix2 r k)) * (byte (x (ix3 0 r l)) * S (ix2 r k))
      + c05 * P (ix2 r d) * P (ix2 r d) := by
  have e1 : (shapeCast S256x128 x shapeCasts_S1x256x128_S256x128 : IVec S256x128 8) (ix2 r l) = x (ix3 0 r l) :=
    (shapeCast_dropUnit_apply ![256, 128] _ _ _).trans
      (congrArg x (funext fun a => match a with | ⟨0, _⟩ => rfl | ⟨1, _⟩ => rfl | ⟨2, _⟩ => rfl))
  have e2 : broadcastTo S256x128 (extractStridedSlice S256x1 ok S hk) broadcasts_S256x1_S256x128 (ix2 r l) = S (ix2 r k) :=
    (broadcastTo_apply (s := S256x1) (t := S256x128) _ _ (ix2 r l) (ix2 r 0) fun a => match a with | ⟨0, _⟩ => rfl | ⟨1, _⟩ => rfl).trans
      (extractStridedSlice_apply ok S hk (ix2 r 0) (ix2 r k) fun a => match a with
        | ⟨0, _⟩ => by show r.val = ok 0 + r.val; omega
        | ⟨1, _⟩ => by show k.val = ok 1 + 0; omega)
  rw [← e1, ← e2, ← slice_apply P o h r l d h0 h1]
  rfl

/-- The update of a block. -/
theorem norm_apply (c1 c2 eps : Elt Ideal .f32) (M v : FVec Ideal S256x128 .f32) (x : S1x256x128.Idx) :
    k2_pay17 (F := Ideal) c1 c2 eps M v x
      = FloatOps.divf (F := Ideal) (φ := .f32) (FloatOps.divf (F := Ideal) (φ := .f32) (M (ix2 (x 1) (x 2))) c1)
        (FloatOps.sqrt (F := Ideal) (φ := .f32) (FloatOps.divf (F := Ideal) (φ := .f32) (v (ix2 (x 1) (x 2))) c2) + eps) := by
  unfold k2_pay17
  refine (shapeCast_addUnit_apply ![256, 128] _ _ _).trans ?_
  exact (congrArg _ (eq_ix2 (n0 := 256) (n1 := 128) fun a => x a.succ)).trans rfl

/-- The scale of a block. -/
theorem scale_apply (v : FVec Ideal S256x128 .f32) (r : Fin 256) :
    k2_pay19 (F := Ideal) v (ix2 r 0)
      = FloatOps.divf (F := Ideal) (φ := .f32)
        ((Finset.univ : Finset (Fin 128)).fold max (FloatOps.ofBits (F := Ideal) .f32 0xFF800000#32)
          (fun l => FloatOps.sqrt (F := Ideal) (φ := .f32) (v (ix2 r l))))
        (FloatOps.ofBits (F := Ideal) .f32 0x437F0000#32) := by
  unfold k2_pay19
  refine congrArg (FloatOps.divf (F := Ideal) (φ := .f32) · (FloatOps.ofBits (F := Ideal) .f32 0x437F0000#32)) ?_
  refine (shapeCast_apply (s := S256) (t := S256x1) _ _ (ix2 r 0) (ix1 r) ?_).trans ?_
  · rw [Shape.rowMajor_val_one, Shape.rowMajor_val_two]
    show r.val = r.val * 1 + 0
    omega
  · refine (Ideal.multiReduction_maximumf_single _ _ reduces_S256x128_S256 _ _ (ix1 r)).trans ?_
    refine congrArg (fun f => Finset.fold max (FloatOps.ofBits (F := Ideal) .f32 0xFF800000#32) f (Finset.univ : Finset (Fin 128)))
      (funext fun l => ?_)
    show FloatOps.sqrt (F := Ideal) (φ := .f32) (v _) = _
    refine congrArg (fun z => FloatOps.sqrt (F := Ideal) (φ := .f32) (v z)) ?_
    exact funext fun a => match a with | ⟨0, _⟩ => rfl | ⟨1, _⟩ => rfl

/-- The codes of a block. -/
theorem code_apply (v : FVec Ideal S256x128 .f32) (x : S1x256x128.Idx) :
    k2_pay20 (F := Ideal) v x = quant (FloatOps.divf (F := Ideal) (φ := .f32)
      (FloatOps.sqrt (F := Ideal) (φ := .f32) (v (ix2 (x 1) (x 2)))) (k2_pay19 (F := Ideal) v (ix2 (x 1) 0))) := by
  have e : broadcastTo S256x128 (k2_pay19 (F := Ideal) v) broadcasts_S256x1_S256x128 (ix2 (x 1) (x 2))
      = k2_pay19 (F := Ideal) v (ix2 (x 1) 0) :=
    broadcastTo_apply (s := S256x1) (t := S256x128) _ _ (ix2 (x 1) (x 2)) (ix2 (x 1) 0) fun a => match a with | ⟨0, _⟩ => rfl | ⟨1, _⟩ => rfl
  unfold k2_pay20
  refine (shapeCast_addUnit_apply ![256, 128] _ _ _).trans ?_
  refine (congrArg _ (eq_ix2 (n0 := 256) (n1 := 128) fun a => x a.succ)).trans ?_
  rw [← e]
  rfl

/-- The products of 256 rows with 256 rows of the basis. -/
theorem prod6_apply (t : Vec Ideal S1x256x2304 .bf16) (q : Vec Ideal S1x256x2304 .bf16) (r d : Fin 256) :
    k2_pay6 (F := Ideal) t q (ix2 r d) = ∑ k : Fin 2304, t (ix3 0 r k) * q (ix3 0 d k) := by
  unfold k2_pay6
  refine (dot_nt (M := 256) (N := 256) (K := 2304) (φ₁ := .bf16) (φ₂ := .bf16)
    dot_S256x2304_S256x2304_S256x256_1_1_0_0_n_n _ rfl (k2_pay2 (F := Ideal) t) (k2_pay5 (F := Ideal) q) (ix2 r d)).trans ?_
  refine sum_congr' fun k => congrArg₂ (· * ·) ?_ ?_
  · refine (shapeCast_dropUnit_apply ![256, 2304] _ _ _).trans (congrArg t ?_)
    funext a; match a with | ⟨0, _⟩ => rfl | ⟨1, _⟩ => rfl | ⟨2, _⟩ => rfl
  · refine (shapeCast_dropUnit_apply ![256, 2304] _ _ _).trans (congrArg q ?_)
    funext a; match a with | ⟨0, _⟩ => rfl | ⟨1, _⟩ => rfl | ⟨2, _⟩ => rfl
theorem prod7_apply (t : Vec Ideal S1x256x2304 .bf16) (q : Vec Ideal S1x256x2304 .bf16) (r d : Fin 256) :
    k2_pay7 (F := Ideal) t q (ix2 r d) = ∑ k : Fin 2304, t (ix3 0 r k) * q (ix3 0 d k) :=
  prod6_apply t q r d

theorem pay4_apply (s : Vec Ideal S1x256x18 .f32) (r : Fin 256) (k : Fin 18) :
    k2_pay4 (F := Ideal) s (ix2 r k) = s (ix3 0 r k) := by
  unfold k2_pay4
  refine (shapeCast_dropUnit_apply ![256, 18] _ _ _).trans (congrArg s ?_)
  funext a; match a with | ⟨0, _⟩ => rfl | ⟨1, _⟩ => rfl | ⟨2, _⟩ => rfl

/-! ## Which parts of the arrays a point's blocks are -/

theorem idx1 : ∀ t : Fin cfg2.N, win2_1.index t (0 : Fin 3) = t.val / 6 ∧ win2_1.index t (1 : Fin 3) = 0
    ∧ win2_1.index t (2 : Fin 3) = 0 := (by decide +kernel : ∀ t : Fin grid2.N, _)
theorem idx2 : ∀ t : Fin cfg2.N, win2_2.index t (0 : Fin 3) = t.val / 6 ∧ win2_2.index t (1 : Fin 3) = t.val % 6
    ∧ win2_2.index t (2 : Fin 3) = 0 := (by decide +kernel : ∀ t : Fin grid2.N, _)
theorem idx3 : ∀ t : Fin cfg2.N, win2_3.index t (0 : Fin 3) = t.val / 6 ∧ win2_3.index t (1 : Fin 3) = t.val % 6
    ∧ win2_3.index t (2 : Fin 3) = 0 := (by decide +kernel : ∀ t : Fin grid2.N, _)
theorem idx4 : ∀ t : Fin cfg2.N, win2_4.index t (0 : Fin 3) = t.val / 6 ∧ win2_4.index t (1 : Fin 3) = t.val % 6
    ∧ win2_4.index t (2 : Fin 3) = 0 := (by decide +kernel : ∀ t : Fin grid2.N, _)
theorem idx5 : ∀ t : Fin cfg2.N, win2_5.index t (0 : Fin 3) = t.val / 6 ∧ win2_5.index t (1 : Fin 3) = t.val % 6
    ∧ win2_5.index t (2 : Fin 3) = 0 := (by decide +kernel : ∀ t : Fin grid2.N, _)
theorem idx6 : ∀ t : Fin cfg2.N, win2_6.index t (0 : Fin 3) = t.val / 6 ∧ win2_6.index t (1 : Fin 3) = t.val % 6
    ∧ win2_6.index t (2 : Fin 3) = 0 := (by decide +kernel : ∀ t : Fin grid2.N, _)
theorem idx7 : ∀ t : Fin cfg2.N, win2_7.index t (0 : Fin 3) = t.val / 6 ∧ win2_7.index t (1 : Fin 3) = t.val % 6
    ∧ win2_7.index t (2 : Fin 3) = 0 := (by decide +kernel : ∀ t : Fin grid2.N, _)
theorem idx8 : ∀ t : Fin cfg2.N, win2_8.index t (0 : Fin 3) = t.val / 6 ∧ win2_8.index t (1 : Fin 3) = t.val % 6
    ∧ win2_8.index t (2 : Fin 3) = 0 := (by decide +kernel : ∀ t : Fin grid2.N, _)

theorem lt (t : Fin cfg2.N) : t.val < 54 := t.isLt

/-- The matrix a point works on. -/
abbrev mat (t : Fin cfg2.N) : Fin 9 := ⟨t.val / 6, by have := lt t; omega⟩
/-- Row `r` of a point's 256, as a row of the array. -/
abbrev row (t : Fin cfg2.N) (r : Fin 256) : Fin 1536 := ⟨256 * (t.val % 6) + r.val, by omega⟩

theorem emb6 (t : Fin cfg2.N) (j : S1x256x2304.Idx) :
    ((cfg2.win 6).blk t).view.emb j = ix3 (mat t) (row t (j 1)) (j 2) := by
  obtain ⟨e0, e1, e2⟩ := idx6 t
  have h0 : (j 0).val < 1 := (j 0).isLt
  funext a; apply Fin.ext
  match a with
  | ⟨0, _⟩ => show win2_6.index t (0 : Fin 3) * 1 + 1 * (j 0).val = t.val / 6; omega
  | ⟨1, _⟩ => show win2_6.index t (1 : Fin 3) * 256 + 1 * (j 1).val = 256 * (t.val % 6) + (j 1).val; omega
  | ⟨2, _⟩ => show win2_6.index t (2 : Fin 3) * 2304 + 1 * (j 2).val = (j 2).val; omega
theorem emb7 (t : Fin cfg2.N) (j : S1x256x2304.Idx) :
    ((cfg2.win 7).blk t).view.emb j = ix3 (mat t) (row t (j 1)) (j 2) := by
  obtain ⟨e0, e1, e2⟩ := idx7 t
  have h0 : (j 0).val < 1 := (j 0).isLt
  funext a; apply Fin.ext
  match a with
  | ⟨0, _⟩ => show win2_7.index t (0 : Fin 3) * 1 + 1 * (j 0).val = t.val / 6; omega
  | ⟨1, _⟩ => show win2_7.index t (1 : Fin 3) * 256 + 1 * (j 1).val = 256 * (t.val % 6) + (j 1).val; omega
  | ⟨2, _⟩ => show win2_7.index t (2 : Fin 3) * 2304 + 1 * (j 2).val = (j 2).val; omega
theorem emb8 (t : Fin cfg2.N) (j : S1x256x18.Idx) :
    ((cfg2.win 8).blk t).view.emb j = ix3 (mat t) (row t (j 1)) (j 2) := by
  obtain ⟨e0, e1, e2⟩ := idx8 t
  have h0 : (j 0).val < 1 := (j 0).isLt
  funext a; apply Fin.ext
  match a with
  | ⟨0, _⟩ => show win2_8.index t (0 : Fin 3) * 1 + 1 * (j 0).val = t.val / 6; omega
  | ⟨1, _⟩ => show win2_8.index t (1 : Fin 3) * 256 + 1 * (j 1).val = 256 * (t.val % 6) + (j 1).val; omega
  | ⟨2, _⟩ => show win2_8.index t (2 : Fin 3) * 18 + 1 * (j 2).val = (j 2).val; omega

variable (V : (c : Dev nD) → (b : Ref sig .tc) → Buf (Elt Ideal) ((c : Thread nD τ).loc b))

theorem iblk_1 (c : Dev nD) (t : Fin cfg2.N) (j : S1x2304x2304.Idx) :
    iblk2 V c 1 t j = V c main_v15 (ix3 (mat t) (j 1) (j 2)) := by
  obtain ⟨e0, e1, e2⟩ := idx1 t
  have h0 : (j 0).val < 1 := (j 0).isLt
  show V c main_v15 (((cfg2.win 1).blk t).view.emb j) = _
  refine congrArg (V c main_v15) ?_
  funext a; apply Fin.ext
  match a with
  | ⟨0, _⟩ => show win2_1.index t (0 : Fin 3) * 1 + 1 * (j 0).val = t.val / 6; omega
  | ⟨1, _⟩ => show win2_1.index t (1 : Fin 3) * 2304 + 1 * (j 1).val = (j 1).val; omega
  | ⟨2, _⟩ => show win2_1.index t (2 : Fin 3) * 2304 + 1 * (j 2).val = (j 2).val; omega
theorem iblk_2 (c : Dev nD) (t : Fin cfg2.N) (j : S1x256x2304.Idx) :
    iblk2 V c 2 t j = V c main_arg2 (ix3 (mat t) (row t (j 1)) (j 2)) := by
  obtain ⟨e0, e1, e2⟩ := idx2 t
  have h0 : (j 0).val < 1 := (j 0).isLt
  show V c main_arg2 (((cfg2.win 2).blk t).view.emb j) = _
  refine congrArg (V c main_arg2) ?_
  funext a; apply Fin.ext
  match a with
  | ⟨0, _⟩ => show win2_2.index t (0 : Fin 3) * 1 + 1 * (j 0).val = t.val / 6; omega
  | ⟨1, _⟩ => show win2_2.index t (1 : Fin 3) * 256 + 1 * (j 1).val = 256 * (t.val % 6) + (j 1).val; omega
  | ⟨2, _⟩ => show win2_2.index t (2 : Fin 3) * 2304 + 1 * (j 2).val = (j 2).val; omega
theorem iblk_3 (c : Dev nD) (t : Fin cfg2.N) (j : S1x256x2304.Idx) :
    iblk2 V c 3 t j = V c main_arg3 (ix3 (mat t) (row t (j 1)) (j 2)) := by
  obtain ⟨e0, e1, e2⟩ := idx3 t
  have h0 : (j 0).val < 1 := (j 0).isLt
  show V c main_arg3 (((cfg2.win 3).blk t).view.emb j) = _
  refine congrArg (V c main_arg3) ?_
  funext a; apply Fin.ext
  match a with
  | ⟨0, _⟩ => show win2_3.index t (0 : Fin 3) * 1 + 1 * (j 0).val = t.val / 6; omega
  | ⟨1, _⟩ => show win2_3.index t (1 : Fin 3) * 256 + 1 * (j 1).val = 256 * (t.val % 6) + (j 1).val; omega
  | ⟨2, _⟩ => show win2_3.index t (2 : Fin 3) * 2304 + 1 * (j 2).val = (j 2).val; omega
theorem iblk_4 (c : Dev nD) (t : Fin cfg2.N) (j : S1x256x2304.Idx) :
    iblk2 V c 4 t j = V c main_arg4 (ix3 (mat t) (row t (j 1)) (j 2)) := by
  obtain ⟨e0, e1, e2⟩ := idx4 t
  have h0 : (j 0).val < 1 := (j 0).isLt
  show V c main_arg4 (((cfg2.win 4).blk t).view.emb j) = _
  refine congrArg (V c main_arg4) ?_
  funext a; apply Fin.ext
  match a with
  | ⟨0, _⟩ => show win2_4.index t (0 : Fin 3) * 1 + 1 * (j 0).val = t.val / 6; omega
  | ⟨1, _⟩ => show win2_4.index t (1 : Fin 3) * 256 + 1 * (j 1).val = 256 * (t.val % 6) + (j 1).val; omega
  | ⟨2, _⟩ => show win2_4.index t (2 : Fin 3) * 2304 + 1 * (j 2).val = (j 2).val; omega
theorem iblk_5 (c : Dev nD) (t : Fin cfg2.N) (j : S1x256x18.Idx) :
    iblk2 V c 5 t j = V c main_arg5 (ix3 (mat t) (row t (j 1)) (j 2)) := by
  obtain ⟨e0, e1, e2⟩ := idx5 t
  have h0 : (j 0).val < 1 := (j 0).isLt
  show V c main_arg5 (((cfg2.win 5).blk t).view.emb j) = _
  refine congrArg (V c main_arg5) ?_
  funext a; apply Fin.ext
  match a with
  | ⟨0, _⟩ => show win2_5.index t (0 : Fin 3) * 1 + 1 * (j 0).val = t.val / 6; omega
  | ⟨1, _⟩ => show win2_5.index t (1 : Fin 3) * 256 + 1 * (j 1).val = 256 * (t.val % 6) + (j 1).val; omega
  | ⟨2, _⟩ => show win2_5.index t (2 : Fin 3) * 18 + 1 * (j 2).val = (j 2).val; omega
theorem idx0 : ∀ t : Fin cfg2.N, win2_0.index t (0 : Fin 2) = 0 ∧ win2_0.index t (1 : Fin 2) = 0 :=
  (by decide +kernel : ∀ t : Fin grid2.N, _)
theorem iblk_0 (c : Dev nD) (t : Fin cfg2.N) (j : S9x5.Idx) : iblk2 V c 0 t j = V c main_v5 j := by
  obtain ⟨e0, e1⟩ := idx0 t
  show V c main_v5 (((cfg2.win 0).blk t).view.emb j) = _
  refine congrArg (V c main_v5) ?_
  funext a; apply Fin.ext
  match a with
  | ⟨0, _⟩ => show win2_0.index t (0 : Fin 2) * 9 + 1 * (j 0).val = (j 0).val; omega
  | ⟨1, _⟩ => show win2_0.index t (1 : Fin 2) * 5 + 1 * (j 1).val = (j 1).val; omega
theorem off1 : ∀ t : Fin cfg2.N, k2_off1 (grid2.coords t) (0 : Fin 2) = t.val / 6
    ∧ k2_off1 (grid2.coords t) (1 : Fin 2) = 0 := (by decide +kernel : ∀ t : Fin grid2.N, _)
theorem const1 (c : Dev nD) (t : Fin cfg2.N) (inb) (x : S1x1.Idx) :
    View.ld (iblk2 V c 0 t) (Rect.unit (s := S9x5) (k2_off1 (grid2.coords t)) S1x1.size inb) x
      = V c main_v5 (ix2 (mat t) 0) := by
  obtain ⟨e0, e1⟩ := off1 t
  have h0 : (x 0).val < 1 := (x 0).isLt
  have h1 : (x 1).val < 1 := (x 1).isLt
  refine Eq.trans (View.ld_unit_apply_of (iblk2 V c 0 t) _ _ inb x (ix2 (mat t) 0) fun a => ?_) (iblk_0 V c t _)
  match a with
  | ⟨0, _⟩ => show t.val / 6 = k2_off1 (grid2.coords t) (0 : Fin 2) + (x 0).val; omega
  | ⟨1, _⟩ => show 0 = k2_off1 (grid2.coords t) (1 : Fin 2) + (x 1).val; omega
theorem off2 : ∀ t : Fin cfg2.N, k2_off2 (grid2.coords t) (0 : Fin 2) = t.val / 6
    ∧ k2_off2 (grid2.coords t) (1 : Fin 2) = 1 := (by decide +kernel : ∀ t : Fin grid2.N, _)
theorem const2 (c : Dev nD) (t : Fin cfg2.N) (inb) (x : S1x1.Idx) :
    View.ld (iblk2 V c 0 t) (Rect.unit (s := S9x5) (k2_off2 (grid2.coords t)) S1x1.size inb) x
      = V c main_v5 (ix2 (mat t) 1) := by
  obtain ⟨e0, e1⟩ := off2 t
  have h0 : (x 0).val < 1 := (x 0).isLt
  have h1 : (x 1).val < 1 := (x 1).isLt
  refine Eq.trans (View.ld_unit_apply_of (iblk2 V c 0 t) _ _ inb x (ix2 (mat t) 1) fun a => ?_) (iblk_0 V c t _)
  match a with
  | ⟨0, _⟩ => show t.val / 6 = k2_off2 (grid2.coords t) (0 : Fin 2) + (x 0).val; omega
  | ⟨1, _⟩ => show 1 = k2_off2 (grid2.coords t) (1 : Fin 2) + (x 1).val; omega
theorem off3 : ∀ t : Fin cfg2.N, k2_off3 (grid2.coords t) (0 : Fin 2) = t.val / 6
    ∧ k2_off3 (grid2.coords t) (1 : Fin 2) = 2 := (by decide +kernel : ∀ t : Fin grid2.N, _)
theorem const3 (c : Dev nD) (t : Fin cfg2.N) (inb) (x : S1x1.Idx) :
    View.ld (iblk2 V c 0 t) (Rect.unit (s := S9x5) (k2_off3 (grid2.coords t)) S1x1.size inb) x
      = V c main_v5 (ix2 (mat t) 2) := by
  obtain ⟨e0, e1⟩ := off3 t
  have h0 : (x 0).val < 1 := (x 0).isLt
  have h1 : (x 1).val < 1 := (x 1).isLt
  refine Eq.trans (View.ld_unit_apply_of (iblk2 V c 0 t) _ _ inb x (ix2 (mat t) 2) fun a => ?_) (iblk_0 V c t _)
  match a with
  | ⟨0, _⟩ => show t.val / 6 = k2_off3 (grid2.coords t) (0 : Fin 2) + (x 0).val; omega
  | ⟨1, _⟩ => show 2 = k2_off3 (grid2.coords t) (1 : Fin 2) + (x 1).val; omega

/-! ## Block `k` of a point -/

/-- The 256 rows of the basis block `k` is in. -/
def qB (c : Dev nD) (t : Fin cfg2.N) (k : Fin 18) : Vec Ideal S1x256x2304 .bf16 :=
  View.ld (iblk2 V c 1 t) (Rect.unit (s := S1x2304x2304) ![0, 256 * (k.val / 2), 0] ![1, 256, 2304] (fun a => by
    have := k.isLt
    match a with
    | ⟨0, _⟩ => show 0 + 1 ≤ 1; omega
    | ⟨1, _⟩ => show 256 * (k.val / 2) + 256 ≤ 2304; omega
    | ⟨2, _⟩ => show 0 + 2304 ≤ 2304; omega))
/-- Its codes. -/
def xB (c : Dev nD) (t : Fin cfg2.N) (k : Fin 18) : Vec Ideal S1x256x128 .i8 :=
  View.ld (iblk2 V c 4 t) (Rect.unit (s := S1x256x2304) ![0, 0, 128 * k.val] ![1, 256, 128] (fun a => by
    have := k.isLt
    match a with
    | ⟨0, _⟩ => show 0 + 1 ≤ 1; omega
    | ⟨1, _⟩ => show 0 + 256 ≤ 256; omega
    | ⟨2, _⟩ => show 128 * k.val + 128 ≤ 2304; omega))

theorem slices1 (k : Fin 18) : S256x256.Slices ![0, 128 * (k.val % 2)] S256x128 :=
  ⟨rfl, fun a => match a with
    | ⟨0, _⟩ => by show 0 + 256 ≤ 256; omega
    | ⟨1, _⟩ => by show 128 * (k.val % 2) + 128 ≤ 256; omega⟩
theorem slices2 (k : Fin 18) : S256x18.Slices ![0, k.val] S256x1 :=
  ⟨rfl, fun a => match a with
    | ⟨0, _⟩ => by show 0 + 256 ≤ 256; omega
    | ⟨1, _⟩ => by show k.val + 1 ≤ 18; omega⟩

/-- Its new second moment, and its 128 columns of the rotated momentum. -/
def vB (c : Dev nD) (t : Fin cfg2.N) (k : Fin 18) : FVec Ideal S256x128 .f32 :=
  secB (k2_pay6 (F := Ideal) (iblk2 V c 2 t) (qB V c t k)) (k2_pay4 (F := Ideal) (iblk2 V c 5 t)) (xB V c t k)
    ![0, 128 * (k.val % 2)] ![0, k.val] (slices1 k) (slices2 k)
def mB (c : Dev nD) (t : Fin cfg2.N) (k : Fin 18) : FVec Ideal S256x128 .f32 :=
  extractStridedSlice S256x128 ![0, 128 * (k.val % 2)] (k2_pay7 (F := Ideal) (iblk2 V c 3 t) (qB V c t k)) (slices1 k)

/-- The three scalars of a point. -/
def s1 (c : Dev nD) (t : Fin cfg2.N) : Elt Ideal .f32 :=
  View.ld (iblk2 V c 0 t) (Rect.unit (s := S9x5) (k2_off1 (grid2.coords t)) S1x1.size (k2_off1_inb (grid2.coords t)))
    (Shape.Idx.first (Nat.lt_of_lt_of_eq Nat.one_pos numel1_S1x1.symm))
def s2 (c : Dev nD) (t : Fin cfg2.N) : Elt Ideal .f32 :=
  View.ld (iblk2 V c 0 t) (Rect.unit (s := S9x5) (k2_off2 (grid2.coords t)) S1x1.size (k2_off2_inb (grid2.coords t)))
    (Shape.Idx.first (Nat.lt_of_lt_of_eq Nat.one_pos numel1_S1x1.symm))
def s3 (c : Dev nD) (t : Fin cfg2.N) : Elt Ideal .f32 :=
  View.ld (iblk2 V c 0 t) (Rect.unit (s := S9x5) (k2_off3 (grid2.coords t)) S1x1.size (k2_off3_inb (grid2.coords t)))
    (Shape.Idx.first (Nat.lt_of_lt_of_eq Nat.one_pos numel1_S1x1.symm))

/-- What is stored of a block. -/
def nB (c : Dev nD) (t : Fin cfg2.N) (k : Fin 18) : Vec Ideal S1x256x128 .bf16 :=
  k2_pay17 (F := Ideal) (s1 V c t) (s2 V c t) (s3 V c t) (mB V c t k) (vB V c t k)
def cB (c : Dev nD) (t : Fin cfg2.N) (k : Fin 18) : Vec Ideal S1x256x128 .i8 := k2_pay20 (F := Ideal) (vB V c t k)
def sB (c : Dev nD) (t : Fin cfg2.N) (k : Fin 18) : FVec Ideal S256x1 .f32 := k2_pay19 (F := Ideal) (vB V c t k)

/-- A product of a point, from where its blocks lie in the arrays. -/
theorem rot_of (x : Vec Ideal S1x256x2304 .bf16) (q : Vec Ideal S1x256x2304 .bf16) (x' : Vec Ideal S9x1536x2304 .bf16)
    (q' : Vec Ideal S9x2304x2304 .bf16) (b : Fin 9) (i : Fin 1536) (c : Fin 2304) (r d : Fin 256)
    (h1 : ∀ l : Fin 2304, x (ix3 0 r l) = x' (ix3 b i l)) (h2 : ∀ l : Fin 2304, q (ix3 0 d l) = q' (ix3 b c l)) :
    (∑ l : Fin 2304, x (ix3 0 r l) * q (ix3 0 d l)) = rot x' q' b i c :=
  sum_congr' fun l => congrArg₂ (· * ·) (h1 l) (h2 l)

theorem qB_apply (c : Dev nD) (t : Fin cfg2.N) (k : Fin 18) (l : Fin 128) (d : Fin 256)
    (hd : d.val = 128 * (k.val % 2) + l.val) (p : Fin 2304) :
    qB V c t k (ix3 0 d p) = V c main_v15 (ix3 (mat t) (colOf k l) p) := by
  unfold qB
  refine (View.ld_unit_apply_of (iblk2 V c 1 t) _ _ _ (ix3 0 d p) (ix3 0 (colOf k l) p) fun a => ?_).trans (iblk_1 V c t _)
  match a with
  | ⟨0, _⟩ => rfl
  | ⟨1, _⟩ => show 128 * k.val + l.val = 256 * (k.val / 2) + d.val; omega
  | ⟨2, _⟩ => show p.val = 0 + p.val; omega
theorem xB_apply (c : Dev nD) (t : Fin cfg2.N) (k : Fin 18) (r : Fin 256) (l : Fin 128) :
    xB V c t k (ix3 0 r l) = V c main_arg4 (ix3 (mat t) (row t r) (colOf k l)) := by
  unfold xB
  refine (View.ld_unit_apply_of (iblk2 V c 4 t) _ _ _ (ix3 0 r l) (ix3 0 r (colOf k l)) fun a => ?_).trans (iblk_4 V c t _)
  match a with
  | ⟨0, _⟩ => rfl
  | ⟨1, _⟩ => show r.val = 0 + r.val; omega
  | ⟨2, _⟩ => rfl

theorem vB_apply (c : Dev nD) (t : Fin cfg2.N) (k : Fin 18) (r : Fin 256) (l : Fin 128) :
    vB V c t k (ix2 r l) = second (V c main_arg2) (V c main_v15) (V c main_arg4) (V c main_arg5) (mat t) (row t r)
      (colOf k l) := by
  have hd : (⟨128 * (k.val % 2) + l.val, by omega⟩ : Fin 256).val = 128 * (k.val % 2) + l.val := rfl
  refine (secB_apply _ _ _ _ _ (slices1 k) (slices2 k) r l ⟨128 * (k.val % 2) + l.val, by omega⟩ k rfl rfl rfl rfl).trans ?_
  have e1 := xB_apply V c t k r l
  have e2 : k2_pay4 (F := Ideal) (iblk2 V c 5 t) (ix2 r k) = V c main_arg5 (ix3 (mat t) (row t r) k) :=
    (pay4_apply _ r k).trans (iblk_5 V c t _)
  have e3 := (prod6_apply (iblk2 V c 2 t) (qB V c t k) r ⟨128 * (k.val % 2) + l.val, by omega⟩).trans
    (rot_of _ _ (V c main_arg2) (V c main_v15) (mat t) (row t r) (colOf k l) r _ (fun p => iblk_2 V c t _)
      (fun p => qB_apply V c t k l _ hd p))
  have ek : blockOf (colOf k l) = k := Fin.ext (by show (128 * k.val + l.val) / 128 = k.val; omega)
  rw [e1, e2, e3]
  unfold second old
  rw [ek]

theorem mB_apply (c : Dev nD) (t : Fin cfg2.N) (k : Fin 18) (r : Fin 256) (l : Fin 128) :
    mB V c t k (ix2 r l) = rot (V c main_arg3) (V c main_v15) (mat t) (row t r) (colOf k l) := by
  have hd : (⟨128 * (k.val % 2) + l.val, by omega⟩ : Fin 256).val = 128 * (k.val % 2) + l.val := rfl
  refine (slice_apply _ _ (slices1 k) r l ⟨128 * (k.val % 2) + l.val, by omega⟩ rfl rfl).trans ?_
  exact (prod7_apply (iblk2 V c 3 t) (qB V c t k) r ⟨128 * (k.val % 2) + l.val, by omega⟩).trans
    (rot_of _ _ (V c main_arg3) (V c main_v15) (mat t) (row t r) (colOf k l) r _ (fun p => iblk_3 V c t _)
      (fun p => qB_apply V c t k l _ hd p))

/-! ## The three result arrays, as functions of the arrays the region is given -/

def G6 (t m : Vec Ideal S9x1536x2304 .bf16) (q : Vec Ideal S9x2304x2304 .bf16) (x : Vec Ideal S9x1536x2304 .i8)
    (s : Vec Ideal S9x1536x18 .f32) (k : Vec Ideal S9x5 .f32) : Vec Ideal S9x1536x2304 .bf16 :=
  update t m q x s (fun b => k (ix2 b 0)) (fun b => k (ix2 b 1)) (fun b => k (ix2 b 2))
def G7 (t : Vec Ideal S9x1536x2304 .bf16) (q : Vec Ideal S9x2304x2304 .bf16) (x : Vec Ideal S9x1536x2304 .i8)
    (s : Vec Ideal S9x1536x18 .f32) : Vec Ideal S9x1536x2304 .i8 := codeNew t q x s
def G8 (t : Vec Ideal S9x1536x2304 .bf16) (q : Vec Ideal S9x2304x2304 .bf16) (x : Vec Ideal S9x1536x2304 .i8)
    (s : Vec Ideal S9x1536x18 .f32) : Vec Ideal S9x1536x18 .f32 := scaleNew t q x s

theorem nB_apply (c : Dev nD) (t : Fin cfg2.N) (k : Fin 18) (x : S1x256x128.Idx) : nB V c t k x
    = G6 (V c main_arg2) (V c main_arg3) (V c main_v15) (V c main_arg4) (V c main_arg5) (V c main_v5)
      (ix3 (mat t) (row t (x 1)) (colOf k (x 2))) := by
  refine (norm_apply _ _ _ _ _ x).trans ?_
  have e1 : s1 V c t = V c main_v5 (ix2 (mat t) 0) := const1 V c t _ _
  have e2 : s2 V c t = V c main_v5 (ix2 (mat t) 1) := const2 V c t _ _
  have e3 : s3 V c t = V c main_v5 (ix2 (mat t) 2) := const3 V c t _ _
  rw [e1, e2, e3, vB_apply V c t k (x 1) (x 2), mB_apply V c t k (x 1) (x 2)]
  rfl

theorem sB_apply (c : Dev nD) (t : Fin cfg2.N) (k : Fin 18) (r : Fin 256) : sB V c t k (ix2 r 0)
    = G8 (V c main_arg2) (V c main_v15) (V c main_arg4) (V c main_arg5) (ix3 (mat t) (row t r) k) := by
  refine (scale_apply _ r).trans ?_
  simp only [vB_apply V c t k r]
  rfl

theorem cB_apply (c : Dev nD) (t : Fin cfg2.N) (k : Fin 18) (x : S1x256x128.Idx) : cB V c t k x
    = G7 (V c main_arg2) (V c main_v15) (V c main_arg4) (V c main_arg5) (ix3 (mat t) (row t (x 1)) (colOf k (x 2))) := by
  refine (code_apply _ x).trans ?_
  have e := sB_apply V c t k (x 1)
  have ek : blockOf (colOf k (x 2)) = k := Fin.ext (by
    have h : (x 2).val < 128 := (x 2).isLt
    show (128 * k.val + (x 2).val) / 128 = k.val; omega)
  rw [vB_apply V c t k (x 1) (x 2)]
  unfold sB at e
  rw [e]
  show _ = quant (FloatOps.divf (F := Ideal) (φ := .f32) _ (scaleNew _ _ _ _ (ix3 (mat t) (row t (x 1)) (blockOf (colOf k (x 2))))))
  rw [ek]
  rfl

theorem nTile (c : Dev nD) (t : Fin cfg2.N) (k : Fin 18) (x : S1x256x128.Idx) (y : S1x256x2304.Idx)
    (h1 : (y 1).val = (x 1).val) (h2 : (y 2).val = 128 * k.val + (x 2).val) : nB V c t k x
      = G6 (V c main_arg2) (V c main_arg3) (V c main_v15) (V c main_arg4) (V c main_arg5) (V c main_v5)
        (ix3 (mat t) (row t (y 1)) (y 2)) := by
  have e1 : y 1 = x 1 := Fin.ext h1
  have e2 : y 2 = colOf k (x 2) := Fin.ext h2
  rw [e1, e2]
  exact nB_apply V c t k x
theorem cTile (c : Dev nD) (t : Fin cfg2.N) (k : Fin 18) (x : S1x256x128.Idx) (y : S1x256x2304.Idx)
    (h1 : (y 1).val = (x 1).val) (h2 : (y 2).val = 128 * k.val + (x 2).val) : cB V c t k x
      = G7 (V c main_arg2) (V c main_v15) (V c main_arg4) (V c main_arg5) (ix3 (mat t) (row t (y 1)) (y 2)) := by
  have e1 : y 1 = x 1 := Fin.ext h1
  have e2 : y 2 = colOf k (x 2) := Fin.ext h2
  rw [e1, e2]
  exact cB_apply V c t k x
theorem sTile (c : Dev nD) (t : Fin cfg2.N) (k : Fin 18) (i : S256x1.Idx) (y : S256x18.Idx)
    (h0 : (i 0).val = (y 0).val) (h1 : (y 1).val = k.val) : sB V c t k i
      = G8 (V c main_arg2) (V c main_v15) (V c main_arg4) (V c main_arg5) (ix3 (mat t) (row t (y 0)) (y 1)) := by
  have e0 : y 0 = i 0 := Fin.ext h0.symm
  have e1 : y 1 = k := Fin.ext h1
  have ei : i = ix2 (i 0) 0 := funext fun a => match a with
    | ⟨0, _⟩ => rfl
    | ⟨1, _⟩ => Fin.ext (by have h : (i 1).val < 1 := (i 1).isLt; show (i 1).val = 0; omega)
  rw [e0, e1]
  exact (congrArg (sB V c t k) ei).trans (sB_apply V c t k (i 0))

/-! ## What one point stores -/

/-- The 18 scales of a point's rows, side by side. -/
def allS (c : Dev nD) (t : Fin cfg2.N) : FVec Ideal S256x18 .f32 :=
  concatenate S256x18 1 [⟨S256x1, sB V c t ⟨0, by decide⟩⟩, ⟨S256x1, sB V c t ⟨1, by decide⟩⟩, ⟨S256x1, sB V c t ⟨2, by decide⟩⟩, ⟨S256x1, sB V c t ⟨3, by decide⟩⟩
    , ⟨S256x1, sB V c t ⟨4, by decide⟩⟩, ⟨S256x1, sB V c t ⟨5, by decide⟩⟩, ⟨S256x1, sB V c t ⟨6, by decide⟩⟩, ⟨S256x1, sB V c t ⟨7, by decide⟩⟩
    , ⟨S256x1, sB V c t ⟨8, by decide⟩⟩, ⟨S256x1, sB V c t ⟨9, by decide⟩⟩, ⟨S256x1, sB V c t ⟨10, by decide⟩⟩, ⟨S256x1, sB V c t ⟨11, by decide⟩⟩
    , ⟨S256x1, sB V c t ⟨12, by decide⟩⟩, ⟨S256x1, sB V c t ⟨13, by decide⟩⟩, ⟨S256x1, sB V c t ⟨14, by decide⟩⟩, ⟨S256x1, sB V c t ⟨15, by decide⟩⟩
    , ⟨S256x1, sB V c t ⟨16, by decide⟩⟩, ⟨S256x1, sB V c t ⟨17, by decide⟩⟩]
    concatenates_S256x1_S256x1_S256x1_S256x1_S256x1_S256x1_S256x1_S256x1_S256x1_S256x1_S256x1_S256x1_S256x1_S256x1_S256x1_S256x1_S256x1_S256x1_S256x18_d1

theorem blockS (c : Dev nD) (t : Fin cfg2.N) (y : S1x256x18.Idx) : (outsAt2 V c t).2.2 y
    = G8 (V c main_arg2) (V c main_v15) (V c main_arg4) (V c main_arg5) (ix3 (mat t) (row t (y 1)) (y 2)) := by
  have e : (outsAt2 V c t).2.2 = k2_pay1 (F := Ideal) (allS V c t) := by
    unfold outsAt2
    frame_out
    rfl
  rw [e]
  unfold k2_pay1
  refine (shapeCast_addUnit_apply ![256, 18] _ _ _).trans ?_
  refine (congrArg (allS V c t) (eq_ix2 (n0 := 256) (n1 := 18) fun a => y a.succ)).trans ?_
  unfold allS
  concat_tiles i h
  · exact sTile V c t ⟨0, by decide⟩ i (ix2 (y 1) (y 2)) h0 h
  · exact sTile V c t ⟨1, by decide⟩ i (ix2 (y 1) (y 2)) h0 h
  · exact sTile V c t ⟨2, by decide⟩ i (ix2 (y 1) (y 2)) h0 h
  · exact sTile V c t ⟨3, by decide⟩ i (ix2 (y 1) (y 2)) h0 h
  · exact sTile V c t ⟨4, by decide⟩ i (ix2 (y 1) (y 2)) h0 h
  · exact sTile V c t ⟨5, by decide⟩ i (ix2 (y 1) (y 2)) h0 h
  · exact sTile V c t ⟨6, by decide⟩ i (ix2 (y 1) (y 2)) h0 h
  · exact sTile V c t ⟨7, by decide⟩ i (ix2 (y 1) (y 2)) h0 h
  · exact sTile V c t ⟨8, by decide⟩ i (ix2 (y 1) (y 2)) h0 h
  · exact sTile V c t ⟨9, by decide⟩ i (ix2 (y 1) (y 2)) h0 h
  · exact sTile V c t ⟨10, by decide⟩ i (ix2 (y 1) (y 2)) h0 h
  · exact sTile V c t ⟨11, by decide⟩ i (ix2 (y 1) (y 2)) h0 h
  · exact sTile V c t ⟨12, by decide⟩ i (ix2 (y 1) (y 2)) h0 h
  · exact sTile V c t ⟨13, by decide⟩ i (ix2 (y 1) (y 2)) h0 h
  · exact sTile V c t ⟨14, by decide⟩ i (ix2 (y 1) (y 2)) h0 h
  · exact sTile V c t ⟨15, by decide⟩ i (ix2 (y 1) (y 2)) h0 h
  · exact sTile V c t ⟨16, by decide⟩ i (ix2 (y 1) (y 2)) h0 h
  · exact sTile V c t ⟨17, by decide⟩ i (ix2 (y 1) (y 2)) h0 h

end Cert.Proof.Rot2

end
-- ==== Proof.Rot2Out.lean ====
/- What the rotated-basis kernel stores at a point in its two 128-column-block outputs, assembled from the blocks, and what its
   three result arrays hold after the run (`final6`, `final7`, `final8`). -/
module

public import proofs.«01_k».proof.Proof.Gen.KernelIdeal.Frame
public import proofs.«01_k».proof.Proof.Rot2
public import proofs.«01_k».proof.Proof.Dot
public import Idealize.ShloMosaic.Lib.Pipeline.ValueKit.Tiles

@[expose] public section

noncomputable section

namespace Cert.Proof.Rot2

open Cert.KernelIdeal Cert.KernelIdeal.Gen Idealize.ShloMosaic Idealize.ShloMosaic.TcCoe Idealize.ShloMosaic.ValueIdx
  Idealize.ShloMosaic.Pipeline Idealize.SL.Sem Cert.Proof.Spec Cert.Proof.Dot

variable (V : (c : Dev nD) → (b : Ref sig .tc) → Buf (Elt Ideal) ((c : Thread nD τ).loc b))

theorem outN (c : Dev nD) (t : Fin cfg2.N) : (outsAt2 V c t).1 = View.canon [⟨Rect.unit (s := S1x256x2304) ![0, 0, 2176] ![1, 256, 128] inb_S1x256x2304_S1x256x128_0_0_2176, nB V c t ⟨17, by decide⟩⟩,
      ⟨Rect.unit (s := S1x256x2304) ![0, 0, 2048] ![1, 256, 128] inb_S1x256x2304_S1x256x128_0_0_2048, nB V c t ⟨16, by decide⟩⟩,
      ⟨Rect.unit (s := S1x256x2304) ![0, 0, 1920] ![1, 256, 128] inb_S1x256x2304_S1x256x128_0_0_1920, nB V c t ⟨15, by decide⟩⟩,
      ⟨Rect.unit (s := S1x256x2304) ![0, 0, 1792] ![1, 256, 128] inb_S1x256x2304_S1x256x128_0_0_1792, nB V c t ⟨14, by decide⟩⟩,
      ⟨Rect.unit (s := S1x256x2304) ![0, 0, 1664] ![1, 256, 128] inb_S1x256x2304_S1x256x128_0_0_1664, nB V c t ⟨13, by decide⟩⟩,
      ⟨Rect.unit (s := S1x256x2304) ![0, 0, 1536] ![1, 256, 128] inb_S1x256x2304_S1x256x128_0_0_1536, nB V c t ⟨12, by decide⟩⟩,
      ⟨Rect.unit (s := S1x256x2304) ![0, 0, 1408] ![1, 256, 128] inb_S1x256x2304_S1x256x128_0_0_1408, nB V c t ⟨11, by decide⟩⟩,
      ⟨Rect.unit (s := S1x256x2304) ![0, 0, 1280] ![1, 256, 128] inb_S1x256x2304_S1x256x128_0_0_1280, nB V c t ⟨10, by decide⟩⟩,
      ⟨Rect.unit (s := S1x256x2304) ![0, 0, 1152] ![1, 256, 128] inb_S1x256x2304_S1x256x128_0_0_1152, nB V c t ⟨9, by decide⟩⟩,
      ⟨Rect.unit (s := S1x256x2304) ![0, 0, 1024] ![1, 256, 128] inb_S1x256x2304_S1x256x128_0_0_1024, nB V c t ⟨8, by decide⟩⟩,
      ⟨Rect.unit (s := S1x256x2304) ![0, 0, 896] ![1, 256, 128] inb_S1x256x2304_S1x256x128_0_0_896, nB V c t ⟨7, by decide⟩⟩,
      ⟨Rect.unit (s := S1x256x2304) ![0, 0, 768] ![1, 256, 128] inb_S1x256x2304_S1x256x128_0_0_768, nB V c t ⟨6, by decide⟩⟩,
      ⟨Rect.unit (s := S1x256x2304) ![0, 0, 640] ![1, 256, 128] inb_S1x256x2304_S1x256x128_0_0_640, nB V c t ⟨5, by decide⟩⟩,
      ⟨Rect.unit (s := S1x256x2304) ![0, 0, 512] ![1, 256, 128] inb_S1x256x2304_S1x256x128_0_0_512, nB V c t ⟨4, by decide⟩⟩,
      ⟨Rect.unit (s := S1x256x2304) ![0, 0, 384] ![1, 256, 128] inb_S1x256x2304_S1x256x128_0_0_384, nB V c t ⟨3, by decide⟩⟩,
      ⟨Rect.unit (s := S1x256x2304) ![0, 0, 256] ![1, 256, 128] inb_S1x256x2304_S1x256x128_0_0_256, nB V c t ⟨2, by decide⟩⟩,
      ⟨Rect.unit (s := S1x256x2304) ![0, 0, 128] ![1, 256, 128] inb_S1x256x2304_S1x256x128_0_0_128, nB V c t ⟨1, by decide⟩⟩,
      ⟨Rect.unit (s := S1x256x2304) ![0, 0, 0] ![1, 256, 128] inb_S1x256x2304_S1x256x128_0_0_0, nB V c t ⟨0, by decide⟩⟩] := by
  unfold outsAt2
  frame_out
  rfl

theorem blockN (c : Dev nD) (t : Fin cfg2.N) (y : S1x256x2304.Idx) : (outsAt2 V c t).1 y
    = G6 (V c main_arg2) (V c main_arg3) (V c main_v15) (V c main_arg4) (V c main_arg5) (V c main_v5) (ix3 (mat t) (row t (y 1)) (y 2)) := by
  rw [outN]
  canon_tiles x h
  · exact nTile V c t ⟨17, by decide⟩ x y h1 h2
  · exact nTile V c t ⟨16, by decide⟩ x y h1 h2
  · exact nTile V c t ⟨15, by decide⟩ x y h1 h2
  · exact nTile V c t ⟨14, by decide⟩ x y h1 h2
  · exact nTile V c t ⟨13, by decide⟩ x y h1 h2
  · exact nTile V c t ⟨12, by decide⟩ x y h1 h2
  · exact nTile V c t ⟨11, by decide⟩ x y h1 h2
  · exact nTile V c t ⟨10, by decide⟩ x y h1 h2
  · exact nTile V c t ⟨9, by decide⟩ x y h1 h2
  · exact nTile V c t ⟨8, by decide⟩ x y h1 h2
  · exact nTile V c t ⟨7, by decide⟩ x y h1 h2
  · exact nTile V c t ⟨6, by decide⟩ x y h1 h2
  · exact nTile V c t ⟨5, by decide⟩ x y h1 h2
  · exact nTile V c t ⟨4, by decide⟩ x y h1 h2
  · exact nTile V c t ⟨3, by decide⟩ x y h1 h2
  · exact nTile V c t ⟨2, by decide⟩ x y h1 h2
  · exact nTile V c t ⟨1, by decide⟩ x y h1 h2
  · exact nTile V c t ⟨0, by decide⟩ x y h1 (by show _ = 128 * 0 + _; omega)

theorem outC (c : Dev nD) (t : Fin cfg2.N) : (outsAt2 V c t).2.1 = View.canon [⟨Rect.unit (s := S1x256x2304) ![0, 0, 2176] ![1, 256, 128] inb_S1x256x2304_S1x256x128_0_0_2176, cB V c t ⟨17, by decide⟩⟩,
      ⟨Rect.unit (s := S1x256x2304) ![0, 0, 2048] ![1, 256, 128] inb_S1x256x2304_S1x256x128_0_0_2048, cB V c t ⟨16, by decide⟩⟩,
      ⟨Rect.unit (s := S1x256x2304) ![0, 0, 1920] ![1, 256, 128] inb_S1x256x2304_S1x256x128_0_0_1920, cB V c t ⟨15, by decide⟩⟩,
      ⟨Rect.unit (s := S1x256x2304) ![0, 0, 1792] ![1, 256, 128] inb_S1x256x2304_S1x256x128_0_0_1792, cB V c t ⟨14, by decide⟩⟩,
      ⟨Rect.unit (s := S1x256x2304) ![0, 0, 1664] ![1, 256, 128] inb_S1x256x2304_S1x256x128_0_0_1664, cB V c t ⟨13, by decide⟩⟩,
      ⟨Rect.unit (s := S1x256x2304) ![0, 0, 1536] ![1, 256, 128] inb_S1x256x2304_S1x256x128_0_0_1536, cB V c t ⟨12, by decide⟩⟩,
      ⟨Rect.unit (s := S1x256x2304) ![0, 0, 1408] ![1, 256, 128] inb_S1x256x2304_S1x256x128_0_0_1408, cB V c t ⟨11, by decide⟩⟩,
      ⟨Rect.unit (s := S1x256x2304) ![0, 0, 1280] ![1, 256, 128] inb_S1x256x2304_S1x256x128_0_0_1280, cB V c t ⟨10, by decide⟩⟩,
      ⟨Rect.unit (s := S1x256x2304) ![0, 0, 1152] ![1, 256, 128] inb_S1x256x2304_S1x256x128_0_0_1152, cB V c t ⟨9, by decide⟩⟩,
      ⟨Rect.unit (s := S1x256x2304) ![0, 0, 1024] ![1, 256, 128] inb_S1x256x2304_S1x256x128_0_0_1024, cB V c t ⟨8, by decide⟩⟩,
      ⟨Rect.unit (s := S1x256x2304) ![0, 0, 896] ![1, 256, 128] inb_S1x256x2304_S1x256x128_0_0_896, cB V c t ⟨7, by decide⟩⟩,
      ⟨Rect.unit (s := S1x256x2304) ![0, 0, 768] ![1, 256, 128] inb_S1x256x2304_S1x256x128_0_0_768, cB V c t ⟨6, by decide⟩⟩,
      ⟨Rect.unit (s := S1x256x2304) ![0, 0, 640] ![1, 256, 128] inb_S1x256x2304_S1x256x128_0_0_640, cB V c t ⟨5, by decide⟩⟩,
      ⟨Rect.unit (s := S1x256x2304) ![0, 0, 512] ![1, 256, 128] inb_S1x256x2304_S1x256x128_0_0_512, cB V c t ⟨4, by decide⟩⟩,
      ⟨Rect.unit (s := S1x256x2304) ![0, 0, 384] ![1, 256, 128] inb_S1x256x2304_S1x256x128_0_0_384, cB V c t ⟨3, by decide⟩⟩,
      ⟨Rect.unit (s := S1x256x2304) ![0, 0, 256] ![1, 256, 128] inb_S1x256x2304_S1x256x128_0_0_256, cB V c t ⟨2, by decide⟩⟩,
      ⟨Rect.unit (s := S1x256x2304) ![0, 0, 128] ![1, 256, 128] inb_S1x256x2304_S1x256x128_0_0_128, cB V c t ⟨1, by decide⟩⟩,
      ⟨Rect.unit (s := S1x256x2304) ![0, 0, 0] ![1, 256, 128] inb_S1x256x2304_S1x256x128_0_0_0, cB V c t ⟨0, by decide⟩⟩] := by
  unfold outsAt2
  frame_out
  rfl

theorem blockC (c : Dev nD) (t : Fin cfg2.N) (y : S1x256x2304.Idx) : (outsAt2 V c t).2.1 y
    = G7 (V c main_arg2) (V c main_v15) (V c main_arg4) (V c main_arg5) (ix3 (mat t) (row t (y 1)) (y 2)) := by
  rw [outC]
  canon_tiles x h
  · exact cTile V c t ⟨17, by decide⟩ x y h1 h2
  · exact cTile V c t ⟨16, by decide⟩ x y h1 h2
  · exact cTile V c t ⟨15, by decide⟩ x y h1 h2
  · exact cTile V c t ⟨14, by decide⟩ x y h1 h2
  · exact cTile V c t ⟨13, by decide⟩ x y h1 h2
  · exact cTile V c t ⟨12, by decide⟩ x y h1 h2
  · exact cTile V c t ⟨11, by decide⟩ x y h1 h2
  · exact cTile V c t ⟨10, by decide⟩ x y h1 h2
  · exact cTile V c t ⟨9, by decide⟩ x y h1 h2
  · exact cTile V c t ⟨8, by decide⟩ x y h1 h2
  · exact cTile V c t ⟨7, by decide⟩ x y h1 h2
  · exact cTile V c t ⟨6, by decide⟩ x y h1 h2
  · exact cTile V c t ⟨5, by decide⟩ x y h1 h2
  · exact cTile V c t ⟨4, by decide⟩ x y h1 h2
  · exact cTile V c t ⟨3, by decide⟩ x y h1 h2
  · exact cTile V c t ⟨2, by decide⟩ x y h1 h2
  · exact cTile V c t ⟨1, by decide⟩ x y h1 h2
  · exact cTile V c t ⟨0, by decide⟩ x y h1 (by show _ = 128 * 0 + _; omega)

/-! ## What the arrays hold after the run -/

theorem flushed6 (c : Dev nD) (t : Fin cfg2.N) : (dat2 V c).flushed 6 t = ((cfg2.win 6).blk t).view.read (Elt Ideal)
    (G6 (V c main_arg2) (V c main_arg3) (V c main_v15) (V c main_arg4) (V c main_arg5) (V c main_v5)) := by
  funext j
  show (dat2 V c).after 6 t j = G6 (V c main_arg2) (V c main_arg3) (V c main_v15) (V c main_arg4) (V c main_arg5) (V c main_v5)
    (((cfg2.win 6).blk t).view.emb j)
  rw [emb6, after2_6]
  exact blockN V c t j
theorem flushed7 (c : Dev nD) (t : Fin cfg2.N) : (dat2 V c).flushed 7 t = ((cfg2.win 7).blk t).view.read (Elt Ideal)
    (G7 (V c main_arg2) (V c main_v15) (V c main_arg4) (V c main_arg5)) := by
  funext j
  show (dat2 V c).after 7 t j = G7 (V c main_arg2) (V c main_v15) (V c main_arg4) (V c main_arg5)
    (((cfg2.win 7).blk t).view.emb j)
  rw [emb7, after2_7]
  exact blockC V c t j
theorem flushed8 (c : Dev nD) (t : Fin cfg2.N) : (dat2 V c).flushed 8 t = ((cfg2.win 8).blk t).view.read (Elt Ideal)
    (G8 (V c main_arg2) (V c main_v15) (V c main_arg4) (V c main_arg5)) := by
  funext j
  show (dat2 V c).after 8 t j = G8 (V c main_arg2) (V c main_v15) (V c main_arg4) (V c main_arg5)
    (((cfg2.win 8).blk t).view.emb j)
  rw [emb8, after2_8]
  exact blockS V c t j
theorem covered18 (i : (A3 9 1536 18).Idx) (t : Fin cfg2.N) (ht : t.val = (i 0).val * 6 + (i 1).val / 256) :
    ix3 (mat t) (row t ⟨(i 1).val % 256, by omega⟩) (i 2) = i := by
  have h1 : (i 1).val < 1536 := (i 1).isLt
  funext a; apply Fin.ext
  match a with
  | ⟨0, _⟩ => show t.val / 6 = (i 0).val; omega
  | ⟨1, _⟩ => show 256 * (t.val % 6) + (i 1).val % 256 = (i 1).val; omega
  | ⟨2, _⟩ => rfl

/-- The point that writes row `i 1` of matrix `i 0`. -/
def pt18 (i : (A3 9 1536 18).Idx) : Fin cfg2.N :=
  (⟨(i 0).val * 6 + (i 1).val / 256, by
    have h0 : (i 0).val < 9 := (i 0).isLt
    have h1 : (i 1).val < 1536 := (i 1).isLt
    show _ < 54; omega⟩ : Fin 54)

theorem covered2304 (i : (A3 9 1536 2304).Idx) (t : Fin cfg2.N) (ht : t.val = (i 0).val * 6 + (i 1).val / 256) :
    ix3 (mat t) (row t ⟨(i 1).val % 256, by omega⟩) (i 2) = i := by
  have h1 : (i 1).val < 1536 := (i 1).isLt
  funext a; apply Fin.ext
  match a with
  | ⟨0, _⟩ => show t.val / 6 = (i 0).val; omega
  | ⟨1, _⟩ => show 256 * (t.val % 6) + (i 1).val % 256 = (i 1).val; omega
  | ⟨2, _⟩ => rfl

/-- The point that writes row `i 1` of matrix `i 0`. -/
def pt2304 (i : (A3 9 1536 2304).Idx) : Fin cfg2.N :=
  (⟨(i 0).val * 6 + (i 1).val / 256, by
    have h0 : (i 0).val < 9 := (i 0).isLt
    have h1 : (i 1).val < 1536 := (i 1).isLt
    show _ < 54; omega⟩ : Fin 54)

theorem cov6 (i : (A3 9 1536 2304).Idx) (t : Fin cfg2.N) (ht : t.val = (i 0).val * 6 + (i 1).val / 256) :
    i ∈ ((cfg2.win 6).blk t).view.set := by
  have h := ((cfg2.win 6).blk t).view.emb_mem_set (ix3 0 ⟨(i 1).val % 256, by omega⟩ (i 2))
  have e := (emb6 t (ix3 0 ⟨(i 1).val % 256, by omega⟩ (i 2))).trans (covered2304 i t ht)
  exact Eq.mp (congrArg (fun x => x ∈ ((cfg2.win 6).blk t).view.set) e) h
theorem cov7 (i : (A3 9 1536 2304).Idx) (t : Fin cfg2.N) (ht : t.val = (i 0).val * 6 + (i 1).val / 256) :
    i ∈ ((cfg2.win 7).blk t).view.set := by
  have h := ((cfg2.win 7).blk t).view.emb_mem_set (ix3 0 ⟨(i 1).val % 256, by omega⟩ (i 2))
  have e := (emb7 t (ix3 0 ⟨(i 1).val % 256, by omega⟩ (i 2))).trans (covered2304 i t ht)
  exact Eq.mp (congrArg (fun x => x ∈ ((cfg2.win 7).blk t).view.set) e) h
theorem cov8 (i : (A3 9 1536 18).Idx) (t : Fin cfg2.N) (ht : t.val = (i 0).val * 6 + (i 1).val / 256) :
    i ∈ ((cfg2.win 8).blk t).view.set := by
  have h := ((cfg2.win 8).blk t).view.emb_mem_set (ix3 0 ⟨(i 1).val % 256, by omega⟩ (i 2))
  have e := (emb8 t (ix3 0 ⟨(i 1).val % 256, by omega⟩ (i 2))).trans (covered18 i t ht)
  exact Eq.mp (congrArg (fun x => x ∈ ((cfg2.win 8).blk t).view.set) e) h

theorem final6 (c : Dev nD) : (dat2 V c).arrAt 6 cfg2.N = G6 (V c main_arg2) (V c main_arg3) (V c main_v15) (V c main_arg4) (V c main_arg5) (V c main_v5) :=
  (dat2 V c).arrAt_eq_of_cover 6 _ (fun t _ => flushed6 V c t) fun i => ⟨pt2304 i, flush2_6 _, cov6 i (pt2304 i) rfl⟩

theorem final7 (c : Dev nD) : (dat2 V c).arrAt 7 cfg2.N = G7 (V c main_arg2) (V c main_v15) (V c main_arg4) (V c main_arg5) :=
  (dat2 V c).arrAt_eq_of_cover 7 _ (fun t _ => flushed7 V c t) fun i => ⟨pt2304 i, flush2_7 _, cov7 i (pt2304 i) rfl⟩

theorem final8 (c : Dev nD) : (dat2 V c).arrAt 8 cfg2.N = G8 (V c main_arg2) (V c main_v15) (V c main_arg4) (V c main_arg5) :=
  (dat2 V c).arrAt_eq_of_cover 8 _ (fun t _ => flushed8 V c t) fun i => ⟨pt18 i, flush2_8 _, cov8 i (pt18 i) rfl⟩

end Cert.Proof.Rot2

end
-- ==== Proof.Back.lean ====
/- The kernel that takes the update back out of both bases and steps the weights, region 3: what one grid point stores
   (`pay1_apply`), which parts of the arrays a point's blocks are, and so what its two result arrays hold after the run
   (`final5`, `final6`), as functions of the arrays it is given. -/
module

public import proofs.«01_k».proof.Proof.Gen.KernelIdeal.Frame
public import proofs.«01_k».proof.Proof.SpecRot
public import proofs.«01_k».proof.Proof.Dot
public import Idealize.ShloMosaic.Lib.Pipeline.ValueKit.Tiles

@[expose] public section

noncomputable section

namespace Cert.Proof.Back

open Cert.KernelIdeal Cert.KernelIdeal.Gen Idealize.ShloMosaic Idealize.ShloMosaic.TcCoe Idealize.ShloMosaic.ValueIdx
  Idealize.ShloMosaic.Pipeline Idealize.SL.Sem Cert.Proof.Spec Cert.Proof.Dot

/-! ## What one point stores -/

theorem pay1_apply (q : Vec Ideal S1x1536x256 .bf16) (n : Vec Ideal S1x1536x2304 .bf16) (r : Vec Ideal S1x2304x2304 .bf16)
    (j : S256x2304.Idx) : k3_pay1 (F := Ideal) q n r j
      = ∑ k : Fin 2304, (∑ l : Fin 1536, q (ix3 0 l (j 0)) * n (ix3 0 l k)) * r (ix3 0 k (j 1)) := by
  unfold k3_pay1
  rw [dot_nn (M := 256) (N := 2304) (K := 2304) (φ₁ := .bf16) (φ₂ := .bf16) dot_S256x2304_S2304x2304_S256x2304_1_0_0_1_n_n _ rfl]
  refine sum_congr' fun k => congrArg₂ (· * ·) ?_ ?_
  · refine Eq.trans (dot_tn (M := 256) (N := 2304) (K := 1536) dot_S1536x256_S1536x2304_S256x2304_0_0_1_1_n_n _ rfl _ _
      (ix2 (j 0) k)) (sum_congr' fun l => congrArg₂ (· * ·) ?_ ?_)
    · refine (shapeCast_dropUnit_apply ![1536, 256] _ _ _).trans (congrArg q ?_)
      funext a; match a with | ⟨0, _⟩ => rfl | ⟨1, _⟩ => rfl | ⟨2, _⟩ => rfl
    · refine (shapeCast_dropUnit_apply ![1536, 2304] _ _ _).trans (congrArg n ?_)
      funext a; match a with | ⟨0, _⟩ => rfl | ⟨1, _⟩ => rfl | ⟨2, _⟩ => rfl
  · refine (shapeCast_dropUnit_apply ![2304, 2304] _ _ _).trans (congrArg r ?_)
    funext a; match a with | ⟨0, _⟩ => rfl | ⟨1, _⟩ => rfl | ⟨2, _⟩ => rfl

theorem pay2_apply (q : Vec Ideal S1x1536x256 .bf16) (n : Vec Ideal S1x1536x2304 .bf16) (r : Vec Ideal S1x2304x2304 .bf16)
    (j : S1x256x2304.Idx) : k3_pay2 (F := Ideal) q n r j = k3_pay1 (F := Ideal) q n r (ix2 (j 1) (j 2)) := by
  unfold k3_pay2
  exact (shapeCast_addUnit_apply ![256, 2304] _ _ _).trans (congrArg _ (eq_ix2 (n0 := 256) (n1 := 2304) _))

theorem pay3_apply (lr wd : Elt Ideal .f32) (q : Vec Ideal S1x1536x256 .bf16) (n : Vec Ideal S1x1536x2304 .bf16)
    (r : Vec Ideal S1x2304x2304 .bf16) (w : Vec Ideal S1x256x2304 .f32) (j : S1x256x2304.Idx) :
    k3_pay3 (F := Ideal) lr wd q n r w j
      = w (ix3 0 (j 1) (j 2)) - lr * (k3_pay1 (F := Ideal) q n r (ix2 (j 1) (j 2)) + wd * w (ix3 0 (j 1) (j 2))) := by
  have e : (shapeCast S256x2304 w shapeCasts_S1x256x2304_S256x2304 : Vec Ideal S256x2304 .f32) (ix2 (j 1) (j 2))
      = w (ix3 0 (j 1) (j 2)) :=
    (shapeCast_dropUnit_apply ![256, 2304] _ _ _).trans
      (congrArg w (funext fun a => match a with | ⟨0, _⟩ => rfl | ⟨1, _⟩ => rfl | ⟨2, _⟩ => rfl))
  unfold k3_pay3
  refine (shapeCast_addUnit_apply ![256, 2304] _ _ _).trans ?_
  refine (congrArg _ (eq_ix2 (n0 := 256) (n1 := 2304) fun a => j a.succ)).trans ?_
  rw [← e]
  rfl

/-! ## Which parts of the arrays a point's blocks are -/

theorem idx1 : ∀ t : Fin cfg3.N, win3_1.index t (0 : Fin 3) = t.val / 6 ∧ win3_1.index t (1 : Fin 3) = 0
    ∧ win3_1.index t (2 : Fin 3) = t.val % 6 := (by decide +kernel : ∀ t : Fin grid3.N, _)
theorem idx2 : ∀ t : Fin cfg3.N, win3_2.index t (0 : Fin 3) = t.val / 6 ∧ win3_2.index t (1 : Fin 3) = 0
    ∧ win3_2.index t (2 : Fin 3) = 0 := (by decide +kernel : ∀ t : Fin grid3.N, _)
theorem idx3 : ∀ t : Fin cfg3.N, win3_3.index t (0 : Fin 3) = t.val / 6 ∧ win3_3.index t (1 : Fin 3) = 0
    ∧ win3_3.index t (2 : Fin 3) = 0 := (by decide +kernel : ∀ t : Fin grid3.N, _)
theorem idx4 : ∀ t : Fin cfg3.N, win3_4.index t (0 : Fin 3) = t.val / 6 ∧ win3_4.index t (1 : Fin 3) = t.val % 6
    ∧ win3_4.index t (2 : Fin 3) = 0 := (by decide +kernel : ∀ t : Fin grid3.N, _)
theorem idx5 : ∀ t : Fin cfg3.N, win3_5.index t (0 : Fin 3) = t.val / 6 ∧ win3_5.index t (1 : Fin 3) = t.val % 6
    ∧ win3_5.index t (2 : Fin 3) = 0 := (by decide +kernel : ∀ t : Fin grid3.N, _)
theorem idx6 : ∀ t : Fin cfg3.N, win3_6.index t (0 : Fin 3) = t.val / 6 ∧ win3_6.index t (1 : Fin 3) = t.val % 6
    ∧ win3_6.index t (2 : Fin 3) = 0 := (by decide +kernel : ∀ t : Fin grid3.N, _)

theorem lt (t : Fin cfg3.N) : t.val < 54 := t.isLt

/-- The matrix a point works on. -/
abbrev mat (t : Fin cfg3.N) : Fin 9 := ⟨t.val / 6, by have := lt t; omega⟩
/-- Row `r` of a point's 256, as a row of the array. -/
abbrev row (t : Fin cfg3.N) (r : Fin 256) : Fin 1536 := ⟨256 * (t.val % 6) + r.val, by omega⟩

theorem emb5 (t : Fin cfg3.N) (j : S1x256x2304.Idx) :
    ((cfg3.win 5).blk t).view.emb j = ix3 (mat t) (row t (j 1)) (j 2) := by
  obtain ⟨e0, e1, e2⟩ := idx5 t
  have h0 : (j 0).val < 1 := (j 0).isLt
  funext a; apply Fin.ext
  match a with
  | ⟨0, _⟩ => show win3_5.index t (0 : Fin 3) * 1 + 1 * (j 0).val = t.val / 6; omega
  | ⟨1, _⟩ => show win3_5.index t (1 : Fin 3) * 256 + 1 * (j 1).val = 256 * (t.val % 6) + (j 1).val; omega
  | ⟨2, _⟩ => show win3_5.index t (2 : Fin 3) * 2304 + 1 * (j 2).val = (j 2).val; omega
theorem emb6 (t : Fin cfg3.N) (j : S1x256x2304.Idx) :
    ((cfg3.win 6).blk t).view.emb j = ix3 (mat t) (row t (j 1)) (j 2) := by
  obtain ⟨e0, e1, e2⟩ := idx6 t
  have h0 : (j 0).val < 1 := (j 0).isLt
  funext a; apply Fin.ext
  match a with
  | ⟨0, _⟩ => show win3_6.index t (0 : Fin 3) * 1 + 1 * (j 0).val = t.val / 6; omega
  | ⟨1, _⟩ => show win3_6.index t (1 : Fin 3) * 256 + 1 * (j 1).val = 256 * (t.val % 6) + (j 1).val; omega
  | ⟨2, _⟩ => show win3_6.index t (2 : Fin 3) * 2304 + 1 * (j 2).val = (j 2).val; omega

variable (V : (c : Dev nD) → (b : Ref sig .tc) → Buf (Elt Ideal) ((c : Thread nD τ).loc b))

theorem iblk_1 (c : Dev nD) (t : Fin cfg3.N) (j : S1x1536x256.Idx) :
    iblk3 V c 1 t j = V c main_v10 (ix3 (mat t) (j 1) (row t (j 2))) := by
  obtain ⟨e0, e1, e2⟩ := idx1 t
  have h0 : (j 0).val < 1 := (j 0).isLt
  show V c main_v10 (((cfg3.win 1).blk t).view.emb j) = _
  refine congrArg (V c main_v10) ?_
  funext a; apply Fin.ext
  match a with
  | ⟨0, _⟩ => show win3_1.index t (0 : Fin 3) * 1 + 1 * (j 0).val = t.val / 6; omega
  | ⟨1, _⟩ => show win3_1.index t (1 : Fin 3) * 1536 + 1 * (j 1).val = (j 1).val; omega
  | ⟨2, _⟩ => show win3_1.index t (2 : Fin 3) * 256 + 1 * (j 2).val = 256 * (t.val % 6) + (j 2).val; omega
theorem iblk_2 (c : Dev nD) (t : Fin cfg3.N) (j : S1x1536x2304.Idx) :
    iblk3 V c 2 t j = V c main_v16_0 (ix3 (mat t) (j 1) (j 2)) := by
  obtain ⟨e0, e1, e2⟩ := idx2 t
  have h0 : (j 0).val < 1 := (j 0).isLt
  show V c main_v16_0 (((cfg3.win 2).blk t).view.emb j) = _
  refine congrArg (V c main_v16_0) ?_
  funext a; apply Fin.ext
  match a with
  | ⟨0, _⟩ => show win3_2.index t (0 : Fin 3) * 1 + 1 * (j 0).val = t.val / 6; omega
  | ⟨1, _⟩ => show win3_2.index t (1 : Fin 3) * 1536 + 1 * (j 1).val = (j 1).val; omega
  | ⟨2, _⟩ => show win3_2.index t (2 : Fin 3) * 2304 + 1 * (j 2).val = (j 2).val; omega
theorem iblk_3 (c : Dev nD) (t : Fin cfg3.N) (j : S1x2304x2304.Idx) :
    iblk3 V c 3 t j = V c main_v15 (ix3 (mat t) (j 1) (j 2)) := by
  obtain ⟨e0, e1, e2⟩ := idx3 t
  have h0 : (j 0).val < 1 := (j 0).isLt
  show V c main_v15 (((cfg3.win 3).blk t).view.emb j) = _
  refine congrArg (V c main_v15) ?_
  funext a; apply Fin.ext
  match a with
  | ⟨0, _⟩ => show win3_3.index t (0 : Fin 3) * 1 + 1 * (j 0).val = t.val / 6; omega
  | ⟨1, _⟩ => show win3_3.index t (1 : Fin 3) * 2304 + 1 * (j 1).val = (j 1).val; omega
  | ⟨2, _⟩ => show win3_3.index t (2 : Fin 3) * 2304 + 1 * (j 2).val = (j 2).val; omega
theorem iblk_4 (c : Dev nD) (t : Fin cfg3.N) (j : S1x256x2304.Idx) :
    iblk3 V c 4 t j = V c main_arg0 (ix3 (mat t) (row t (j 1)) (j 2)) := by
  obtain ⟨e0, e1, e2⟩ := idx4 t
  have h0 : (j 0).val < 1 := (j 0).isLt
  show V c main_arg0 (((cfg3.win 4).blk t).view.emb j) = _
  refine congrArg (V c main_arg0) ?_
  funext a; apply Fin.ext
  match a with
  | ⟨0, _⟩ => show win3_4.index t (0 : Fin 3) * 1 + 1 * (j 0).val = t.val / 6; omega
  | ⟨1, _⟩ => show win3_4.index t (1 : Fin 3) * 256 + 1 * (j 1).val = 256 * (t.val % 6) + (j 1).val; omega
  | ⟨2, _⟩ => show win3_4.index t (2 : Fin 3) * 2304 + 1 * (j 2).val = (j 2).val; omega
theorem idx0 : ∀ t : Fin cfg3.N, win3_0.index t (0 : Fin 2) = 0 ∧ win3_0.index t (1 : Fin 2) = 0 :=
  (by decide +kernel : ∀ t : Fin grid3.N, _)
theorem iblk_0 (c : Dev nD) (t : Fin cfg3.N) (j : S9x5.Idx) : iblk3 V c 0 t j = V c main_v5 j := by
  obtain ⟨e0, e1⟩ := idx0 t
  show V c main_v5 (((cfg3.win 0).blk t).view.emb j) = _
  refine congrArg (V c main_v5) ?_
  funext a; apply Fin.ext
  match a with
  | ⟨0, _⟩ => show win3_0.index t (0 : Fin 2) * 9 + 1 * (j 0).val = (j 0).val; omega
  | ⟨1, _⟩ => show win3_0.index t (1 : Fin 2) * 5 + 1 * (j 1).val = (j 1).val; omega
theorem off1 : ∀ t : Fin cfg3.N, k3_off1 (grid3.coords t) (0 : Fin 2) = t.val / 6
    ∧ k3_off1 (grid3.coords t) (1 : Fin 2) = 3 := (by decide +kernel : ∀ t : Fin grid3.N, _)
theorem const1 (c : Dev nD) (t : Fin cfg3.N) (inb) (x : S1x1.Idx) :
    View.ld (iblk3 V c 0 t) (Rect.unit (s := S9x5) (k3_off1 (grid3.coords t)) S1x1.size inb) x
      = V c main_v5 (ix2 (mat t) 3) := by
  obtain ⟨e0, e1⟩ := off1 t
  have h0 : (x 0).val < 1 := (x 0).isLt
  have h1 : (x 1).val < 1 := (x 1).isLt
  refine Eq.trans (View.ld_unit_apply_of (iblk3 V c 0 t) _ _ inb x (ix2 (mat t) 3) fun a => ?_) (iblk_0 V c t _)
  match a with
  | ⟨0, _⟩ => show t.val / 6 = k3_off1 (grid3.coords t) (0 : Fin 2) + (x 0).val; omega
  | ⟨1, _⟩ => show 3 = k3_off1 (grid3.coords t) (1 : Fin 2) + (x 1).val; omega
theorem off2 : ∀ t : Fin cfg3.N, k3_off2 (grid3.coords t) (0 : Fin 2) = t.val / 6
    ∧ k3_off2 (grid3.coords t) (1 : Fin 2) = 4 := (by decide +kernel : ∀ t : Fin grid3.N, _)
theorem const2 (c : Dev nD) (t : Fin cfg3.N) (inb) (x : S1x1.Idx) :
    View.ld (iblk3 V c 0 t) (Rect.unit (s := S9x5) (k3_off2 (grid3.coords t)) S1x1.size inb) x
      = V c main_v5 (ix2 (mat t) 4) := by
  obtain ⟨e0, e1⟩ := off2 t
  have h0 : (x 0).val < 1 := (x 0).isLt
  have h1 : (x 1).val < 1 := (x 1).isLt
  refine Eq.trans (View.ld_unit_apply_of (iblk3 V c 0 t) _ _ inb x (ix2 (mat t) 4) fun a => ?_) (iblk_0 V c t _)
  match a with
  | ⟨0, _⟩ => show t.val / 6 = k3_off2 (grid3.coords t) (0 : Fin 2) + (x 0).val; omega
  | ⟨1, _⟩ => show 4 = k3_off2 (grid3.coords t) (1 : Fin 2) + (x 1).val; omega

/-! ## What the two arrays hold after the run -/

/-- The two result arrays, as functions of the arrays the region is given. -/
def G6 (q : Vec Ideal S9x1536x1536 .bf16) (n : Vec Ideal S9x1536x2304 .bf16) (r : Vec Ideal S9x2304x2304 .bf16) :
    Vec Ideal S9x1536x2304 .f32 := back2 q n r
def G5 (w : Vec Ideal S9x1536x2304 .f32) (u : Vec Ideal S9x1536x2304 .f32) (k : Vec Ideal S9x5 .f32) :
    Vec Ideal S9x1536x2304 .f32 := weight w u (fun b => k (ix2 b 3)) (fun b => k (ix2 b 4))

/-- The update at a row of a point's 256, from where the point's blocks lie in the arrays. -/
theorem upd_of (q : Vec Ideal S1x1536x256 .bf16) (n : Vec Ideal S1x1536x2304 .bf16) (r : Vec Ideal S1x2304x2304 .bf16)
    (q' : Vec Ideal S9x1536x1536 .bf16) (n' : Vec Ideal S9x1536x2304 .bf16) (r' : Vec Ideal S9x2304x2304 .bf16)
    (b : Fin 9) (i : Fin 1536) (i' : Fin 256) (k : Fin 2304) (h1 : ∀ l : Fin 1536, q (ix3 0 l i') = q' (ix3 b l i))
    (h2 : ∀ (l : Fin 1536) (d : Fin 2304), n (ix3 0 l d) = n' (ix3 b l d))
    (h3 : ∀ d : Fin 2304, r (ix3 0 d k) = r' (ix3 b d k)) :
    k3_pay1 (F := Ideal) q n r (ix2 i' k) = G6 q' n' r' (ix3 b i k) :=
  (pay1_apply q n r (ix2 i' k)).trans (sum_congr' fun d => congrArg₂ (· * ·)
    (sum_congr' fun l => congrArg₂ (· * ·) (h1 l) (h2 l d)) (h3 d))

/-- The update at row `r` of a point's 256. -/
theorem upd (c : Dev nD) (t : Fin cfg3.N) (r : Fin 256) (k : Fin 2304) :
    k3_pay1 (F := Ideal) (iblk3 V c 1 t) (iblk3 V c 2 t) (iblk3 V c 3 t) (ix2 r k)
      = G6 (V c main_v10) (V c main_v16_0) (V c main_v15) (ix3 (mat t) (row t r) k) := by
  have h1 (l : Fin 1536) : iblk3 V c 1 t (ix3 0 l r) = V c main_v10 (ix3 (mat t) l (row t r)) := iblk_1 V c t _
  have h2 (l : Fin 1536) (d : Fin 2304) : iblk3 V c 2 t (ix3 0 l d) = V c main_v16_0 (ix3 (mat t) l d) := iblk_2 V c t _
  have h3 (d : Fin 2304) : iblk3 V c 3 t (ix3 0 d k) = V c main_v15 (ix3 (mat t) d k) := iblk_3 V c t _
  exact upd_of _ _ _ _ _ _ _ _ _ _ h1 h2 h3

theorem block6 (c : Dev nD) (t : Fin cfg3.N) (j : S1x256x2304.Idx) :
    k3_pay2 (F := Ideal) (iblk3 V c 1 t) (iblk3 V c 2 t) (iblk3 V c 3 t) j
      = G6 (V c main_v10) (V c main_v16_0) (V c main_v15) (ix3 (mat t) (row t (j 1)) (j 2)) :=
  (pay2_apply _ _ _ j).trans (upd V c t (j 1) (j 2))

theorem block5 (c : Dev nD) (t : Fin cfg3.N) (j : S1x256x2304.Idx) :
    k3_pay3 (F := Ideal) (V c main_v5 (ix2 (mat t) 3)) (V c main_v5 (ix2 (mat t) 4)) (iblk3 V c 1 t) (iblk3 V c 2 t)
        (iblk3 V c 3 t) (iblk3 V c 4 t) j
      = G5 (V c main_arg0) (G6 (V c main_v10) (V c main_v16_0) (V c main_v15)) (V c main_v5)
        (ix3 (mat t) (row t (j 1)) (j 2)) := by
  have h4 : iblk3 V c 4 t (ix3 0 (j 1) (j 2)) = V c main_arg0 (ix3 (mat t) (row t (j 1)) (j 2)) := iblk_4 V c t _
  refine (pay3_apply _ _ _ _ _ _ j).trans ?_
  rw [upd V c t (j 1) (j 2), h4]
  rfl

theorem flushed6 (c : Dev nD) (t : Fin cfg3.N) : (dat3 V c).flushed 6 t
    = ((cfg3.win 6).blk t).view.read (Elt Ideal) (G6 (V c main_v10) (V c main_v16_0) (V c main_v15)) := by
  funext j
  show (dat3 V c).after 6 t j = G6 (V c main_v10) (V c main_v16_0) (V c main_v15) (((cfg3.win 6).blk t).view.emb j)
  rw [emb6, after3_6]
  have h : (outsAt3 V c t).2 = k3_pay2 (iblk3 V c 1 t) (iblk3 V c 2 t) (iblk3 V c 3 t) := by
    unfold outsAt3
    frame_out
  rw [h]
  exact block6 V c t j

theorem flushed5 (c : Dev nD) (t : Fin cfg3.N) : (dat3 V c).flushed 5 t = ((cfg3.win 5).blk t).view.read (Elt Ideal)
    (G5 (V c main_arg0) (G6 (V c main_v10) (V c main_v16_0) (V c main_v15)) (V c main_v5)) := by
  funext j
  show (dat3 V c).after 5 t j = G5 (V c main_arg0) (G6 (V c main_v10) (V c main_v16_0) (V c main_v15)) (V c main_v5)
    (((cfg3.win 5).blk t).view.emb j)
  rw [emb5, after3_5]
  have h : (outsAt3 V c t).1 = k3_pay3 (V c main_v5 (ix2 (mat t) 3)) (V c main_v5 (ix2 (mat t) 4))
      (iblk3 V c 1 t) (iblk3 V c 2 t) (iblk3 V c 3 t) (iblk3 V c 4 t) := by
    unfold outsAt3
    frame_out
    exact congrArg₂ (fun a b => k3_pay3 a b (iblk3 V c 1 t) (iblk3 V c 2 t) (iblk3 V c 3 t) (iblk3 V c 4 t))
      (const1 V c t _ _) (const2 V c t _ _)
  rw [h]
  exact block5 V c t j

theorem covered2304 (i : (A3 9 1536 2304).Idx) (t : Fin cfg3.N) (ht : t.val = (i 0).val * 6 + (i 1).val / 256) :
    ix3 (mat t) (row t ⟨(i 1).val % 256, by omega⟩) (i 2) = i := by
  have h1 : (i 1).val < 1536 := (i 1).isLt
  funext a; apply Fin.ext
  match a with
  | ⟨0, _⟩ => show t.val / 6 = (i 0).val; omega
  | ⟨1, _⟩ => show 256 * (t.val % 6) + (i 1).val % 256 = (i 1).val; omega
  | ⟨2, _⟩ => rfl

/-- The point that writes row `i 1` of matrix `i 0`. -/
def pt2304 (i : (A3 9 1536 2304).Idx) : Fin cfg3.N :=
  (⟨(i 0).val * 6 + (i 1).val / 256, by
    have h0 : (i 0).val < 9 := (i 0).isLt
    have h1 : (i 1).val < 1536 := (i 1).isLt
    show _ < 54; omega⟩ : Fin 54)

theorem cov5 (i : (A3 9 1536 2304).Idx) (t : Fin cfg3.N) (ht : t.val = (i 0).val * 6 + (i 1).val / 256) :
    i ∈ ((cfg3.win 5).blk t).view.set := by
  have h := ((cfg3.win 5).blk t).view.emb_mem_set (ix3 0 ⟨(i 1).val % 256, by omega⟩ (i 2))
  have e := (emb5 t (ix3 0 ⟨(i 1).val % 256, by omega⟩ (i 2))).trans (covered2304 i t ht)
  exact Eq.mp (congrArg (fun x => x ∈ ((cfg3.win 5).blk t).view.set) e) h
theorem cov6 (i : (A3 9 1536 2304).Idx) (t : Fin cfg3.N) (ht : t.val = (i 0).val * 6 + (i 1).val / 256) :
    i ∈ ((cfg3.win 6).blk t).view.set := by
  have h := ((cfg3.win 6).blk t).view.emb_mem_set (ix3 0 ⟨(i 1).val % 256, by omega⟩ (i 2))
  have e := (emb6 t (ix3 0 ⟨(i 1).val % 256, by omega⟩ (i 2))).trans (covered2304 i t ht)
  exact Eq.mp (congrArg (fun x => x ∈ ((cfg3.win 6).blk t).view.set) e) h

theorem final6 (c : Dev nD) : (dat3 V c).arrAt 6 cfg3.N = G6 (V c main_v10) (V c main_v16_0) (V c main_v15) :=
  (dat3 V c).arrAt_eq_of_cover 6 _ (fun t _ => flushed6 V c t) fun i => ⟨pt2304 i, flush3_6 _, cov6 i (pt2304 i) rfl⟩

theorem final5 (c : Dev nD) : (dat3 V c).arrAt 5 cfg3.N
    = G5 (V c main_arg0) (G6 (V c main_v10) (V c main_v16_0) (V c main_v15)) (V c main_v5) :=
  (dat3 V c).arrAt_eq_of_cover 5 _ (fun t _ => flushed5 V c t) fun i => ⟨pt2304 i, flush3_5 _, cov5 i (pt2304 i) rfl⟩

end Cert.Proof.Back

end
-- ==== Proof.Left.lean ====
/- The kernel that updates the left statistic, region 4: what one grid point stores (`pay2_apply`, `pay3_apply`, `out5_eq`,
   `out4_eq`), which rows of the arrays a point's blocks are (`idx`, `emb*`), and so what its two result arrays hold after
   the run (`final3`, `final4`), as functions of the arrays it is given. -/
module

public import proofs.«01_k».proof.Proof.Gen.KernelIdeal.Frame
public import proofs.«01_k».proof.Proof.Spec
public import proofs.«01_k».proof.Proof.Dot
public import Idealize.ShloMosaic.Lib.Pipeline.ValueKit.Tiles

@[expose] public section

noncomputable section

namespace Cert.Proof.Left

open Cert.KernelIdeal Cert.KernelIdeal.Gen Idealize.ShloMosaic Idealize.ShloMosaic.TcCoe Idealize.ShloMosaic.ValueIdx
  Idealize.ShloMosaic.Pipeline Idealize.SL.Sem Cert.Proof.Spec Cert.Proof.Dot

/-! ## What one point stores -/

theorem pay1_apply (g : Vec Ideal S1x512x2304 .bf16) (l : Vec Ideal S1x512x1536 .f32) (G : Vec Ideal S1x1536x2304 .bf16)
    (j : S512x1536.Idx) : k4_pay1 (F := Ideal) g l G j
      = c95 * l (ix3 0 (j 0) (j 1)) + c05 * ∑ k : Fin 2304, g (ix3 0 (j 0) k) * G (ix3 0 (j 1) k) := by
  unfold k4_pay1
  rw [addf_apply, mulf_apply, mulf_apply, broadcast_apply, broadcast_apply,
    dot_nt (M := 512) (N := 1536) (K := 2304) dot_S512x2304_S1536x2304_S512x1536_1_1_0_0_n_n _ rfl]
  refine congrArg₂ (· + ·) (congrArg (_ * ·) ?_) (congrArg (_ * ·) (sum_congr' fun k => congrArg₂ (· * ·) ?_ ?_))
  · refine (shapeCast_dropUnit_apply ![512, 1536] _ _ _).trans (congrArg l ?_)
    funext a; match a with | ⟨0, _⟩ => rfl | ⟨1, _⟩ => rfl | ⟨2, _⟩ => rfl
  · refine (shapeCast_dropUnit_apply ![512, 2304] _ _ _).trans (congrArg g ?_)
    funext a; match a with | ⟨0, _⟩ => rfl | ⟨1, _⟩ => rfl | ⟨2, _⟩ => rfl
  · refine (shapeCast_dropUnit_apply ![1536, 2304] _ _ _).trans (congrArg G ?_)
    funext a; match a with | ⟨0, _⟩ => rfl | ⟨1, _⟩ => rfl | ⟨2, _⟩ => rfl

theorem pay2_apply (g : Vec Ideal S1x512x2304 .bf16) (l : Vec Ideal S1x512x1536 .f32) (G : Vec Ideal S1x1536x2304 .bf16)
    (j : S1x512x1536.Idx) : k4_pay2 (F := Ideal) g l G j
      = c95 * l (ix3 0 (j 1) (j 2)) + c05 * ∑ k : Fin 2304, g (ix3 0 (j 1) k) * G (ix3 0 (j 2) k) := by
  unfold k4_pay2
  exact (shapeCast_addUnit_apply ![512, 1536] _ _ _).trans (pay1_apply g l G _)

theorem pay3_apply (g : Vec Ideal S1x512x2304 .bf16) (l : Vec Ideal S1x512x1536 .f32) (G : Vec Ideal S1x1536x2304 .bf16)
    (q : Vec Ideal S1x1536x1536 .bf16) (j : S1x512x1536.Idx) : k4_pay3 (F := Ideal) g l G q j
      = ∑ k : Fin 1536, k4_pay1 (F := Ideal) g l G (ix2 (j 1) k) * q (ix3 0 (j 2) k) := by
  unfold k4_pay3
  refine (shapeCast_addUnit_apply ![512, 1536] _ _ _).trans ?_
  refine Eq.trans ?_ ((dot_nt (M := 512) (N := 1536) (K := 1536) (φ₁ := .bf16) (φ₂ := .bf16)
    dot_S512x1536_S1536x1536_S512x1536_1_1_0_0_n_n _ rfl
    (truncf .bf16 (k4_pay1 (F := Ideal) g l G) bitsLt_bf16_f32)
    (shapeCast S1536x1536 q shapeCasts_S1x1536x1536_S1536x1536) (ix2 (j 1) (j 2))).trans ?_)
  · exact congrArg _ (eq_ix2 (n0 := 512) (n1 := 1536) fun a => j a.succ)
  · refine sum_congr' fun k => congrArg₂ (· * ·) rfl ?_
    refine (shapeCast_dropUnit_apply ![1536, 1536] _ _ _).trans (congrArg q ?_)
    funext a; match a with | ⟨0, _⟩ => rfl | ⟨1, _⟩ => rfl | ⟨2, _⟩ => rfl

theorem hz : (![0, 0, 0] : Fin 3 → Nat) = fun _ => 0 := funext fun a => by fin_cases a <;> rfl

/-- The rows of `g` a point reads for the left operand. -/
abbrev rows (i : grid4.Coords) (x0 : Vec Ideal S1x1536x2304 .bf16) : Vec Ideal S1x512x2304 .bf16 :=
  View.ld x0 (Rect.unit (s := S1x1536x2304) (k4_off1 i) S1x512x2304.size (k4_off1_inb i))

theorem out5_eq (c : Dev nD) (i : grid4.Coords) (arg2 : Memref sig .tc .vmem S1x1536x2304 .bf16) (h2 : arg2.IsWhole)
    (arg3 : Memref sig .tc .vmem S1x1536x1536 .bf16) (h3 : arg3.IsWhole) (arg4 : Memref sig .tc .vmem S1x512x1536 .f32)
    (h4 : arg4.IsWhole) (arg5 : Memref sig .tc .vmem S1x512x1536 .f32) (h5 : arg5.IsWhole)
    (arg6 : Memref sig .tc .vmem S1x512x1536 .bf16) (h6 : arg6.IsWhole)
    (x0 : Vec Ideal S1x1536x2304 .bf16) (x1 : Vec Ideal S1x1536x1536 .bf16) (x2 : Vec Ideal S1x512x1536 .f32) :
    out4_A_3 (F := Ideal) c i arg2 h2 arg3 h3 arg4 h4 arg5 h5 arg6 h6 x0 x1 x2 = k4_pay2 (F := Ideal) (rows i x0) x2 x0 := by
  unfold out4_A_3
  rw [View.read_writes_junk_eq_canon]
  show View.canon ([⟨Rect.unit ![0, 0, 0] S1x512x1536.size inb_S1x512x1536_S1x512x1536_0_0_0,
      k4_pay2 (F := Ideal)
        (View.readAt (Elt Ideal) arg2.view (Rect.unit (s := S1x1536x2304) (k4_off1 i) S1x512x2304.size (k4_off1_inb i)).toLoadRect (h2.unread x0))
        (View.readAt (Elt Ideal) arg4.view (Rect.unit ![0, 0, 0] S1x512x1536.size inb_S1x512x1536_S1x512x1536_0_0_0).toLoadRect (h4.unread x2))
        (View.readAt (Elt Ideal) arg2.view (Rect.unit ![0, 0, 0] S1x1536x2304.size inb_S1x1536x2304_S1x1536x2304_0_0_0).toLoadRect (h2.unread x0))⟩] :
      List (View.Piece (Elt Ideal) S1x512x1536 .f32)) = _
  rw [View.canon_unit_zero hz, View.readAt_eq_ld, View.readAt_eq_ld, View.readAt_eq_ld, h2.read_unread, h4.read_unread,
    View.ld_unit_zero hz, View.ld_unit_zero hz]

theorem out4_eq (c : Dev nD) (i : grid4.Coords) (arg2 : Memref sig .tc .vmem S1x1536x2304 .bf16) (h2 : arg2.IsWhole)
    (arg3 : Memref sig .tc .vmem S1x1536x1536 .bf16) (h3 : arg3.IsWhole) (arg4 : Memref sig .tc .vmem S1x512x1536 .f32)
    (h4 : arg4.IsWhole) (arg5 : Memref sig .tc .vmem S1x512x1536 .f32) (h5 : arg5.IsWhole)
    (arg6 : Memref sig .tc .vmem S1x512x1536 .bf16) (h6 : arg6.IsWhole)
    (x0 : Vec Ideal S1x1536x2304 .bf16) (x1 : Vec Ideal S1x1536x1536 .bf16) (x2 : Vec Ideal S1x512x1536 .f32) :
    out4_A_4 (F := Ideal) c i arg2 h2 arg3 h3 arg4 h4 arg5 h5 arg6 h6 x0 x1 x2
      = k4_pay3 (F := Ideal) (rows i x0) x2 x0 x1 := by
  unfold out4_A_4
  rw [View.read_writes_junk_eq_canon]
  show View.canon ([⟨Rect.unit ![0, 0, 0] S1x512x1536.size inb_S1x512x1536_S1x512x1536_0_0_0,
      k4_pay3 (F := Ideal)
        (View.readAt (Elt Ideal) arg2.view (Rect.unit (s := S1x1536x2304) (k4_off1 i) S1x512x2304.size (k4_off1_inb i)).toLoadRect (h2.unread x0))
        (View.readAt (Elt Ideal) arg4.view (Rect.unit ![0, 0, 0] S1x512x1536.size inb_S1x512x1536_S1x512x1536_0_0_0).toLoadRect (h4.unread x2))
        (View.readAt (Elt Ideal) arg2.view (Rect.unit ![0, 0, 0] S1x1536x2304.size inb_S1x1536x2304_S1x1536x2304_0_0_0).toLoadRect (h2.unread x0))
        (View.readAt (Elt Ideal) arg3.view (Rect.unit ![0, 0, 0] S1x1536x1536.size inb_S1x1536x1536_S1x1536x1536_0_0_0).toLoadRect (h3.unread x1))⟩] :
      List (View.Piece (Elt Ideal) S1x512x1536 .bf16)) = _
  rw [View.canon_unit_zero hz, View.readAt_eq_ld, View.readAt_eq_ld, View.readAt_eq_ld, View.readAt_eq_ld, h2.read_unread,
    h4.read_unread, h3.read_unread, View.ld_unit_zero hz, View.ld_unit_zero hz, View.ld_unit_zero hz]

/-! ## Which rows a point's blocks are -/

theorem idx0 : ∀ t : Fin cfg4.N, win4_0.index t (0 : Fin 3) = t.val / 3 ∧ win4_0.index t (1 : Fin 3) = 0
    ∧ win4_0.index t (2 : Fin 3) = 0 := (by decide +kernel : ∀ t : Fin grid4.N, _)
theorem idx1 : ∀ t : Fin cfg4.N, win4_1.index t (0 : Fin 3) = t.val / 3 ∧ win4_1.index t (1 : Fin 3) = 0
    ∧ win4_1.index t (2 : Fin 3) = 0 := (by decide +kernel : ∀ t : Fin grid4.N, _)
theorem idx2 : ∀ t : Fin cfg4.N, win4_2.index t (0 : Fin 3) = t.val / 3 ∧ win4_2.index t (1 : Fin 3) = t.val % 3
    ∧ win4_2.index t (2 : Fin 3) = 0 := (by decide +kernel : ∀ t : Fin grid4.N, _)
theorem idx3 : ∀ t : Fin cfg4.N, win4_3.index t (0 : Fin 3) = t.val / 3 ∧ win4_3.index t (1 : Fin 3) = t.val % 3
    ∧ win4_3.index t (2 : Fin 3) = 0 := (by decide +kernel : ∀ t : Fin grid4.N, _)
theorem idx4 : ∀ t : Fin cfg4.N, win4_4.index t (0 : Fin 3) = t.val / 3 ∧ win4_4.index t (1 : Fin 3) = t.val % 3
    ∧ win4_4.index t (2 : Fin 3) = 0 := (by decide +kernel : ∀ t : Fin grid4.N, _)
theorem off : ∀ t : Fin cfg4.N, k4_off1 (grid4.coords t) (0 : Fin 3) = 0
    ∧ k4_off1 (grid4.coords t) (1 : Fin 3) = 512 * (t.val % 3) ∧ k4_off1 (grid4.coords t) (2 : Fin 3) = 0 :=
  (by decide +kernel : ∀ t : Fin grid4.N, _)

theorem lt (t : Fin cfg4.N) : t.val < 27 := t.isLt

/-- The matrix a point works on. -/
abbrev mat (t : Fin cfg4.N) : Fin 9 := ⟨t.val / 3, by have := lt t; omega⟩
/-- Row `r` of a point's 512, as a row of the array. -/
abbrev row (t : Fin cfg4.N) (r : Fin 512) : Fin 1536 := ⟨512 * (t.val % 3) + r.val, by omega⟩

theorem emb3 (t : Fin cfg4.N) (j : S1x512x1536.Idx) :
    ((cfg4.win 3).blk t).view.emb j = ix3 (mat t) (row t (j 1)) (j 2) := by
  obtain ⟨e0, e1, e2⟩ := idx3 t
  have h0 : (j 0).val < 1 := (j 0).isLt
  funext a; apply Fin.ext
  match a with
  | ⟨0, _⟩ => show win4_3.index t (0 : Fin 3) * 1 + 1 * (j 0).val = t.val / 3; omega
  | ⟨1, _⟩ => show win4_3.index t (1 : Fin 3) * 512 + 1 * (j 1).val = 512 * (t.val % 3) + (j 1).val; omega
  | ⟨2, _⟩ => show win4_3.index t (2 : Fin 3) * 1536 + 1 * (j 2).val = (j 2).val; omega
theorem emb4 (t : Fin cfg4.N) (j : S1x512x1536.Idx) :
    ((cfg4.win 4).blk t).view.emb j = ix3 (mat t) (row t (j 1)) (j 2) := by
  obtain ⟨e0, e1, e2⟩ := idx4 t
  have h0 : (j 0).val < 1 := (j 0).isLt
  funext a; apply Fin.ext
  match a with
  | ⟨0, _⟩ => show win4_4.index t (0 : Fin 3) * 1 + 1 * (j 0).val = t.val / 3; omega
  | ⟨1, _⟩ => show win4_4.index t (1 : Fin 3) * 512 + 1 * (j 1).val = 512 * (t.val % 3) + (j 1).val; omega
  | ⟨2, _⟩ => show win4_4.index t (2 : Fin 3) * 1536 + 1 * (j 2).val = (j 2).val; omega

variable (V : (c : Dev nD) → (b : Ref sig .tc) → Buf (Elt Ideal) ((c : Thread nD τ).loc b))

theorem iblk0_apply (c : Dev nD) (t : Fin cfg4.N) (j : S1x1536x2304.Idx) :
    iblk4 V c 0 t j = V c main_arg1 (ix3 (mat t) (j 1) (j 2)) := by
  obtain ⟨e0, e1, e2⟩ := idx0 t
  have h0 : (j 0).val < 1 := (j 0).isLt
  show V c main_arg1 (((cfg4.win 0).blk t).view.emb j) = _
  refine congrArg (V c main_arg1) ?_
  funext a; apply Fin.ext
  match a with
  | ⟨0, _⟩ => show win4_0.index t (0 : Fin 3) * 1 + 1 * (j 0).val = t.val / 3; omega
  | ⟨1, _⟩ => show win4_0.index t (1 : Fin 3) * 1536 + 1 * (j 1).val = (j 1).val; omega
  | ⟨2, _⟩ => show win4_0.index t (2 : Fin 3) * 2304 + 1 * (j 2).val = (j 2).val; omega
theorem iblk1_apply (c : Dev nD) (t : Fin cfg4.N) (j : S1x1536x1536.Idx) :
    iblk4 V c 1 t j = V c main_v10 (ix3 (mat t) (j 1) (j 2)) := by
  obtain ⟨e0, e1, e2⟩ := idx1 t
  have h0 : (j 0).val < 1 := (j 0).isLt
  show V c main_v10 (((cfg4.win 1).blk t).view.emb j) = _
  refine congrArg (V c main_v10) ?_
  funext a; apply Fin.ext
  match a with
  | ⟨0, _⟩ => show win4_1.index t (0 : Fin 3) * 1 + 1 * (j 0).val = t.val / 3; omega
  | ⟨1, _⟩ => show win4_1.index t (1 : Fin 3) * 1536 + 1 * (j 1).val = (j 1).val; omega
  | ⟨2, _⟩ => show win4_1.index t (2 : Fin 3) * 1536 + 1 * (j 2).val = (j 2).val; omega
theorem iblk4_apply (c : Dev nD) (t : Fin cfg4.N) (j : S1x512x1536.Idx) :
    iblk4 V c 2 t j = V c main_arg6 (ix3 (mat t) (row t (j 1)) (j 2)) := by
  obtain ⟨e0, e1, e2⟩ := idx2 t
  have h0 : (j 0).val < 1 := (j 0).isLt
  show V c main_arg6 (((cfg4.win 2).blk t).view.emb j) = _
  refine congrArg (V c main_arg6) ?_
  funext a; apply Fin.ext
  match a with
  | ⟨0, _⟩ => show win4_2.index t (0 : Fin 3) * 1 + 1 * (j 0).val = t.val / 3; omega
  | ⟨1, _⟩ => show win4_2.index t (1 : Fin 3) * 512 + 1 * (j 1).val = 512 * (t.val % 3) + (j 1).val; omega
  | ⟨2, _⟩ => show win4_2.index t (2 : Fin 3) * 1536 + 1 * (j 2).val = (j 2).val; omega
theorem rows_apply (c : Dev nD) (t : Fin cfg4.N) (j : S1x512x2304.Idx) :
    rows (grid4.coords t) (iblk4 V c 0 t) j = V c main_arg1 (ix3 (mat t) (row t (j 1)) (j 2)) := by
  obtain ⟨e0, e1, e2⟩ := off t
  have h0 : (j 0).val < 1 := (j 0).isLt
  refine (View.ld_unit_apply_of (S := S1x1536x2304) (iblk4 V c 0 t) _ _ _ j (ix3 0 (row t (j 1)) (j 2)) fun a => ?_).trans
    (iblk0_apply V c t _)
  match a with
  | ⟨0, _⟩ => show 0 = k4_off1 (grid4.coords t) (0 : Fin 3) + (j 0).val; omega
  | ⟨1, _⟩ => show 512 * (t.val % 3) + (j 1).val = k4_off1 (grid4.coords t) (1 : Fin 3) + (j 1).val; omega
  | ⟨2, _⟩ => show (j 2).val = k4_off1 (grid4.coords t) (2 : Fin 3) + (j 2).val; omega

/-! ## What the two arrays hold after the run -/

/-- The statistic at row `r` of a point's 512. -/
theorem stat (c : Dev nD) (t : Fin cfg4.N) (r : Fin 512) (k : Fin 1536) :
    k4_pay1 (F := Ideal) (rows (grid4.coords t) (iblk4 V c 0 t)) (iblk4 V c 2 t) (iblk4 V c 0 t) (ix2 r k)
      = leftNew 1536 2304 (V c main_arg1) (V c main_arg6) (ix3 (mat t) (row t r) k) := by
  rw [pay1_apply, iblk4_apply]
  refine congrArg₂ (· + ·) rfl (congrArg (c05 * ·) (sum_congr' fun q => congrArg₂ (· * ·) ?_ ?_))
  · exact rows_apply V c t _
  · exact iblk0_apply V c t _

/-- The two result arrays, as functions of the arrays the region is given. -/
def G3 (g : Vec Ideal S9x1536x2304 .bf16) (l : Vec Ideal S9x1536x1536 .f32) : Vec Ideal S9x1536x1536 .f32 :=
  leftNew 1536 2304 g l
def G4 (g : Vec Ideal S9x1536x2304 .bf16) (l : Vec Ideal S9x1536x1536 .f32) (q : Vec Ideal S9x1536x1536 .bf16) :
    Vec Ideal S9x1536x1536 .bf16 := proj 1536 (leftNew 1536 2304 g l) q

/-- What the body leaves in the two outputs' buffers. -/
theorem outs (c : Dev nD) (t : Fin cfg4.N) : outsAt4 V c t
    = (k4_pay2 (F := Ideal) (rows (grid4.coords t) (iblk4 V c 0 t)) (iblk4 V c 2 t) (iblk4 V c 0 t),
      k4_pay3 (F := Ideal) (rows (grid4.coords t) (iblk4 V c 0 t)) (iblk4 V c 2 t) (iblk4 V c 0 t) (iblk4 V c 1 t)) := by
  unfold outsAt4; rw [out5_eq, out4_eq]

theorem block3 (c : Dev nD) (t : Fin cfg4.N) (j : S1x512x1536.Idx) :
    k4_pay2 (F := Ideal) (rows (grid4.coords t) (iblk4 V c 0 t)) (iblk4 V c 2 t) (iblk4 V c 0 t) j
      = G3 (V c main_arg1) (V c main_arg6) (ix3 (mat t) (row t (j 1)) (j 2)) := by
  unfold k4_pay2
  refine (shapeCast_addUnit_apply ![512, 1536] _ _ _).trans ?_
  exact (congrArg _ (eq_ix2 (n0 := 512) (n1 := 1536) _)).trans (stat V c t (j 1) (j 2))

theorem block4 (c : Dev nD) (t : Fin cfg4.N) (j : S1x512x1536.Idx) :
    k4_pay3 (F := Ideal) (rows (grid4.coords t) (iblk4 V c 0 t)) (iblk4 V c 2 t) (iblk4 V c 0 t) (iblk4 V c 1 t) j
      = G4 (V c main_arg1) (V c main_arg6) (V c main_v10) (ix3 (mat t) (row t (j 1)) (j 2)) :=
  (pay3_apply _ _ _ _ j).trans
    (sum_congr' fun k => congrArg₂ (· * ·) (stat V c t (j 1) k) (iblk1_apply V c t (ix3 0 (j 2) k)))

theorem flushed3 (c : Dev nD) (t : Fin cfg4.N) :
    (dat4 V c).flushed 3 t = ((cfg4.win 3).blk t).view.read (Elt Ideal) (G3 (V c main_arg1) (V c main_arg6)) := by
  funext j
  show (dat4 V c).after 3 t j = G3 (V c main_arg1) (V c main_arg6) (((cfg4.win 3).blk t).view.emb j)
  rw [emb3, after4_3, outs]
  exact block3 V c t j

theorem flushed4 (c : Dev nD) (t : Fin cfg4.N) : (dat4 V c).flushed 4 t
    = ((cfg4.win 4).blk t).view.read (Elt Ideal) (G4 (V c main_arg1) (V c main_arg6) (V c main_v10)) := by
  funext j
  show (dat4 V c).after 4 t j = G4 (V c main_arg1) (V c main_arg6) (V c main_v10) (((cfg4.win 4).blk t).view.emb j)
  rw [emb4, after4_4, outs]
  exact block4 V c t j

theorem covered (i : (A3 9 1536 1536).Idx) (t : Fin cfg4.N) (ht : t.val = (i 0).val * 3 + (i 1).val / 512) :
    ix3 (mat t) (row t ⟨(i 1).val % 512, by omega⟩) (i 2) = i := by
  have h1 : (i 1).val < 1536 := (i 1).isLt
  funext a; apply Fin.ext
  match a with
  | ⟨0, _⟩ => show t.val / 3 = (i 0).val; omega
  | ⟨1, _⟩ => show 512 * (t.val % 3) + (i 1).val % 512 = (i 1).val; omega
  | ⟨2, _⟩ => rfl

/-- The point that writes row `i 1` of matrix `i 0`. -/
def pt (i : (A3 9 1536 1536).Idx) : Fin cfg4.N :=
  (⟨(i 0).val * 3 + (i 1).val / 512, by
    have h0 : (i 0).val < 9 := (i 0).isLt
    have h1 : (i 1).val < 1536 := (i 1).isLt
    show _ < 27; omega⟩ : Fin 27)

theorem cov3 (i : (A3 9 1536 1536).Idx) (t : Fin cfg4.N) (ht : t.val = (i 0).val * 3 + (i 1).val / 512) :
    i ∈ ((cfg4.win 3).blk t).view.set := by
  have h := ((cfg4.win 3).blk t).view.emb_mem_set (ix3 0 ⟨(i 1).val % 512, by omega⟩ (i 2))
  have e := (emb3 t (ix3 0 ⟨(i 1).val % 512, by omega⟩ (i 2))).trans (covered i t ht)
  exact Eq.mp (congrArg (fun x => x ∈ ((cfg4.win 3).blk t).view.set) e) h
theorem cov4 (i : (A3 9 1536 1536).Idx) (t : Fin cfg4.N) (ht : t.val = (i 0).val * 3 + (i 1).val / 512) :
    i ∈ ((cfg4.win 4).blk t).view.set := by
  have h := ((cfg4.win 4).blk t).view.emb_mem_set (ix3 0 ⟨(i 1).val % 512, by omega⟩ (i 2))
  have e := (emb4 t (ix3 0 ⟨(i 1).val % 512, by omega⟩ (i 2))).trans (covered i t ht)
  exact Eq.mp (congrArg (fun x => x ∈ ((cfg4.win 4).blk t).view.set) e) h

theorem final3 (c : Dev nD) : (dat4 V c).arrAt 3 cfg4.N = G3 (V c main_arg1) (V c main_arg6) :=
  (dat4 V c).arrAt_eq_of_cover 3 _ (fun t _ => flushed3 V c t) fun i => ⟨pt i, flush4_3 _, cov3 i (pt i) rfl⟩

theorem final4 (c : Dev nD) : (dat4 V c).arrAt 4 cfg4.N = G4 (V c main_arg1) (V c main_arg6) (V c main_v10) :=
  (dat4 V c).arrAt_eq_of_cover 4 _ (fun t _ => flushed4 V c t) fun i => ⟨pt i, flush4_4 _, cov4 i (pt i) rfl⟩

end Cert.Proof.Left

end
-- ==== Proof.Right.lean ====
/- The kernel that updates the right statistic, region 5: what one grid point stores (`pay1_apply`, `pay3_apply`), which
   parts of the arrays a point's blocks are (`idx*`, `emb*`), and so what its two result arrays hold after the run (`final4`,
   `final5`), as functions of the arrays it is given. -/
module

public import proofs.«01_k».proof.Proof.Gen.KernelIdeal.Frame
public import proofs.«01_k».proof.Proof.Spec
public import proofs.«01_k».proof.Proof.Dot
public import Idealize.ShloMosaic.Lib.Pipeline.ValueKit.Tiles

@[expose] public section

noncomputable section

namespace Cert.Proof.Right

open Cert.KernelIdeal Cert.KernelIdeal.Gen Idealize.ShloMosaic Idealize.ShloMosaic.TcCoe Idealize.ShloMosaic.ValueIdx
  Idealize.ShloMosaic.Pipeline Idealize.SL.Sem Cert.Proof.Spec Cert.Proof.Dot

/-! ## What one point stores -/

theorem pay1_apply (r : Vec Ideal S1x256x2304 .f32) (g : Vec Ideal S1x1536x256 .bf16) (G : Vec Ideal S1x1536x2304 .bf16)
    (j : S256x2304.Idx) : k5_pay1 (F := Ideal) r g G j
      = c95 * r (ix3 0 (j 0) (j 1)) + c05 * ∑ k : Fin 1536, g (ix3 0 k (j 0)) * G (ix3 0 k (j 1)) := by
  unfold k5_pay1
  rw [addf_apply, mulf_apply, mulf_apply, broadcast_apply, broadcast_apply,
    dot_tn (M := 256) (N := 2304) (K := 1536) dot_S1536x256_S1536x2304_S256x2304_0_0_1_1_n_n _ rfl]
  refine congrArg₂ (· + ·) (congrArg (_ * ·) ?_) (congrArg (_ * ·) (sum_congr' fun k => congrArg₂ (· * ·) ?_ ?_))
  · refine (shapeCast_dropUnit_apply ![256, 2304] _ _ _).trans (congrArg r ?_)
    funext a; match a with | ⟨0, _⟩ => rfl | ⟨1, _⟩ => rfl | ⟨2, _⟩ => rfl
  · refine (shapeCast_dropUnit_apply ![1536, 256] _ _ _).trans (congrArg g ?_)
    funext a; match a with | ⟨0, _⟩ => rfl | ⟨1, _⟩ => rfl | ⟨2, _⟩ => rfl
  · refine (shapeCast_dropUnit_apply ![1536, 2304] _ _ _).trans (congrArg G ?_)
    funext a; match a with | ⟨0, _⟩ => rfl | ⟨1, _⟩ => rfl | ⟨2, _⟩ => rfl

theorem pay3_apply (r : Vec Ideal S1x256x2304 .f32) (g : Vec Ideal S1x1536x256 .bf16) (G : Vec Ideal S1x1536x2304 .bf16)
    (q : Vec Ideal S1x2304x2304 .bf16) (j : S1x256x2304.Idx) : k5_pay3 (F := Ideal) r g G q j
      = ∑ k : Fin 2304, k5_pay1 (F := Ideal) r g G (ix2 (j 1) k) * q (ix3 0 (j 2) k) := by
  unfold k5_pay3
  refine (shapeCast_addUnit_apply ![256, 2304] _ _ _).trans ?_
  refine Eq.trans ?_ ((dot_nt (M := 256) (N := 2304) (K := 2304) (φ₁ := .bf16) (φ₂ := .bf16)
    dot_S256x2304_S2304x2304_S256x2304_1_1_0_0_n_n _ rfl
    (truncf .bf16 (k5_pay1 (F := Ideal) r g G) bitsLt_bf16_f32)
    (shapeCast S2304x2304 q shapeCasts_S1x2304x2304_S2304x2304) (ix2 (j 1) (j 2))).trans ?_)
  · exact congrArg _ (eq_ix2 (n0 := 256) (n1 := 2304) fun a => j a.succ)
  · refine sum_congr' fun k => congrArg₂ (· * ·) rfl ?_
    refine (shapeCast_dropUnit_apply ![2304, 2304] _ _ _).trans (congrArg q ?_)
    funext a; match a with | ⟨0, _⟩ => rfl | ⟨1, _⟩ => rfl | ⟨2, _⟩ => rfl

theorem hz : (![0, 0, 0] : Fin 3 → Nat) = fun _ => 0 := funext fun a => by fin_cases a <;> rfl

theorem out4_eq (x0 : Vec Ideal S1x1536x256 .bf16) (x1 : Vec Ideal S1x1536x2304 .bf16) (x2 : Vec Ideal S1x2304x2304 .bf16)
    (x3 : Vec Ideal S1x256x2304 .f32) : out5_4 (F := Ideal) x0 x1 x2 x3 = k5_pay2 (F := Ideal) x3 x0 x1 := by
  unfold out5_4
  rw [View.canon_unit_zero hz, View.ld_unit_zero hz, View.ld_unit_zero hz, View.ld_unit_zero hz]

theorem out5_eq (x0 : Vec Ideal S1x1536x256 .bf16) (x1 : Vec Ideal S1x1536x2304 .bf16) (x2 : Vec Ideal S1x2304x2304 .bf16)
    (x3 : Vec Ideal S1x256x2304 .f32) : out5_5 (F := Ideal) x0 x1 x2 x3 = k5_pay3 (F := Ideal) x3 x0 x1 x2 := by
  unfold out5_5
  rw [View.canon_unit_zero hz, View.ld_unit_zero hz, View.ld_unit_zero hz, View.ld_unit_zero hz, View.ld_unit_zero hz]

/-! ## Which parts of the arrays a point's blocks are -/

theorem idx0 : ∀ t : Fin cfg5.N, win5_0.index t (0 : Fin 3) = t.val / 9 ∧ win5_0.index t (1 : Fin 3) = 0
    ∧ win5_0.index t (2 : Fin 3) = t.val % 9 := (by decide +kernel : ∀ t : Fin grid5.N, _)
theorem idx1 : ∀ t : Fin cfg5.N, win5_1.index t (0 : Fin 3) = t.val / 9 ∧ win5_1.index t (1 : Fin 3) = 0
    ∧ win5_1.index t (2 : Fin 3) = 0 := (by decide +kernel : ∀ t : Fin grid5.N, _)
theorem idx2 : ∀ t : Fin cfg5.N, win5_2.index t (0 : Fin 3) = t.val / 9 ∧ win5_2.index t (1 : Fin 3) = 0
    ∧ win5_2.index t (2 : Fin 3) = 0 := (by decide +kernel : ∀ t : Fin grid5.N, _)
theorem idx3 : ∀ t : Fin cfg5.N, win5_3.index t (0 : Fin 3) = t.val / 9 ∧ win5_3.index t (1 : Fin 3) = t.val % 9
    ∧ win5_3.index t (2 : Fin 3) = 0 := (by decide +kernel : ∀ t : Fin grid5.N, _)
theorem idx4 : ∀ t : Fin cfg5.N, win5_4.index t (0 : Fin 3) = t.val / 9 ∧ win5_4.index t (1 : Fin 3) = t.val % 9
    ∧ win5_4.index t (2 : Fin 3) = 0 := (by decide +kernel : ∀ t : Fin grid5.N, _)
theorem idx5 : ∀ t : Fin cfg5.N, win5_5.index t (0 : Fin 3) = t.val / 9 ∧ win5_5.index t (1 : Fin 3) = t.val % 9
    ∧ win5_5.index t (2 : Fin 3) = 0 := (by decide +kernel : ∀ t : Fin grid5.N, _)

theorem lt (t : Fin cfg5.N) : t.val < 81 := t.isLt

/-- The matrix a point works on. -/
abbrev mat (t : Fin cfg5.N) : Fin 9 := ⟨t.val / 9, by have := lt t; omega⟩
/-- Row `r` of a point's 256, as a row of the array. -/
abbrev row (t : Fin cfg5.N) (r : Fin 256) : Fin 2304 := ⟨256 * (t.val % 9) + r.val, by omega⟩

theorem emb4 (t : Fin cfg5.N) (j : S1x256x2304.Idx) :
    ((cfg5.win 4).blk t).view.emb j = ix3 (mat t) (row t (j 1)) (j 2) := by
  obtain ⟨e0, e1, e2⟩ := idx4 t
  have h0 : (j 0).val < 1 := (j 0).isLt
  funext a; apply Fin.ext
  match a with
  | ⟨0, _⟩ => show win5_4.index t (0 : Fin 3) * 1 + 1 * (j 0).val = t.val / 9; omega
  | ⟨1, _⟩ => show win5_4.index t (1 : Fin 3) * 256 + 1 * (j 1).val = 256 * (t.val % 9) + (j 1).val; omega
  | ⟨2, _⟩ => show win5_4.index t (2 : Fin 3) * 2304 + 1 * (j 2).val = (j 2).val; omega
theorem emb5 (t : Fin cfg5.N) (j : S1x256x2304.Idx) :
    ((cfg5.win 5).blk t).view.emb j = ix3 (mat t) (row t (j 1)) (j 2) := by
  obtain ⟨e0, e1, e2⟩ := idx5 t
  have h0 : (j 0).val < 1 := (j 0).isLt
  funext a; apply Fin.ext
  match a with
  | ⟨0, _⟩ => show win5_5.index t (0 : Fin 3) * 1 + 1 * (j 0).val = t.val / 9; omega
  | ⟨1, _⟩ => show win5_5.index t (1 : Fin 3) * 256 + 1 * (j 1).val = 256 * (t.val % 9) + (j 1).val; omega
  | ⟨2, _⟩ => show win5_5.index t (2 : Fin 3) * 2304 + 1 * (j 2).val = (j 2).val; omega

variable (V : (c : Dev nD) → (b : Ref sig .tc) → Buf (Elt Ideal) ((c : Thread nD τ).loc b))

theorem iblk0_apply (c : Dev nD) (t : Fin cfg5.N) (j : S1x1536x256.Idx) :
    iblk5 V c 0 t j = V c main_arg1 (ix3 (mat t) (j 1) (row t (j 2))) := by
  obtain ⟨e0, e1, e2⟩ := idx0 t
  have h0 : (j 0).val < 1 := (j 0).isLt
  show V c main_arg1 (((cfg5.win 0).blk t).view.emb j) = _
  refine congrArg (V c main_arg1) ?_
  funext a; apply Fin.ext
  match a with
  | ⟨0, _⟩ => show win5_0.index t (0 : Fin 3) * 1 + 1 * (j 0).val = t.val / 9; omega
  | ⟨1, _⟩ => show win5_0.index t (1 : Fin 3) * 1536 + 1 * (j 1).val = (j 1).val; omega
  | ⟨2, _⟩ => show win5_0.index t (2 : Fin 3) * 256 + 1 * (j 2).val = 256 * (t.val % 9) + (j 2).val; omega
theorem iblk1_apply (c : Dev nD) (t : Fin cfg5.N) (j : S1x1536x2304.Idx) :
    iblk5 V c 1 t j = V c main_arg1 (ix3 (mat t) (j 1) (j 2)) := by
  obtain ⟨e0, e1, e2⟩ := idx1 t
  have h0 : (j 0).val < 1 := (j 0).isLt
  show V c main_arg1 (((cfg5.win 1).blk t).view.emb j) = _
  refine congrArg (V c main_arg1) ?_
  funext a; apply Fin.ext
  match a with
  | ⟨0, _⟩ => show win5_1.index t (0 : Fin 3) * 1 + 1 * (j 0).val = t.val / 9; omega
  | ⟨1, _⟩ => show win5_1.index t (1 : Fin 3) * 1536 + 1 * (j 1).val = (j 1).val; omega
  | ⟨2, _⟩ => show win5_1.index t (2 : Fin 3) * 2304 + 1 * (j 2).val = (j 2).val; omega
theorem iblk4_apply (c : Dev nD) (t : Fin cfg5.N) (j : S1x2304x2304.Idx) :
    iblk5 V c 2 t j = V c main_v15 (ix3 (mat t) (j 1) (j 2)) := by
  obtain ⟨e0, e1, e2⟩ := idx2 t
  have h0 : (j 0).val < 1 := (j 0).isLt
  show V c main_v15 (((cfg5.win 2).blk t).view.emb j) = _
  refine congrArg (V c main_v15) ?_
  funext a; apply Fin.ext
  match a with
  | ⟨0, _⟩ => show win5_2.index t (0 : Fin 3) * 1 + 1 * (j 0).val = t.val / 9; omega
  | ⟨1, _⟩ => show win5_2.index t (1 : Fin 3) * 2304 + 1 * (j 1).val = (j 1).val; omega
  | ⟨2, _⟩ => show win5_2.index t (2 : Fin 3) * 2304 + 1 * (j 2).val = (j 2).val; omega
theorem iblk5_apply (c : Dev nD) (t : Fin cfg5.N) (j : S1x256x2304.Idx) :
    iblk5 V c 3 t j = V c main_arg7 (ix3 (mat t) (row t (j 1)) (j 2)) := by
  obtain ⟨e0, e1, e2⟩ := idx3 t
  have h0 : (j 0).val < 1 := (j 0).isLt
  show V c main_arg7 (((cfg5.win 3).blk t).view.emb j) = _
  refine congrArg (V c main_arg7) ?_
  funext a; apply Fin.ext
  match a with
  | ⟨0, _⟩ => show win5_3.index t (0 : Fin 3) * 1 + 1 * (j 0).val = t.val / 9; omega
  | ⟨1, _⟩ => show win5_3.index t (1 : Fin 3) * 256 + 1 * (j 1).val = 256 * (t.val % 9) + (j 1).val; omega
  | ⟨2, _⟩ => show win5_3.index t (2 : Fin 3) * 2304 + 1 * (j 2).val = (j 2).val; omega

/-! ## What the two arrays hold after the run -/

/-- The statistic at row `r` of a point's 256. -/
theorem stat (c : Dev nD) (t : Fin cfg5.N) (r : Fin 256) (k : Fin 2304) :
    k5_pay1 (F := Ideal) (iblk5 V c 3 t) (iblk5 V c 0 t) (iblk5 V c 1 t) (ix2 r k)
      = rightNew 1536 2304 (V c main_arg1) (V c main_arg7) (ix3 (mat t) (row t r) k) := by
  rw [pay1_apply, iblk5_apply]
  refine congrArg₂ (· + ·) rfl (congrArg (c05 * ·) (sum_congr' fun q => congrArg₂ (· * ·) ?_ ?_))
  · exact iblk0_apply V c t _
  · exact iblk1_apply V c t _

/-- The two result arrays, as functions of the arrays the region is given. -/
def G4 (g : Vec Ideal S9x1536x2304 .bf16) (r : Vec Ideal S9x2304x2304 .f32) : Vec Ideal S9x2304x2304 .f32 :=
  rightNew 1536 2304 g r
def G5 (g : Vec Ideal S9x1536x2304 .bf16) (r : Vec Ideal S9x2304x2304 .f32) (q : Vec Ideal S9x2304x2304 .bf16) :
    Vec Ideal S9x2304x2304 .bf16 := proj 2304 (rightNew 1536 2304 g r) q

theorem block4 (c : Dev nD) (t : Fin cfg5.N) (j : S1x256x2304.Idx) :
    k5_pay2 (F := Ideal) (iblk5 V c 3 t) (iblk5 V c 0 t) (iblk5 V c 1 t) j
      = G4 (V c main_arg1) (V c main_arg7) (ix3 (mat t) (row t (j 1)) (j 2)) := by
  unfold k5_pay2
  refine (shapeCast_addUnit_apply ![256, 2304] _ _ _).trans ?_
  exact (congrArg _ (eq_ix2 (n0 := 256) (n1 := 2304) _)).trans (stat V c t (j 1) (j 2))

theorem block5 (c : Dev nD) (t : Fin cfg5.N) (j : S1x256x2304.Idx) :
    k5_pay3 (F := Ideal) (iblk5 V c 3 t) (iblk5 V c 0 t) (iblk5 V c 1 t) (iblk5 V c 2 t) j
      = G5 (V c main_arg1) (V c main_arg7) (V c main_v15) (ix3 (mat t) (row t (j 1)) (j 2)) :=
  (pay3_apply _ _ _ _ j).trans
    (sum_congr' fun k => congrArg₂ (· * ·) (stat V c t (j 1) k) (iblk4_apply V c t (ix3 0 (j 2) k)))

theorem flushed4 (c : Dev nD) (t : Fin cfg5.N) :
    (dat5 V c).flushed 4 t = ((cfg5.win 4).blk t).view.read (Elt Ideal) (G4 (V c main_arg1) (V c main_arg7)) := by
  funext j
  show (dat5 V c).after 4 t j = G4 (V c main_arg1) (V c main_arg7) (((cfg5.win 4).blk t).view.emb j)
  rw [emb4, after5_4, out4_eq]
  exact block4 V c t j

theorem flushed5 (c : Dev nD) (t : Fin cfg5.N) : (dat5 V c).flushed 5 t
    = ((cfg5.win 5).blk t).view.read (Elt Ideal) (G5 (V c main_arg1) (V c main_arg7) (V c main_v15)) := by
  funext j
  show (dat5 V c).after 5 t j = G5 (V c main_arg1) (V c main_arg7) (V c main_v15) (((cfg5.win 5).blk t).view.emb j)
  rw [emb5, after5_5, out5_eq]
  exact block5 V c t j

theorem covered (i : (A3 9 2304 2304).Idx) (t : Fin cfg5.N) (ht : t.val = (i 0).val * 9 + (i 1).val / 256) :
    ix3 (mat t) (row t ⟨(i 1).val % 256, by omega⟩) (i 2) = i := by
  have h1 : (i 1).val < 2304 := (i 1).isLt
  funext a; apply Fin.ext
  match a with
  | ⟨0, _⟩ => show t.val / 9 = (i 0).val; omega
  | ⟨1, _⟩ => show 256 * (t.val % 9) + (i 1).val % 256 = (i 1).val; omega
  | ⟨2, _⟩ => rfl

/-- The point that writes row `i 1` of matrix `i 0`. -/
def pt (i : (A3 9 2304 2304).Idx) : Fin cfg5.N :=
  (⟨(i 0).val * 9 + (i 1).val / 256, by
    have h0 : (i 0).val < 9 := (i 0).isLt
    have h1 : (i 1).val < 2304 := (i 1).isLt
    show _ < 81; omega⟩ : Fin 81)

theorem cov4 (i : (A3 9 2304 2304).Idx) (t : Fin cfg5.N) (ht : t.val = (i 0).val * 9 + (i 1).val / 256) :
    i ∈ ((cfg5.win 4).blk t).view.set := by
  have h := ((cfg5.win 4).blk t).view.emb_mem_set (ix3 0 ⟨(i 1).val % 256, by omega⟩ (i 2))
  have e := (emb4 t (ix3 0 ⟨(i 1).val % 256, by omega⟩ (i 2))).trans (covered i t ht)
  exact Eq.mp (congrArg (fun x => x ∈ ((cfg5.win 4).blk t).view.set) e) h
theorem cov5 (i : (A3 9 2304 2304).Idx) (t : Fin cfg5.N) (ht : t.val = (i 0).val * 9 + (i 1).val / 256) :
    i ∈ ((cfg5.win 5).blk t).view.set := by
  have h := ((cfg5.win 5).blk t).view.emb_mem_set (ix3 0 ⟨(i 1).val % 256, by omega⟩ (i 2))
  have e := (emb5 t (ix3 0 ⟨(i 1).val % 256, by omega⟩ (i 2))).trans (covered i t ht)
  exact Eq.mp (congrArg (fun x => x ∈ ((cfg5.win 5).blk t).view.set) e) h

theorem final4 (c : Dev nD) : (dat5 V c).arrAt 4 cfg5.N = G4 (V c main_arg1) (V c main_arg7) :=
  (dat5 V c).arrAt_eq_of_cover 4 _ (fun t _ => flushed4 V c t) fun i => ⟨pt i, flush5_4 _, cov4 i (pt i) rfl⟩

theorem final5 (c : Dev nD) : (dat5 V c).arrAt 5 cfg5.N = G5 (V c main_arg1) (V c main_arg7) (V c main_v15) :=
  (dat5 V c).arrAt_eq_of_cover 5 _ (fun t _ => flushed5 V c t) fun i => ⟨pt i, flush5_5 _, cov5 i (pt i) rfl⟩

end Cert.Proof.Right

end
-- ==== Proof.Run.lean ====
/- The whole program's run over the extended reals: what each call leaves in the arrays it writes, followed from call to call to
   the eight results (`run`). The launch is the same as in the generated frame proof; the final contents are read at the results
   as well as at the arguments. -/
module

public import proofs.«01_k».proof.Proof.Scales
public import proofs.«01_k».proof.Proof.Rot2Out
public import proofs.«01_k».proof.Proof.Back
public import proofs.«01_k».proof.Proof.Left
public import proofs.«01_k».proof.Proof.Right

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Spec

local notation "𝕄" => MT nD τ sig Unit (Elt Ideal) ℕ (UR sig nD τ) ℕ

variable (m : (ℓ : Loc nD τ sig) → Buf (Elt Ideal) ℓ) (ρ : Dev nD → PrngReg)

/-! ## The arrays between the calls -/

/-- The transposed bases, the table of scalars, the update and the step, from the arguments. -/
def basisL (c : Dev nD) : Vec Ideal S9x1536x1536 .bf16 := basisT 1536 768 24 rfl rfl (m ((c.tc : Thread nD τ).loc main_arg8)) (m ((c.tc : Thread nD τ).loc main_arg9))
def basisR (c : Dev nD) : Vec Ideal S9x2304x2304 .bf16 := basisT 2304 1152 36 rfl rfl (m ((c.tc : Thread nD τ).loc main_arg10)) (m ((c.tc : Thread nD τ).loc main_arg11))
def scalars (c : Dev nD) : Vec Ideal S9x5 .f32 := Scales.columns (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
def newN (c : Dev nD) : Vec Ideal S9x1536x2304 .bf16 :=
  update (m ((c.tc : Thread nD τ).loc main_arg2)) (m ((c.tc : Thread nD τ).loc main_arg3)) (basisR m c) (m ((c.tc : Thread nD τ).loc main_arg4)) (m ((c.tc : Thread nD τ).loc main_arg5))
    (Scales.col (m ((c.tc : Thread nD τ).loc main_arg12))) (Scales.col (m ((c.tc : Thread nD τ).loc main_arg13))) (Scales.col (m ((c.tc : Thread nD τ).loc main_arg14)))
def finalU (c : Dev nD) : Vec Ideal S9x1536x2304 .f32 := back2 (basisL m c) (newN m c) (basisR m c)

/-- The table of scalars, from the host code to the two calls that read it. -/
theorem W1_main_v5 (c : Dev nD) : W1 m ρ c (Proc.devRef .tc main_v5) = scalars m c := Scales.readConsts (W0 m ρ c)
theorem W4_main_v5 (c : Dev nD) : W4 m ρ c (Proc.devRef .tc main_v5) = scalars m c :=
  (W4_of_ne m ρ c main_v5 (by decide)).trans ((W3_of m ρ c main_v5 (by decide)).trans ((W2_of_ne m ρ c main_v5 (by decide)).trans (W1_main_v5 m ρ c)))
theorem W5_main_v5 (c : Dev nD) : W5 m ρ c (Proc.devRef .tc main_v5) = scalars m c :=
  (W5_of m ρ c main_v5 (by decide)).trans (W4_main_v5 m ρ c)

/-- The left basis, from the call that decodes it to the calls that read it. -/
theorem W2_main_v10 (c : Dev nD) : W2 m ρ c (Proc.devRef .tc main_v10) = basisL m c := by
  refine (W2_arr m ρ c 2).trans ((DecodeL.final2 (V1 m ρ) c).trans ?_)
  refine (congrArg₂ DecodeL.G (W1_args m ρ c main_arg8 (by decide)) ((Scales.readLeft (W0 m ρ c)))).trans ?_
  exact Scales.basisLeft _ _
theorem W5_main_v10 (c : Dev nD) : W5 m ρ c (Proc.devRef .tc main_v10) = basisL m c :=
  (W5_of_ne m ρ c main_v10 (by decide)).trans ((W4_of_ne m ρ c main_v10 (by decide)).trans ((W3_of m ρ c main_v10 (by decide)).trans (W2_main_v10 m ρ c)))
theorem W6_main_v10 (c : Dev nD) : W6 m ρ c (Proc.devRef .tc main_v10) = basisL m c :=
  (W6_of m ρ c main_v10 (by decide)).trans (W5_main_v10 m ρ c)

/-- The right basis. -/
theorem W4_main_v15 (c : Dev nD) : W4 m ρ c (Proc.devRef .tc main_v15) = basisR m c := by
  refine (W4_arr m ρ c 2).trans ((DecodeR.final2 (V3 m ρ) c).trans ?_)
  refine (congrArg₂ DecodeR.G (W3_args m ρ c main_arg10 (by decide)) ((Scales.readRight (W2 m ρ c)).trans
    (congrArg Scales.rowsRight (W2_args m ρ c main_arg11 (by decide))))).trans ?_
  exact Scales.basisRight _ _
theorem W5_main_v15 (c : Dev nD) : W5 m ρ c (Proc.devRef .tc main_v15) = basisR m c :=
  (W5_of m ρ c main_v15 (by decide)).trans (W4_main_v15 m ρ c)
theorem W7_main_v15 (c : Dev nD) : W7 m ρ c (Proc.devRef .tc main_v15) = basisR m c :=
  (W7_of_ne m ρ c main_v15 (by decide)).trans ((W6_of m ρ c main_v15 (by decide)).trans (W5_main_v15 m ρ c))

/-- The update in the rotated basis. -/
theorem W5_main_v16_0 (c : Dev nD) : W5 m ρ c (Proc.devRef .tc main_v16_0) = newN m c := by
  refine (W5_arr m ρ c 6).trans ((Rot2.final6 (V4 m ρ) c).trans ?_)
  have e : ∀ {a a' b b' : Vec Ideal S9x1536x2304 .bf16} {d d' : Vec Ideal S9x2304x2304 .bf16} {x x' : Vec Ideal S9x1536x2304 .i8}
      {s s' : Vec Ideal S9x1536x18 .f32} {k k' : Vec Ideal S9x5 .f32}, a = a' → b = b' → d = d' → x = x' → s = s' → k = k'
      → Rot2.G6 a b d x s k = Rot2.G6 a' b' d' x' s' k' := fun h1 h2 h3 h4 h5 h6 => by subst h1 h2 h3 h4 h5 h6; rfl
  refine (e (W4_args m ρ c main_arg2 (by decide)) (W4_args m ρ c main_arg3 (by decide)) (W4_main_v15 m ρ c)
    (W4_args m ρ c main_arg4 (by decide)) (W4_args m ρ c main_arg5 (by decide)) (W4_main_v5 m ρ c)).trans ?_
  unfold Rot2.G6 scalars newN
  rw [Scales.column0, Scales.column1, Scales.column2]

/-- The eight results where the program ends. -/
theorem W6_main_v17_1 (c : Dev nD) : W6 m ρ c (Proc.devRef .tc main_v17_1) = finalU m c := by
  refine (W6_arr m ρ c 6).trans ((Back.final6 (V5 m ρ) c).trans ?_)
  have e : ∀ {a a' : Vec Ideal S9x1536x1536 .bf16} {b b' : Vec Ideal S9x1536x2304 .bf16} {d d' : Vec Ideal S9x2304x2304 .bf16},
      a = a' → b = b' → d = d' → Back.G6 a b d = Back.G6 a' b' d' := fun h1 h2 h3 => by subst h1 h2 h3; rfl
  exact e (W5_main_v10 m ρ c) (W5_main_v16_0 m ρ c) (W5_main_v15 m ρ c)
theorem W8_main_v17_1 (c : Dev nD) : W8 m ρ c (Proc.devRef .tc main_v17_1) = finalU m c :=
  (W8_of_ne m ρ c main_v17_1 (by decide)).trans ((W7_of_ne m ρ c main_v17_1 (by decide)).trans (W6_main_v17_1 m ρ c))

theorem W6_main_v17_0 (c : Dev nD) : W6 m ρ c (Proc.devRef .tc main_v17_0) = weight (m ((c.tc : Thread nD τ).loc main_arg0)) (finalU m c) (Scales.col (m ((c.tc : Thread nD τ).loc main_arg15))) (Scales.col (m ((c.tc : Thread nD τ).loc main_arg16))) := by
  refine (W6_arr m ρ c 5).trans ((Back.final5 (V5 m ρ) c).trans ?_)
  have e : ∀ {a a' : Vec Ideal S9x1536x1536 .bf16} {b b' : Vec Ideal S9x1536x2304 .bf16} {d d' : Vec Ideal S9x2304x2304 .bf16}
      {w w' : Vec Ideal S9x1536x2304 .f32} {k k' : Vec Ideal S9x5 .f32}, w = w' → a = a' → b = b' → d = d' → k = k' →
      Back.G5 w (Back.G6 a b d) k = Back.G5 w' (Back.G6 a' b' d') k' := fun h1 h2 h3 h4 h5 => by subst h1 h2 h3 h4 h5; rfl
  refine (e (W5_args m ρ c main_arg0 (by decide)) (W5_main_v10 m ρ c) (W5_main_v16_0 m ρ c) (W5_main_v15 m ρ c)
    (W5_main_v5 m ρ c)).trans ?_
  unfold Back.G5 scalars
  rw [Scales.column3, Scales.column4]
  rfl
theorem W8_main_v17_0 (c : Dev nD) : W8 m ρ c (Proc.devRef .tc main_v17_0) = weight (m ((c.tc : Thread nD τ).loc main_arg0)) (finalU m c) (Scales.col (m ((c.tc : Thread nD τ).loc main_arg15))) (Scales.col (m ((c.tc : Thread nD τ).loc main_arg16))) :=
  (W8_of_ne m ρ c main_v17_0 (by decide)).trans ((W7_of_ne m ρ c main_v17_0 (by decide)).trans (W6_main_v17_0 m ρ c))

theorem rot2_congr {α : Type} (f : Vec Ideal S9x1536x2304 .bf16 → Vec Ideal S9x2304x2304 .bf16 → Vec Ideal S9x1536x2304 .i8 →
    Vec Ideal S9x1536x18 .f32 → α) {a a' : Vec Ideal S9x1536x2304 .bf16} {d d' : Vec Ideal S9x2304x2304 .bf16}
    {x x' : Vec Ideal S9x1536x2304 .i8} {s s' : Vec Ideal S9x1536x18 .f32} (h1 : a = a') (h2 : d = d') (h3 : x = x')
    (h4 : s = s') : f a d x s = f a' d' x' s' := by subst h1 h2 h3 h4; rfl

theorem W8_main_v16_1 (c : Dev nD) : W8 m ρ c (Proc.devRef .tc main_v16_1) = codeNew (m ((c.tc : Thread nD τ).loc main_arg2)) (basisR m c) (m ((c.tc : Thread nD τ).loc main_arg4)) (m ((c.tc : Thread nD τ).loc main_arg5)) := by
  refine (W8_of_ne m ρ c main_v16_1 (by decide)).trans ((W7_of_ne m ρ c main_v16_1 (by decide)).trans ((W6_of_ne m ρ c main_v16_1 (by decide)).trans ?_))
  refine (W5_arr m ρ c 7).trans ((Rot2.final7 (V4 m ρ) c).trans ?_)
  exact rot2_congr Rot2.G7 (W4_args m ρ c main_arg2 (by decide)) (W4_main_v15 m ρ c) (W4_args m ρ c main_arg4 (by decide))
    (W4_args m ρ c main_arg5 (by decide))

theorem W8_main_v16_2 (c : Dev nD) : W8 m ρ c (Proc.devRef .tc main_v16_2) = scaleNew (m ((c.tc : Thread nD τ).loc main_arg2)) (basisR m c) (m ((c.tc : Thread nD τ).loc main_arg4)) (m ((c.tc : Thread nD τ).loc main_arg5)) := by
  refine (W8_of_ne m ρ c main_v16_2 (by decide)).trans ((W7_of_ne m ρ c main_v16_2 (by decide)).trans ((W6_of_ne m ρ c main_v16_2 (by decide)).trans ?_))
  refine (W5_arr m ρ c 8).trans ((Rot2.final8 (V4 m ρ) c).trans ?_)
  exact rot2_congr Rot2.G8 (W4_args m ρ c main_arg2 (by decide)) (W4_main_v15 m ρ c) (W4_args m ρ c main_arg4 (by decide))
    (W4_args m ρ c main_arg5 (by decide))

theorem W8_main_v18_0 (c : Dev nD) : W8 m ρ c (Proc.devRef .tc main_v18_0) = leftNew 1536 2304 (m ((c.tc : Thread nD τ).loc main_arg1)) (m ((c.tc : Thread nD τ).loc main_arg6)) := by
  refine (W8_of_ne m ρ c main_v18_0 (by decide)).trans ((W7_arr m ρ c 3).trans ((Left.final3 (V6 m ρ) c).trans ?_))
  exact congrArg₂ Left.G3 (W6_args m ρ c main_arg1 (by decide)) (W6_args m ρ c main_arg6 (by decide))

theorem W8_main_v18_1 (c : Dev nD) : W8 m ρ c (Proc.devRef .tc main_v18_1) = proj 1536 (leftNew 1536 2304 (m ((c.tc : Thread nD τ).loc main_arg1)) (m ((c.tc : Thread nD τ).loc main_arg6))) (basisL m c) := by
  refine (W8_of_ne m ρ c main_v18_1 (by decide)).trans ((W7_arr m ρ c 4).trans ((Left.final4 (V6 m ρ) c).trans ?_))
  have e : ∀ {a a' : Vec Ideal S9x1536x2304 .bf16} {b b' : Vec Ideal S9x1536x1536 .f32} {d d' : Vec Ideal S9x1536x1536 .bf16},
      a = a' → b = b' → d = d' → Left.G4 a b d = Left.G4 a' b' d' := fun h h' h'' => h ▸ h' ▸ h'' ▸ rfl
  exact e (W6_args m ρ c main_arg1 (by decide)) (W6_args m ρ c main_arg6 (by decide)) (W6_main_v10 m ρ c)

theorem W8_main_v19_0 (c : Dev nD) : W8 m ρ c (Proc.devRef .tc main_v19_0) = rightNew 1536 2304 (m ((c.tc : Thread nD τ).loc main_arg1)) (m ((c.tc : Thread nD τ).loc main_arg7)) := by
  refine (W8_arr m ρ c 4).trans ((Right.final4 (V7 m ρ) c).trans ?_)
  exact congrArg₂ Right.G4 (W7_args m ρ c main_arg1 (by decide)) (W7_args m ρ c main_arg7 (by decide))

theorem W8_main_v19_1 (c : Dev nD) : W8 m ρ c (Proc.devRef .tc main_v19_1) = proj 2304 (rightNew 1536 2304 (m ((c.tc : Thread nD τ).loc main_arg1)) (m ((c.tc : Thread nD τ).loc main_arg7))) (basisR m c) := by
  refine (W8_arr m ρ c 5).trans ((Right.final5 (V7 m ρ) c).trans ?_)
  have e : ∀ {a a' : Vec Ideal S9x1536x2304 .bf16} {b b' : Vec Ideal S9x2304x2304 .f32} {d d' : Vec Ideal S9x2304x2304 .bf16},
      a = a' → b = b' → d = d' → Right.G5 a b d = Right.G5 a' b' d' := fun h h' h'' => h ▸ h' ▸ h'' ▸ rfl
  exact e (W7_args m ρ c main_arg1 (by decide)) (W7_args m ρ c main_arg7 (by decide)) (W7_main_v15 m ρ c)

set_option backward.isDefEq.respectTransparency.types false in
/-- From any memory with zero counters the program terminates with its eight results at the mathematics of its arguments and
    the arguments unchanged. -/
theorem run : θ_run (defs (F := Ideal)) (onTc (τ := τ) (main (F := Ideal))) ⟨m, fun _ => 0, ρ⟩ (fun r => ∀ c : Dev nD,
      r.2.mem ((c.tc : Thread nD τ).loc main_v17_0) = weight (m ((c.tc : Thread nD τ).loc main_arg0)) (finalU m c) (Scales.col (m ((c.tc : Thread nD τ).loc main_arg15))) (Scales.col (m ((c.tc : Thread nD τ).loc main_arg16)))
      ∧ r.2.mem ((c.tc : Thread nD τ).loc main_v17_1) = finalU m c
      ∧ r.2.mem ((c.tc : Thread nD τ).loc main_v18_0) = leftNew 1536 2304 (m ((c.tc : Thread nD τ).loc main_arg1)) (m ((c.tc : Thread nD τ).loc main_arg6))
      ∧ r.2.mem ((c.tc : Thread nD τ).loc main_v19_0) = rightNew 1536 2304 (m ((c.tc : Thread nD τ).loc main_arg1)) (m ((c.tc : Thread nD τ).loc main_arg7))
      ∧ r.2.mem ((c.tc : Thread nD τ).loc main_v18_1) = proj 1536 (leftNew 1536 2304 (m ((c.tc : Thread nD τ).loc main_arg1)) (m ((c.tc : Thread nD τ).loc main_arg6))) (basisL m c)
      ∧ r.2.mem ((c.tc : Thread nD τ).loc main_v19_1) = proj 2304 (rightNew 1536 2304 (m ((c.tc : Thread nD τ).loc main_arg1)) (m ((c.tc : Thread nD τ).loc main_arg7))) (basisR m c)
      ∧ r.2.mem ((c.tc : Thread nD τ).loc main_v16_1) = codeNew (m ((c.tc : Thread nD τ).loc main_arg2)) (basisR m c) (m ((c.tc : Thread nD τ).loc main_arg4)) (m ((c.tc : Thread nD τ).loc main_arg5))
      ∧ r.2.mem ((c.tc : Thread nD τ).loc main_v16_2) = scaleNew (m ((c.tc : Thread nD τ).loc main_arg2)) (basisR m c) (m ((c.tc : Thread nD τ).loc main_arg4)) (m ((c.tc : Thread nD τ).loc main_arg5))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12))
      ∧ r.2.mem ((c.tc : Thread nD τ).loc main_arg13) = (m ((c.tc : Thread nD τ).loc main_arg13))
      ∧ r.2.mem ((c.tc : Thread nD τ).loc main_arg14) = (m ((c.tc : Thread nD τ).loc main_arg14))
      ∧ r.2.mem ((c.tc : Thread nD τ).loc main_arg15) = (m ((c.tc : Thread nD τ).loc main_arg15))
      ∧ r.2.mem ((c.tc : Thread nD τ).loc main_arg16) = (m ((c.tc : Thread nD τ).loc main_arg16))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v17_0 (by decide))).trans (W8_main_v17_0 m ρ c),
       (h c _ (mem_uc main_v17_1 (by decide))).trans (W8_main_v17_1 m ρ c),
       (h c _ (mem_uc main_v18_0 (by decide))).trans (W8_main_v18_0 m ρ c),
       (h c _ (mem_uc main_v19_0 (by decide))).trans (W8_main_v19_0 m ρ c),
       (h c _ (mem_uc main_v18_1 (by decide))).trans (W8_main_v18_1 m ρ c),
       (h c _ (mem_uc main_v19_1 (by decide))).trans (W8_main_v19_1 m ρ c),
       (h c _ (mem_uc main_v16_1 (by decide))).trans (W8_main_v16_1 m ρ c),
       (h c _ (mem_uc main_v16_2 (by decide))).trans (W8_main_v16_2 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.Proof.Run

end
-- ==== Proof.Ref.lean ====
/- The reference, read: its decoded bases are `basisT` (`basisLeft`, `basisRight`) and its results are the statistics and
   their projections (`left`, `right`, `projLeft`, `projRight`), the new second moment's scales and codes (`scales`, `codes`),
   and the update and the new weights (`backBoth`, `weights`). -/
module

public import proofs.«01_k».proof.Proof.Gen.ReferenceIdeal.Read
public import proofs.«01_k».proof.Proof.SpecRot
public import proofs.«01_k».proof.Proof.Dot

@[expose] public section

noncomputable section

namespace Cert.Proof.Ref

open Cert.ReferenceIdeal Cert.ReferenceIdeal.Read Idealize.ShloMosaic Idealize.ShloMosaic.ValueIdx Cert.Proof.Spec Cert.Proof.Dot

/-! ## The Left basis -/

/-- The two halves of the packed bytes, as numbers. -/
theorem lowLeft (q : (⟨S9x1536x768, .i8⟩ : BufTy).Contents (Elt Ideal)) (b : Fin 9) (k : Fin 768) (r : Fin 1536) :
    val_main_v12 (F := Ideal) q (ix3 b k r) = nib 0 (q (ix3 b r k)) := by
  rw [val_main_v12_apply, val_main_v11_apply, val_main_v9_apply, val_main_v7_apply, val_main_v10_apply, val_main_v8_apply, val_main_v6_apply,
    val_main_v1_apply, val_main_v0_apply]
  exact (congrArg (fun w : BitVec 32 => ((w.toInt : ℝ) : EReal)) (nibW_low _)).trans
    (congrArg (nib 0) (congrArg q (funext fun a => match a with | ⟨0, _⟩ => rfl | ⟨1, _⟩ => rfl | ⟨2, _⟩ => rfl)))
theorem highLeft (q : (⟨S9x1536x768, .i8⟩ : BufTy).Contents (Elt Ideal)) (b : Fin 9) (k : Fin 768) (r : Fin 1536) :
    val_main_v24 (F := Ideal) q (ix3 b k r) = nib 1 (q (ix3 b r k)) := by
  rw [val_main_v24_apply, val_main_v23_apply, val_main_v21_apply, val_main_v19_apply, val_main_v22_apply, val_main_v20_apply, val_main_v18_apply,
    val_main_v1_apply, val_main_v0_apply]
  exact (congrArg (fun w : BitVec 32 => ((w.toInt : ℝ) : EReal)) (nibW_high _)).trans
    (congrArg (nib 1) (congrArg q (funext fun a => match a with | ⟨0, _⟩ => rfl | ⟨1, _⟩ => rfl | ⟨2, _⟩ => rfl)))

/-- The scale of row `r` in column block `a`. -/
theorem scaleLeft (s : (⟨S9x24x24, .f32⟩ : BufTy).Contents (Elt Ideal)) (b : Fin 9) (a : Fin 24) (r : Fin 1536) :
    val_main_v5 (F := Ideal) s (ix3 b a r) = s (ix3 b ⟨r.val / 64, by omega⟩ a) := by
  rw [val_main_v5_apply]
  have e : idx_main_v5 (ix3 b a r) = ix4 b a ⟨r.val / 64, by omega⟩ ⟨r.val % 64, by omega⟩ := by
    funext c; apply Fin.ext
    match c with
    | ⟨0, _⟩ => show ((b.val * 24 + a.val) * 1536 + r.val) / 36864 = b.val; omega
    | ⟨1, _⟩ => show ((b.val * 24 + a.val) * 1536 + r.val) / 1536 % 24 = a.val; omega
    | ⟨2, _⟩ => show ((b.val * 24 + a.val) * 1536 + r.val) / 64 % 24 = r.val / 64; omega
    | ⟨3, _⟩ => show ((b.val * 24 + a.val) * 1536 + r.val) % 64 = r.val % 64; omega
  rw [e, val_main_v4_apply, val_main_v3_apply, val_main_v2_apply]
  exact congrArg s (funext fun c => match c with | ⟨0, _⟩ => rfl | ⟨1, _⟩ => rfl | ⟨2, _⟩ => rfl)

theorem lowScaledLeft (q : (⟨S9x1536x768, .i8⟩ : BufTy).Contents (Elt Ideal)) (s : (⟨S9x24x24, .f32⟩ : BufTy).Contents (Elt Ideal)) (b : Fin 9) (k : Fin 768) (r : Fin 1536) :
    val_main_v17 (F := Ideal) q s (ix3 b k r)
      = nib 0 (q (ix3 b r k)) * s (ix3 b ⟨r.val / 64, by omega⟩ ⟨k.val / 32, by omega⟩) := by
  rw [val_main_v17_apply]
  have e : idx_main_v17 (ix3 b k r) = ix4 b ⟨k.val / 32, by omega⟩ ⟨k.val % 32, by omega⟩ r := by
    funext c; apply Fin.ext
    match c with
    | ⟨0, _⟩ => show ((b.val * 768 + k.val) * 1536 + r.val) / 1179648 = b.val; omega
    | ⟨1, _⟩ => show ((b.val * 768 + k.val) * 1536 + r.val) / 49152 % 24 = k.val / 32; omega
    | ⟨2, _⟩ => show ((b.val * 768 + k.val) * 1536 + r.val) / 1536 % 32 = k.val % 32; omega
    | ⟨3, _⟩ => show ((b.val * 768 + k.val) * 1536 + r.val) % 1536 = r.val; omega
  rw [e, val_main_v16_apply, val_main_v13_apply, val_main_v15_apply, val_main_v14_apply]
  have e' : idx_main_v13 (ix4 b ⟨k.val / 32, by omega⟩ ⟨k.val % 32, by omega⟩ r) = ix3 b k r := by
    funext c; apply Fin.ext
    match c with
    | ⟨0, _⟩ => show (((b.val * 24 + k.val / 32) * 32 + k.val % 32) * 1536 + r.val) / 1179648 = b.val; omega
    | ⟨1, _⟩ => show (((b.val * 24 + k.val / 32) * 32 + k.val % 32) * 1536 + r.val) / 1536 % 768 = k.val; omega
    | ⟨2, _⟩ => show (((b.val * 24 + k.val / 32) * 32 + k.val % 32) * 1536 + r.val) % 1536 = r.val; omega
  rw [e', lowLeft]
  refine congrArg (nib 0 (q (ix3 b r k)) * ·) ((congrArg (val_main_v5 (F := Ideal) s) ?_).trans
    (scaleLeft s b ⟨k.val / 32, by omega⟩ r))
  exact funext fun c => match c with | ⟨0, _⟩ => rfl | ⟨1, _⟩ => rfl | ⟨2, _⟩ => rfl

theorem highScaledLeft (q : (⟨S9x1536x768, .i8⟩ : BufTy).Contents (Elt Ideal)) (s : (⟨S9x24x24, .f32⟩ : BufTy).Contents (Elt Ideal)) (b : Fin 9) (k : Fin 768) (r : Fin 1536) :
    val_main_v29 (F := Ideal) q s (ix3 b k r)
      = nib 1 (q (ix3 b r k)) * s (ix3 b ⟨r.val / 64, by omega⟩ ⟨k.val / 32, by omega⟩) := by
  rw [val_main_v29_apply]
  have e : idx_main_v29 (ix3 b k r) = ix4 b ⟨k.val / 32, by omega⟩ ⟨k.val % 32, by omega⟩ r := by
    funext c; apply Fin.ext
    match c with
    | ⟨0, _⟩ => show ((b.val * 768 + k.val) * 1536 + r.val) / 1179648 = b.val; omega
    | ⟨1, _⟩ => show ((b.val * 768 + k.val) * 1536 + r.val) / 49152 % 24 = k.val / 32; omega
    | ⟨2, _⟩ => show ((b.val * 768 + k.val) * 1536 + r.val) / 1536 % 32 = k.val % 32; omega
    | ⟨3, _⟩ => show ((b.val * 768 + k.val) * 1536 + r.val) % 1536 = r.val; omega
  rw [e, val_main_v28_apply, val_main_v25_apply, val_main_v27_apply, val_main_v26_apply]
  have e' : idx_main_v25 (ix4 b ⟨k.val / 32, by omega⟩ ⟨k.val % 32, by omega⟩ r) = ix3 b k r := by
    funext c; apply Fin.ext
    match c with
    | ⟨0, _⟩ => show (((b.val * 24 + k.val / 32) * 32 + k.val % 32) * 1536 + r.val) / 1179648 = b.val; omega
    | ⟨1, _⟩ => show (((b.val * 24 + k.val / 32) * 32 + k.val % 32) * 1536 + r.val) / 1536 % 768 = k.val; omega
    | ⟨2, _⟩ => show (((b.val * 24 + k.val / 32) * 32 + k.val % 32) * 1536 + r.val) % 1536 = r.val; omega
  rw [e', highLeft]
  refine congrArg (nib 1 (q (ix3 b r k)) * ·) ((congrArg (val_main_v5 (F := Ideal) s) ?_).trans
    (scaleLeft s b ⟨k.val / 32, by omega⟩ r))
  exact funext fun c => match c with | ⟨0, _⟩ => rfl | ⟨1, _⟩ => rfl | ⟨2, _⟩ => rfl

/-- The two halves, put together column by column. -/
theorem stackLeft (q : (⟨S9x1536x768, .i8⟩ : BufTy).Contents (Elt Ideal)) (s : (⟨S9x24x24, .f32⟩ : BufTy).Contents (Elt Ideal)) (b : Fin 9) (k : Fin 768) (p : Fin 2) (r : Fin 1536) :
    val_main_v32 (F := Ideal) q s (ix4 b k p r)
      = nib p.val (q (ix3 b r k)) * s (ix3 b ⟨r.val / 64, by omega⟩ ⟨k.val / 32, by omega⟩) := by
  unfold val_main_v32
  match p with
  | ⟨0, h⟩ =>
    refine (concatenate_pair_apply_left (t := S9x768x2x1536) (s₁ := S9x768x1x1536) 2 _ _ _ _ rfl (ix4 b k 0 r) fun c => ?_).trans ?_
    · match c with
      | ⟨0, _⟩ => rfl
      | ⟨1, _⟩ => rfl
      | ⟨2, _⟩ => rfl
      | ⟨3, _⟩ => rfl
    · rw [val_main_v30_apply]
      refine (congrArg (val_main_v17 (F := Ideal) q s) ?_).trans (lowScaledLeft q s b k r)
      exact funext fun c => match c with | ⟨0, _⟩ => rfl | ⟨1, _⟩ => rfl | ⟨2, _⟩ => rfl
  | ⟨1, h⟩ =>
    refine (concatenate_pair_apply_right (t := S9x768x2x1536) (s₁ := S9x768x1x1536) (s₂ := S9x768x1x1536) 2 _ _ _ _ rfl rfl
      (ix4 b k 0 r) (fun c hc => ?_) rfl).trans ?_
    · match c with
      | ⟨0, _⟩ => rfl
      | ⟨1, _⟩ => rfl
      | ⟨2, _⟩ => exact absurd rfl hc
      | ⟨3, _⟩ => rfl
    · rw [val_main_v31_apply]
      refine (congrArg (val_main_v29 (F := Ideal) q s) ?_).trans (highScaledLeft q s b k r)
      exact funext fun c => match c with | ⟨0, _⟩ => rfl | ⟨1, _⟩ => rfl | ⟨2, _⟩ => rfl

theorem basisLeft (q : (⟨S9x1536x768, .i8⟩ : BufTy).Contents (Elt Ideal)) (s : (⟨S9x24x24, .f32⟩ : BufTy).Contents (Elt Ideal)) : val_main_v33 (F := Ideal) q s = basisT 1536 768 24 rfl rfl q s := by
  funext i
  obtain ⟨b, k, r, rfl⟩ : ∃ (b : Fin 9) (k r : Fin 1536), i = ix3 b k r := ⟨i 0, i 1, i 2, eq_ix3 (n0 := 9) (n1 := 1536) (n2 := 1536) i⟩
  rw [val_main_v33_apply]
  have e : idx_main_v33 (ix3 b k r) = ix4 b ⟨k.val / 2, by omega⟩ ⟨k.val % 2, by omega⟩ r := by
    funext c; apply Fin.ext
    match c with
    | ⟨0, _⟩ => show ((b.val * 1536 + k.val) * 1536 + r.val) / 2359296 = b.val; omega
    | ⟨1, _⟩ => show ((b.val * 1536 + k.val) * 1536 + r.val) / 3072 % 768 = k.val / 2; omega
    | ⟨2, _⟩ => show ((b.val * 1536 + k.val) * 1536 + r.val) / 1536 % 2 = k.val % 2; omega
    | ⟨3, _⟩ => show ((b.val * 1536 + k.val) * 1536 + r.val) % 1536 = r.val; omega
  rw [e, stackLeft]
  refine congrArg₂ (· * ·) rfl (congrArg s ?_)
  funext c; apply Fin.ext
  match c with
  | ⟨0, _⟩ => rfl
  | ⟨1, _⟩ => rfl
  | ⟨2, _⟩ => show k.val / 2 / 32 = k.val / 64; omega

/-! ## The Right basis -/

/-- The two halves of the packed bytes, as numbers. -/
theorem lowRight (q : (⟨S9x2304x1152, .i8⟩ : BufTy).Contents (Elt Ideal)) (b : Fin 9) (k : Fin 1152) (r : Fin 2304) :
    val_main_v46 (F := Ideal) q (ix3 b k r) = nib 0 (q (ix3 b r k)) := by
  rw [val_main_v46_apply, val_main_v45_apply, val_main_v43_apply, val_main_v41_apply, val_main_v44_apply, val_main_v42_apply, val_main_v40_apply,
    val_main_v35_apply, val_main_v34_apply]
  exact (congrArg (fun w : BitVec 32 => ((w.toInt : ℝ) : EReal)) (nibW_low _)).trans
    (congrArg (nib 0) (congrArg q (funext fun a => match a with | ⟨0, _⟩ => rfl | ⟨1, _⟩ => rfl | ⟨2, _⟩ => rfl)))
theorem highRight (q : (⟨S9x2304x1152, .i8⟩ : BufTy).Contents (Elt Ideal)) (b : Fin 9) (k : Fin 1152) (r : Fin 2304) :
    val_main_v58 (F := Ideal) q (ix3 b k r) = nib 1 (q (ix3 b r k)) := by
  rw [val_main_v58_apply, val_main_v57_apply, val_main_v55_apply, val_main_v53_apply, val_main_v56_apply, val_main_v54_apply, val_main_v52_apply,
    val_main_v35_apply, val_main_v34_apply]
  exact (congrArg (fun w : BitVec 32 => ((w.toInt : ℝ) : EReal)) (nibW_high _)).trans
    (congrArg (nib 1) (congrArg q (funext fun a => match a with | ⟨0, _⟩ => rfl | ⟨1, _⟩ => rfl | ⟨2, _⟩ => rfl)))

/-- The scale of row `r` in column block `a`. -/
theorem scaleRight (s : (⟨S9x36x36, .f32⟩ : BufTy).Contents (Elt Ideal)) (b : Fin 9) (a : Fin 36) (r : Fin 2304) :
    val_main_v39 (F := Ideal) s (ix3 b a r) = s (ix3 b ⟨r.val / 64, by omega⟩ a) := by
  rw [val_main_v39_apply]
  have e : idx_main_v39 (ix3 b a r) = ix4 b a ⟨r.val / 64, by omega⟩ ⟨r.val % 64, by omega⟩ := by
    funext c; apply Fin.ext
    match c with
    | ⟨0, _⟩ => show ((b.val * 36 + a.val) * 2304 + r.val) / 82944 = b.val; omega
    | ⟨1, _⟩ => show ((b.val * 36 + a.val) * 2304 + r.val) / 2304 % 36 = a.val; omega
    | ⟨2, _⟩ => show ((b.val * 36 + a.val) * 2304 + r.val) / 64 % 36 = r.val / 64; omega
    | ⟨3, _⟩ => show ((b.val * 36 + a.val) * 2304 + r.val) % 64 = r.val % 64; omega
  rw [e, val_main_v38_apply, val_main_v37_apply, val_main_v36_apply]
  exact congrArg s (funext fun c => match c with | ⟨0, _⟩ => rfl | ⟨1, _⟩ => rfl | ⟨2, _⟩ => rfl)

theorem lowScaledRight (q : (⟨S9x2304x1152, .i8⟩ : BufTy).Contents (Elt Ideal)) (s : (⟨S9x36x36, .f32⟩ : BufTy).Contents (Elt Ideal)) (b : Fin 9) (k : Fin 1152) (r : Fin 2304) :
    val_main_v51 (F := Ideal) q s (ix3 b k r)
      = nib 0 (q (ix3 b r k)) * s (ix3 b ⟨r.val / 64, by omega⟩ ⟨k.val / 32, by omega⟩) := by
  rw [val_main_v51_apply]
  have e : idx_main_v51 (ix3 b k r) = ix4 b ⟨k.val / 32, by omega⟩ ⟨k.val % 32, by omega⟩ r := by
    funext c; apply Fin.ext
    match c with
    | ⟨0, _⟩ => show ((b.val * 1152 + k.val) * 2304 + r.val) / 2654208 = b.val; omega
    | ⟨1, _⟩ => show ((b.val * 1152 + k.val) * 2304 + r.val) / 73728 % 36 = k.val / 32; omega
    | ⟨2, _⟩ => show ((b.val * 1152 + k.val) * 2304 + r.val) / 2304 % 32 = k.val % 32; omega
    | ⟨3, _⟩ => show ((b.val * 1152 + k.val) * 2304 + r.val) % 2304 = r.val; omega
  rw [e, val_main_v50_apply, val_main_v47_apply, val_main_v49_apply, val_main_v48_apply]
  have e' : idx_main_v47 (ix4 b ⟨k.val / 32, by omega⟩ ⟨k.val % 32, by omega⟩ r) = ix3 b k r := by
    funext c; apply Fin.ext
    match c with
    | ⟨0, _⟩ => show (((b.val * 36 + k.val / 32) * 32 + k.val % 32) * 2304 + r.val) / 2654208 = b.val; omega
    | ⟨1, _⟩ => show (((b.val * 36 + k.val / 32) * 32 + k.val % 32) * 2304 + r.val) / 2304 % 1152 = k.val; omega
    | ⟨2, _⟩ => show (((b.val * 36 + k.val / 32) * 32 + k.val % 32) * 2304 + r.val) % 2304 = r.val; omega
  rw [e', lowRight]
  refine congrArg (nib 0 (q (ix3 b r k)) * ·) ((congrArg (val_main_v39 (F := Ideal) s) ?_).trans
    (scaleRight s b ⟨k.val / 32, by omega⟩ r))
  exact funext fun c => match c with | ⟨0, _⟩ => rfl | ⟨1, _⟩ => rfl | ⟨2, _⟩ => rfl

theorem highScaledRight (q : (⟨S9x2304x1152, .i8⟩ : BufTy).Contents (Elt Ideal)) (s : (⟨S9x36x36, .f32⟩ : BufTy).Contents (Elt Ideal)) (b : Fin 9) (k : Fin 1152) (r : Fin 2304) :
    val_main_v63 (F := Ideal) q s (ix3 b k r)
      = nib 1 (q (ix3 b r k)) * s (ix3 b ⟨r.val / 64, by omega⟩ ⟨k.val / 32, by omega⟩) := by
  rw [val_main_v63_apply]
  have e : idx_main_v63 (ix3 b k r) = ix4 b ⟨k.val / 32, by omega⟩ ⟨k.val % 32, by omega⟩ r := by
    funext c; apply Fin.ext
    match c with
    | ⟨0, _⟩ => show ((b.val * 1152 + k.val) * 2304 + r.val) / 2654208 = b.val; omega
    | ⟨1, _⟩ => show ((b.val * 1152 + k.val) * 2304 + r.val) / 73728 % 36 = k.val / 32; omega
    | ⟨2, _⟩ => show ((b.val * 1152 + k.val) * 2304 + r.val) / 2304 % 32 = k.val % 32; omega
    | ⟨3, _⟩ => show ((b.val * 1152 + k.val) * 2304 + r.val) % 2304 = r.val; omega
  rw [e, val_main_v62_apply, val_main_v59_apply, val_main_v61_apply, val_main_v60_apply]
  have e' : idx_main_v59 (ix4 b ⟨k.val / 32, by omega⟩ ⟨k.val % 32, by omega⟩ r) = ix3 b k r := by
    funext c; apply Fin.ext
    match c with
    | ⟨0, _⟩ => show (((b.val * 36 + k.val / 32) * 32 + k.val % 32) * 2304 + r.val) / 2654208 = b.val; omega
    | ⟨1, _⟩ => show (((b.val * 36 + k.val / 32) * 32 + k.val % 32) * 2304 + r.val) / 2304 % 1152 = k.val; omega
    | ⟨2, _⟩ => show (((b.val * 36 + k.val / 32) * 32 + k.val % 32) * 2304 + r.val) % 2304 = r.val; omega
  rw [e', highRight]
  refine congrArg (nib 1 (q (ix3 b r k)) * ·) ((congrArg (val_main_v39 (F := Ideal) s) ?_).trans
    (scaleRight s b ⟨k.val / 32, by omega⟩ r))
  exact funext fun c => match c with | ⟨0, _⟩ => rfl | ⟨1, _⟩ => rfl | ⟨2, _⟩ => rfl

/-- The two halves, put together column by column. -/
theorem stackRight (q : (⟨S9x2304x1152, .i8⟩ : BufTy).Contents (Elt Ideal)) (s : (⟨S9x36x36, .f32⟩ : BufTy).Contents (Elt Ideal)) (b : Fin 9) (k : Fin 1152) (p : Fin 2) (r : Fin 2304) :
    val_main_v66 (F := Ideal) q s (ix4 b k p r)
      = nib p.val (q (ix3 b r k)) * s (ix3 b ⟨r.val / 64, by omega⟩ ⟨k.val / 32, by omega⟩) := by
  unfold val_main_v66
  match p with
  | ⟨0, h⟩ =>
    refine (concatenate_pair_apply_left (t := S9x1152x2x2304) (s₁ := S9x1152x1x2304) 2 _ _ _ _ rfl (ix4 b k 0 r) fun c => ?_).trans ?_
    · match c with
      | ⟨0, _⟩ => rfl
      | ⟨1, _⟩ => rfl
      | ⟨2, _⟩ => rfl
      | ⟨3, _⟩ => rfl
    · rw [val_main_v64_apply]
      refine (congrArg (val_main_v51 (F := Ideal) q s) ?_).trans (lowScaledRight q s b k r)
      exact funext fun c => match c with | ⟨0, _⟩ => rfl | ⟨1, _⟩ => rfl | ⟨2, _⟩ => rfl
  | ⟨1, h⟩ =>
    refine (concatenate_pair_apply_right (t := S9x1152x2x2304) (s₁ := S9x1152x1x2304) (s₂ := S9x1152x1x2304) 2 _ _ _ _ rfl rfl
      (ix4 b k 0 r) (fun c hc => ?_) rfl).trans ?_
    · match c with
      | ⟨0, _⟩ => rfl
      | ⟨1, _⟩ => rfl
      | ⟨2, _⟩ => exact absurd rfl hc
      | ⟨3, _⟩ => rfl
    · rw [val_main_v65_apply]
      refine (congrArg (val_main_v63 (F := Ideal) q s) ?_).trans (highScaledRight q s b k r)
      exact funext fun c => match c with | ⟨0, _⟩ => rfl | ⟨1, _⟩ => rfl | ⟨2, _⟩ => rfl

theorem basisRight (q : (⟨S9x2304x1152, .i8⟩ : BufTy).Contents (Elt Ideal)) (s : (⟨S9x36x36, .f32⟩ : BufTy).Contents (Elt Ideal)) : val_main_v67 (F := Ideal) q s = basisT 2304 1152 36 rfl rfl q s := by
  funext i
  obtain ⟨b, k, r, rfl⟩ : ∃ (b : Fin 9) (k r : Fin 2304), i = ix3 b k r := ⟨i 0, i 1, i 2, eq_ix3 (n0 := 9) (n1 := 2304) (n2 := 2304) i⟩
  rw [val_main_v67_apply]
  have e : idx_main_v67 (ix3 b k r) = ix4 b ⟨k.val / 2, by omega⟩ ⟨k.val % 2, by omega⟩ r := by
    funext c; apply Fin.ext
    match c with
    | ⟨0, _⟩ => show ((b.val * 2304 + k.val) * 2304 + r.val) / 5308416 = b.val; omega
    | ⟨1, _⟩ => show ((b.val * 2304 + k.val) * 2304 + r.val) / 4608 % 1152 = k.val / 2; omega
    | ⟨2, _⟩ => show ((b.val * 2304 + k.val) * 2304 + r.val) / 2304 % 2 = k.val % 2; omega
    | ⟨3, _⟩ => show ((b.val * 2304 + k.val) * 2304 + r.val) % 2304 = r.val; omega
  rw [e, stackRight]
  refine congrArg₂ (· * ·) rfl (congrArg s ?_)
  funext c; apply Fin.ext
  match c with
  | ⟨0, _⟩ => rfl
  | ⟨1, _⟩ => rfl
  | ⟨2, _⟩ => show k.val / 2 / 32 = k.val / 64; omega

/-! ## The statistics and their projections -/

theorem left (g : (⟨S9x1536x2304, .bf16⟩ : BufTy).Contents (Elt Ideal)) (l : (⟨S9x1536x1536, .f32⟩ : BufTy).Contents (Elt Ideal)) :
    val_main_v125 (F := Ideal) g l = leftNew 1536 2304 g l := by
  funext i
  rw [val_main_v125_apply, val_main_v121_apply, val_main_v120_apply, val_main_v124_apply, val_main_v123_apply, val_main_v122_apply]
  refine congrArg₂ (· + ·) rfl (congrArg (c05 * ·) (sum_congr' fun k => congrArg₂ (· * ·) (congrArg g ?_) (congrArg g ?_)))
  · exact funext fun c => match c with | ⟨0, _⟩ => rfl | ⟨1, _⟩ => rfl | ⟨2, _⟩ => rfl
  · exact funext fun c => match c with | ⟨0, _⟩ => rfl | ⟨1, _⟩ => rfl | ⟨2, _⟩ => rfl

theorem right (g : (⟨S9x1536x2304, .bf16⟩ : BufTy).Contents (Elt Ideal)) (r : (⟨S9x2304x2304, .f32⟩ : BufTy).Contents (Elt Ideal)) :
    val_main_v131 (F := Ideal) g r = rightNew 1536 2304 g r := by
  funext i
  rw [val_main_v131_apply, val_main_v127_apply, val_main_v126_apply, val_main_v130_apply, val_main_v129_apply, val_main_v128_apply]
  refine congrArg₂ (· + ·) rfl (congrArg (c05 * ·) (sum_congr' fun k => congrArg₂ (· * ·) (congrArg g ?_) (congrArg g ?_)))
  · exact funext fun c => match c with | ⟨0, _⟩ => rfl | ⟨1, _⟩ => rfl | ⟨2, _⟩ => rfl
  · exact funext fun c => match c with | ⟨0, _⟩ => rfl | ⟨1, _⟩ => rfl | ⟨2, _⟩ => rfl

theorem projLeft (g : (⟨S9x1536x2304, .bf16⟩ : BufTy).Contents (Elt Ideal)) (l : (⟨S9x1536x1536, .f32⟩ : BufTy).Contents (Elt Ideal))
    (q : (⟨S9x1536x768, .i8⟩ : BufTy).Contents (Elt Ideal)) (s : (⟨S9x24x24, .f32⟩ : BufTy).Contents (Elt Ideal)) :
    val_main_v134 (F := Ideal) g l q s = proj 1536 (leftNew 1536 2304 g l) (basisT 1536 768 24 rfl rfl q s) := by
  funext i
  rw [val_main_v134_apply, val_main_v133_apply, basisLeft]
  refine sum_congr' fun k => congrArg₂ (· * ·) ?_ (congrArg _ ?_)
  · rw [val_main_v132_apply, left]
    exact congrArg (leftNew 1536 2304 g l) (funext fun c => match c with | ⟨0, _⟩ => rfl | ⟨1, _⟩ => rfl | ⟨2, _⟩ => rfl)
  · exact funext fun c => match c with | ⟨0, _⟩ => rfl | ⟨1, _⟩ => rfl | ⟨2, _⟩ => rfl

theorem projRight (g : (⟨S9x1536x2304, .bf16⟩ : BufTy).Contents (Elt Ideal)) (r : (⟨S9x2304x2304, .f32⟩ : BufTy).Contents (Elt Ideal))
    (q : (⟨S9x2304x1152, .i8⟩ : BufTy).Contents (Elt Ideal)) (s : (⟨S9x36x36, .f32⟩ : BufTy).Contents (Elt Ideal)) :
    val_main_v137 (F := Ideal) g r q s = proj 2304 (rightNew 1536 2304 g r) (basisT 2304 1152 36 rfl rfl q s) := by
  funext i
  rw [val_main_v137_apply, val_main_v136_apply, basisRight]
  refine sum_congr' fun k => congrArg₂ (· * ·) ?_ (congrArg _ ?_)
  · rw [val_main_v135_apply, right]
    exact congrArg (rightNew 1536 2304 g r) (funext fun c => match c with | ⟨0, _⟩ => rfl | ⟨1, _⟩ => rfl | ⟨2, _⟩ => rfl)
  · exact funext fun c => match c with | ⟨0, _⟩ => rfl | ⟨1, _⟩ => rfl | ⟨2, _⟩ => rfl

/-! ## The step in the rotated basis -/

section rotated

variable (m t : (⟨S9x1536x2304, .bf16⟩ : BufTy).Contents (Elt Ideal)) (x : (⟨S9x1536x2304, .i8⟩ : BufTy).Contents (Elt Ideal))
  (s : (⟨S9x1536x18, .f32⟩ : BufTy).Contents (Elt Ideal)) (lq : (⟨S9x1536x768, .i8⟩ : BufTy).Contents (Elt Ideal))
  (ls : (⟨S9x24x24, .f32⟩ : BufTy).Contents (Elt Ideal)) (rq : (⟨S9x2304x1152, .i8⟩ : BufTy).Contents (Elt Ideal))
  (rs : (⟨S9x36x36, .f32⟩ : BufTy).Contents (Elt Ideal)) (c1 c2 eps lr wd : (⟨S9, .f32⟩ : BufTy).Contents (Elt Ideal))
  (w : (⟨S9x1536x2304, .f32⟩ : BufTy).Contents (Elt Ideal))

/-- The right basis, transposed. -/
abbrev bR := basisT 2304 1152 36 rfl rfl rq rs
/-- The left basis, transposed. -/
abbrev bL := basisT 1536 768 24 rfl rfl lq ls
/-- One number per matrix, as a function of the matrix. -/
abbrev per (y : (⟨S9, .f32⟩ : BufTy).Contents (Elt Ideal)) (b : Fin 9) : EReal := y (ix1 b)

theorem gRot (b : Fin 9) (i : Fin 1536) (c : Fin 2304) :
    val_main_v68 (F := Ideal) t rq rs (ix3 b i c) = rot t (bR rq rs) b i c := by
  rw [val_main_v68_apply, basisRight]
  refine sum_congr' fun k => congrArg₂ (· * ·) (congrArg t ?_) (congrArg _ ?_)
  · exact funext fun c => match c with | ⟨0, _⟩ => rfl | ⟨1, _⟩ => rfl | ⟨2, _⟩ => rfl
  · exact funext fun c => match c with | ⟨0, _⟩ => rfl | ⟨1, _⟩ => rfl | ⟨2, _⟩ => rfl

theorem mRot (b : Fin 9) (i : Fin 1536) (c : Fin 2304) :
    val_main_v69 (F := Ideal) t rq rs (ix3 b i c) = rot t (bR rq rs) b i c := by
  rw [val_main_v69_apply, basisRight]
  refine sum_congr' fun k => congrArg₂ (· * ·) (congrArg t ?_) (congrArg _ ?_)
  · exact funext fun c => match c with | ⟨0, _⟩ => rfl | ⟨1, _⟩ => rfl | ⟨2, _⟩ => rfl
  · exact funext fun c => match c with | ⟨0, _⟩ => rfl | ⟨1, _⟩ => rfl | ⟨2, _⟩ => rfl

/-- Where splitting the columns into blocks of 128 reads, and where joining them does. -/
theorem split72 (b : Fin 9) (i : Fin 1536) (k : Fin 18) (l : Fin 128) :
    idx_main_v72 (ix4 b i k l) = ix3 b i (colOf k l) := by
  funext a; apply Fin.ext
  match a with
  | ⟨0, _⟩ => show (((b.val * 1536 + i.val) * 18 + k.val) * 128 + l.val) / 3538944 = b.val; omega
  | ⟨1, _⟩ => show (((b.val * 1536 + i.val) * 18 + k.val) * 128 + l.val) / 2304 % 1536 = i.val; omega
  | ⟨2, _⟩ => show (((b.val * 1536 + i.val) * 18 + k.val) * 128 + l.val) % 2304 = 128 * k.val + l.val; omega
theorem split97 (b : Fin 9) (i : Fin 1536) (k : Fin 18) (l : Fin 128) :
    idx_main_v97 (ix4 b i k l) = ix3 b i (colOf k l) := split72 b i k l
theorem join76 (b : Fin 9) (i : Fin 1536) (c : Fin 2304) :
    idx_main_v76 (ix3 b i c) = ix4 b i (blockOf c) ⟨c.val % 128, by omega⟩ := by
  funext a; apply Fin.ext
  match a with
  | ⟨0, _⟩ => show ((b.val * 1536 + i.val) * 2304 + c.val) / 3538944 = b.val; omega
  | ⟨1, _⟩ => show ((b.val * 1536 + i.val) * 2304 + c.val) / 2304 % 1536 = i.val; omega
  | ⟨2, _⟩ => show ((b.val * 1536 + i.val) * 2304 + c.val) / 128 % 18 = c.val / 128; omega
  | ⟨3, _⟩ => show ((b.val * 1536 + i.val) * 2304 + c.val) % 128 = c.val % 128; omega
theorem join108 (b : Fin 9) (i : Fin 1536) (c : Fin 2304) :
    idx_main_v108 (ix3 b i c) = ix4 b i (blockOf c) ⟨c.val % 128, by omega⟩ := join76 b i c
theorem col_block (c : Fin 2304) : colOf (blockOf c) ⟨c.val % 128, by omega⟩ = c :=
  Fin.ext (by show 128 * (c.val / 128) + c.val % 128 = c.val; omega)

theorem oldMoment (b : Fin 9) (i : Fin 1536) (c : Fin 2304) :
    val_main_v76 (F := Ideal) x s (ix3 b i c) = old x s b i c := by
  rw [val_main_v76_apply, join76, val_main_v75_apply, val_main_v72_apply, split72, col_block, val_main_v71_apply,
    val_main_v70_apply, val_main_v74_apply, val_main_v73_apply]
  refine congrArg₂ (· * ·) rfl (congrArg s ?_)
  exact funext fun c => match c with | ⟨0, _⟩ => rfl | ⟨1, _⟩ => rfl | ⟨2, _⟩ => rfl

theorem secondMoment (b : Fin 9) (i : Fin 1536) (c : Fin 2304) :
    val_main_v83 (F := Ideal) t x s rq rs (ix3 b i c) = second t (bR rq rs) x s b i c := by
  rw [val_main_v83_apply, val_main_v79_apply, val_main_v78_apply, val_main_v77_apply, val_main_cst_apply, val_main_v82_apply,
    val_main_v81_apply, val_main_v80_apply, val_main_cst_11_apply, oldMoment, gRot]
  rfl

theorem updateNew : val_main_v95 (F := Ideal) t m x s rq rs c1 c2 eps
    = update t m (bR rq rs) x s (per c1) (per c2) (per eps) := by
  funext i
  obtain ⟨b, r, c, rfl⟩ : ∃ b r c, i = ix3 b r c := ⟨i 0, i 1, i 2, eq_ix3 i⟩
  rw [val_main_v95_apply, val_main_v94_apply, val_main_v86_apply, val_main_v85_apply, val_main_v84_apply, val_main_v93_apply,
    val_main_v90_apply, val_main_v89_apply, val_main_v88_apply, val_main_v87_apply, val_main_v92_apply, val_main_v91_apply,
    secondMoment, mRot]
  have e1 : c1 (idx_main_v84 (idx_main_v85 (ix3 b r c))) = per c1 b :=
    congrArg c1 (funext fun a => match a with | ⟨0, _⟩ => rfl)
  have e2 : c2 (idx_main_v87 (idx_main_v88 (ix3 b r c))) = per c2 b :=
    congrArg c2 (funext fun a => match a with | ⟨0, _⟩ => rfl)
  have e3 : eps (idx_main_v91 (idx_main_v92 (ix3 b r c))) = per eps b :=
    congrArg eps (funext fun a => match a with | ⟨0, _⟩ => rfl)
  rw [e1, e2, e3]
  rfl

theorem rootNew (b : Fin 9) (i : Fin 1536) (k : Fin 18) (l : Fin 128) :
    val_main_v97 (F := Ideal) t x s rq rs (ix4 b i k l) = root t (bR rq rs) x s b i (colOf k l) := by
  rw [val_main_v97_apply, split97, val_main_v96_apply, secondMoment]
  rfl

theorem reduces : S9x1536x18x128.Reduces [3] S9x1536x18 := by decide

/-- The host's maximum along one axis, as a fold over it. -/
theorem reduce_max {p q o : Shape} {a : Fin p.rank} (y : p.Idx → EReal) (z : o.Idx → EReal) (h' : p.ReducesTo [a] q)
    (h : p.Reduces [a] q) (hu : 0 < o.numel) (j : q.Idx) :
    Host.reduce (FloatOps.maximumf (F := Ideal) (φ := .f32)) y z h' hu j
      = (Finset.univ : Finset (Fin (p.size a))).fold max (z (Shape.Idx.first hu)) (fun l => y (h.lift j l)) :=
  Host.reduce_eq_fold_single (max : EReal → EReal → EReal) y z h' h hu j

theorem blockMax (b : Fin 9) (i : Fin 1536) (k : Fin 18) : val_main_v98 (F := Ideal) t x s rq rs (ix3 b i k)
    = (Finset.univ : Finset (Fin 128)).fold max (FloatOps.ofBits (F := Ideal) .f32 0xFF800000#32)
      (fun l => root t (bR rq rs) x s b i (colOf k l)) := by
  unfold val_main_v98
  rw [reduce_max _ _ _ reduces]
  refine congrArg (fun f => Finset.fold max (FloatOps.ofBits (F := Ideal) .f32 0xFF800000#32) f (Finset.univ : Finset (Fin 128)))
    (funext fun l => ?_)
  refine Eq.trans (congrArg (val_main_v97 (F := Ideal) t x s rq rs) ?_) (rootNew t x s rq rs b i k l)
  exact funext fun a => match a with | ⟨0, _⟩ => rfl | ⟨1, _⟩ => rfl | ⟨2, _⟩ => rfl | ⟨3, _⟩ => rfl

theorem scales : val_main_v100 (F := Ideal) t x s rq rs = scaleNew t (bR rq rs) x s := by
  funext i
  obtain ⟨b, r, k, rfl⟩ : ∃ b r k, i = ix3 b r k := ⟨i 0, i 1, i 2, eq_ix3 i⟩
  rw [val_main_v100_apply, val_main_v99_apply, val_main_cst_13_apply, blockMax]
  rfl

theorem codes : val_main_v108 (F := Ideal) t x s rq rs = codeNew t (bR rq rs) x s := by
  funext i
  obtain ⟨b, r, c, rfl⟩ : ∃ b r c, i = ix3 b r c := ⟨i 0, i 1, i 2, eq_ix3 i⟩
  rw [val_main_v108_apply, join108, val_main_v107_apply, val_main_v106_apply, val_main_v105_apply, val_main_call1_v4_apply,
    val_main_call1_v3_apply, val_main_call1_v2_apply, val_main_call1_v1_apply, val_main_call1_v0_apply, val_main_v104_apply,
    val_main_v103_apply, rootNew, col_block, val_main_v102_apply, val_main_v101_apply, scales]
  have e : idx_main_v101 (idx_main_v102 (ix4 b r (blockOf c) ⟨c.val % 128, by omega⟩)) = ix3 b r (blockOf c) :=
    funext fun a => match a with | ⟨0, _⟩ => rfl | ⟨1, _⟩ => rfl | ⟨2, _⟩ => rfl
  rw [e]
  rfl

theorem backLeft (b : Fin 9) (i : Fin 1536) (c : Fin 2304) :
    val_main_v109 (F := Ideal) t m x s lq ls rq rs c1 c2 eps (ix3 b i c)
      = back1 (bL lq ls) (update t m (bR rq rs) x s (per c1) (per c2) (per eps)) b i c := by
  rw [val_main_v109_apply, basisLeft, updateNew]
  refine sum_congr' fun k => congrArg₂ (· * ·) (congrArg _ ?_) (congrArg _ ?_)
  · exact funext fun c => match c with | ⟨0, _⟩ => rfl | ⟨1, _⟩ => rfl | ⟨2, _⟩ => rfl
  · exact funext fun c => match c with | ⟨0, _⟩ => rfl | ⟨1, _⟩ => rfl | ⟨2, _⟩ => rfl

theorem backBoth : val_main_v111 (F := Ideal) t m x s lq ls rq rs c1 c2 eps
    = back2 (bL lq ls) (update t m (bR rq rs) x s (per c1) (per c2) (per eps)) (bR rq rs) := by
  funext i
  rw [val_main_v111_apply, basisRight]
  refine sum_congr' fun k => congrArg₂ (· * ·) ?_ (congrArg _ ?_)
  · rw [val_main_v110_apply]
    refine Eq.trans (congrArg (val_main_v109 (F := Ideal) t m x s lq ls rq rs c1 c2 eps) ?_)
      (backLeft m t x s lq ls rq rs c1 c2 eps (i 0) (i 1) k)
    exact funext fun c => match c with | ⟨0, _⟩ => rfl | ⟨1, _⟩ => rfl | ⟨2, _⟩ => rfl
  · exact funext fun c => match c with | ⟨0, _⟩ => rfl | ⟨1, _⟩ => rfl | ⟨2, _⟩ => rfl

theorem weights : val_main_v119 (F := Ideal) w t m x s lq ls rq rs c1 c2 eps lr wd
    = weight w (back2 (bL lq ls) (update t m (bR rq rs) x s (per c1) (per c2) (per eps)) (bR rq rs)) (per lr) (per wd) := by
  funext i
  rw [val_main_v119_apply, val_main_v118_apply, val_main_v117_apply, val_main_v112_apply, val_main_v116_apply,
    val_main_v115_apply, val_main_v114_apply, val_main_v113_apply, backBoth]
  have e1 : lr (idx_main_v112 (idx_main_v117 i)) = per lr (i 0) :=
    congrArg lr (funext fun a => match a with | ⟨0, _⟩ => rfl)
  have e2 : wd (idx_main_v113 (idx_main_v114 i)) = per wd (i 0) :=
    congrArg wd (funext fun a => match a with | ⟨0, _⟩ => rfl)
  rw [e1, e2]
  rfl

end rotated

end Cert.Proof.Ref

end
-- ==== Proof.MomentumFrame.lean ====
/- The frame of the momentum program as compiled: from every memory it terminates without a fault, its arguments unchanged and every
   semaphore at zero. Nothing is said of what the outputs hold; the scales' block is read before it is stored. -/
module

public import proofs.«01_k».proof.Proof.Gen.Momentum.Launch
public import proofs.«01_k».proof.Proof.Gen.Momentum.Skeleton
public import proofs.«01_k».proof.Proof.Gen.Momentum.Loops
public import proofs.«01_k».proof.Proof.Gen.Momentum.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.Proof.MomentumFrame

open Cert.Momentum Cert.Momentum.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Momentum`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x1536x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536x18 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536x768 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1536x18 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x768 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x1536x1536 .bf16) (harg2 : arg2.IsWhole) (arg3 : Memref sig .tc .vmem S1x1536x768 .bf16) (harg3 : arg3.IsWhole) (arg4 : Memref sig .tc .vmem S1x1536x768 .i8) (harg4 : arg4.IsWhole) (arg5 : Memref sig .tc .vmem S1x1536x18 .f32) (harg5 : arg5.IsWhole) (arg6 : Memref sig .tc .vmem S1x1536x768 .bf16) (harg6 : arg6.IsWhole) (arg7 : Memref sig .tc .vmem S1x1536x768 .bf16) (harg7 : arg7.IsWhole) (arg8 : Memref sig .tc .vmem S1x1536x768 .i8) (harg8 : arg8.IsWhole) (arg9 : Memref sig .tc .vmem S1x1536x18 .f32) (harg9 : arg9.IsWhole) (arg10 : Memref sig .tc .vmem S1536x768 .bf16) (harg10 : arg10.IsWhole)
    (x0 : Vec F S1x1536x1536 .bf16) (x1 : Vec F S1x1536x768 .bf16) (x2 : Vec F S1x1536x768 .i8) (x3 : Vec F S1x1536x18 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_rot1 i arg2 harg2 arg3 harg3 arg4 harg4 arg5 harg5 arg6 harg6 arg7 harg7 arg8 harg8 arg9 harg9 arg10 harg10) K := by
    intro E K
    simp only [cc0_rot1_eq_skeleton]; unfold cc0_rot1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

/-! ## The pipeline's proof data -/

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Momentum`'s statement (Defs.lean) at any `F` — Proof.lean cites it at `Bits`:
    `theorem Cert.Proof.claim : Cert.Claim := ⟨Cert.Proof.MomentumFrame.facts, fun m ρ _ => Cert.Proof.MomentumFrame.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.MomentumFrame

end
-- ==== Proof.SpecMom.lean ====
/- The mathematics of the first moment's update, over the extended reals, with no tiling in it. A row of 128 codes with its
   scale and the gradient there gives the new moment (`rowMom`), the new scale (`rowScale`) and the new codes (`rowCode`);
   over the whole arrays these are `momNew`, `momScale` and `momCode`. The gradient and the new moment times the left basis are
   `turned` of them. -/
module

public import proofs.«01_k».proof.Proof.SpecRot

@[expose] public section

noncomputable section

namespace Cert.Proof.Spec

open Idealize.ShloMosaic Idealize.ShloMosaic.ValueIdx

/-- The weight of the old moment, the float nearest 9/10. -/
abbrev c90 : EReal := Ideal.ofBits .f32 0x3F666666#32
/-- The weight of the gradient, the float nearest 1/10. -/
abbrev c10 : EReal := Ideal.ofBits .f32 0x3DCCCCCD#32

/-- The value of a signed byte. -/
def sbyte (x : BitVec 8) : EReal := ((x.toInt : ℝ) : EReal)

theorem sbyte_word (x : BitVec 8) : FloatOps.sitofp (F := Ideal) .f32 (x.signExtend 32) = sbyte x := by
  show (((x.signExtend 32).toInt : ℝ) : EReal) = _
  rw [BitVec.toInt_signExtend_of_le (by omega)]
  rfl

/-- The new moment in a row of 128: the old one is a code times the row's scale. -/
def rowMom (x : Fin 128 → BitVec 8) (s : EReal) (g : Fin 128 → EReal) (l : Fin 128) : EReal :=
  c90 * (sbyte (x l) * s) + c10 * g l

/-- The scale for numbers at most `a` in size: `a` over 127, or one where there is nothing to scale. -/
def scaleFor (a : EReal) : EReal :=
  Scalar.select (FloatOps.cmpf (F := Ideal) (φ := .f32) .oeq a (FloatOps.ofBits (F := Ideal) .f32 0x00000000#32))
    (FloatOps.ofBits (F := Ideal) .f32 0x3F800000#32)
    (FloatOps.divf (F := Ideal) (φ := .f32) a (FloatOps.ofBits (F := Ideal) .f32 0x42FE0000#32))

/-- The row's new scale. -/
def rowScale (x : Fin 128 → BitVec 8) (s : EReal) (g : Fin 128 → EReal) : EReal :=
  scaleFor ((Finset.univ : Finset (Fin 128)).fold max (FloatOps.ofBits (F := Ideal) .f32 0xFF800000#32)
    (fun l => FloatOps.absf (F := Ideal) (φ := .f32) (rowMom x s g l)))

/-- A number rounded and limited to -127 … 127, still a number. -/
def limit (y : EReal) : EReal :=
  FloatOps.minimumf (F := Ideal) (φ := .f32) (FloatOps.sitofp (F := Ideal) .f32 (127#32))
    (FloatOps.maximumf (F := Ideal) (φ := .f32) (FloatOps.sitofp (F := Ideal) .f32 (4294967169#32))
      (FloatOps.roundeven (F := Ideal) (φ := .f32) y))

/-- A number rounded to the nearest of -127 … 127. -/
def squant (y : EReal) : BitVec 8 := FloatOps.fptosi (F := Ideal) (φ := .f32) 8 (limit y)

/-- The row's new codes. -/
def rowCode (x : Fin 128 → BitVec 8) (s : EReal) (g : Fin 128 → EReal) (l : Fin 128) : BitVec 8 :=
  squant (FloatOps.divf (F := Ideal) (φ := .f32) (rowMom x s g l) (rowScale x s g))

/-- The new scales of the first moment: one per row and block of 128 columns. -/
def momScale (x : (A3 9 1536 2304).Idx → BitVec 8) (s : (A3 9 1536 18).Idx → EReal) (g : (A3 9 1536 2304).Idx → EReal)
    (i : (A3 9 1536 18).Idx) : EReal :=
  rowScale (fun l => x (ix3 (i 0) (i 1) (colOf (i 2) l))) (s (ix3 (i 0) (i 1) (i 2)))
    (fun l => g (ix3 (i 0) (i 1) (colOf (i 2) l)))

/-- The new codes of the first moment. -/
def momCode (x : (A3 9 1536 2304).Idx → BitVec 8) (s : (A3 9 1536 18).Idx → EReal) (g : (A3 9 1536 2304).Idx → EReal)
    (i : (A3 9 1536 2304).Idx) : BitVec 8 :=
  rowCode (fun l => x (ix3 (i 0) (i 1) (colOf (blockOf (i 2)) l))) (s (ix3 (i 0) (i 1) (blockOf (i 2))))
    (fun l => g (ix3 (i 0) (i 1) (colOf (blockOf (i 2)) l))) ⟨(i 2).val % 128, Nat.mod_lt _ (by decide)⟩

/-- The new first moment. -/
def momNew (x : (A3 9 1536 2304).Idx → BitVec 8) (s : (A3 9 1536 18).Idx → EReal) (g : (A3 9 1536 2304).Idx → EReal)
    (i : (A3 9 1536 2304).Idx) : EReal :=
  rowMom (fun l => x (ix3 (i 0) (i 1) (colOf (blockOf (i 2)) l))) (s (ix3 (i 0) (i 1) (blockOf (i 2))))
    (fun l => g (ix3 (i 0) (i 1) (colOf (blockOf (i 2)) l))) ⟨(i 2).val % 128, Nat.mod_lt _ (by decide)⟩

/-- Nine matrices, each times the left basis. -/
def turned (q : (A3 9 1536 1536).Idx → EReal) (y : (A3 9 1536 2304).Idx → EReal) (i : (A3 9 1536 2304).Idx) : EReal :=
  ∑ k : Fin 1536, q (ix3 (i 0) (i 1) k) * y (ix3 (i 0) k (i 2))

/-! ## A limited number converts to 8 bits as it does to 32 -/

theorem ofInt_narrow : ∀ m : Fin 255, (BitVec.ofInt 32 ((m.val : ℤ) - 127)).setWidth 8 = BitVec.ofInt 8 ((m.val : ℤ) - 127) := by
  decide +kernel

theorem fptosi_narrow (r : ℝ) (lo : -127 ≤ r) (hi : r ≤ 127) :
    (Ideal.fptosi 32 (r : EReal)).setWidth 8 = Ideal.fptosi 8 (r : EReal) := by
  obtain ⟨n, hn, h0, h1⟩ : ∃ n : ℤ, n = (if 0 ≤ r then ⌊r⌋ else ⌈r⌉) ∧ -127 ≤ n ∧ n ≤ 127 := by
    refine ⟨_, rfl, ?_, ?_⟩
    · split
      · rename_i h; exact le_trans (by norm_num) (Int.floor_nonneg.mpr h)
      · have := Int.le_ceil r
        have h : ((-127 : ℤ) : ℝ) ≤ (⌈r⌉ : ℤ) := by push_cast; linarith
        exact_mod_cast h
    · split
      · have := Int.floor_le r
        have h : ((⌊r⌋ : ℤ) : ℝ) ≤ ((127 : ℤ) : ℝ) := by push_cast; linarith
        exact_mod_cast h
      · exact Int.ceil_le.mpr (by push_cast; exact hi)
  unfold Ideal.fptosi
  rw [Ideal.toIntClamped_coe, Ideal.toIntClamped_coe, ← hn]
  have e32 : max (-((2 ^ (32 - 1) : ℕ) : ℤ)) (min (((2 ^ (32 - 1) : ℕ) : ℤ) - 1) n) = n := by norm_num; omega
  have e8 : max (-((2 ^ (8 - 1) : ℕ) : ℤ)) (min (((2 ^ (8 - 1) : ℕ) : ℤ) - 1) n) = n := by norm_num; omega
  rw [e32, e8]
  have := ofInt_narrow ⟨(n + 127).toNat, by omega⟩
  have e : (((n + 127).toNat : ℕ) : ℤ) - 127 = n := by omega
  simpa only [e] using this

/-- A limited number is a real between -127 and 127. -/
theorem limit_real (y : EReal) : ∃ r : ℝ, limit y = (r : EReal) ∧ -127 ≤ r ∧ r ≤ 127 := by
  have e : limit y = min (((127 : ℝ)) : EReal) (max (((-127 : ℝ)) : EReal) (FloatOps.roundeven (F := Ideal) (φ := .f32) y)) := by
    have h1 : (127#32).toInt = 127 := by decide
    have h2 : (4294967169#32).toInt = -127 := by decide
    show min (((127#32).toInt : ℝ) : EReal) (max (((4294967169#32).toInt : ℝ) : EReal) _) = _
    rw [h1, h2]
    norm_num
  rw [e]
  have l0 : ((-127 : ℝ) : EReal) ≤ min ((127 : ℝ) : EReal) (max ((-127 : ℝ) : EReal) (FloatOps.roundeven (F := Ideal) (φ := .f32) y)) :=
    le_min (EReal.coe_le_coe_iff.mpr (by norm_num)) (le_max_left _ _)
  have l1 : min ((127 : ℝ) : EReal) (max ((-127 : ℝ) : EReal) (FloatOps.roundeven (F := Ideal) (φ := .f32) y)) ≤ ((127 : ℝ) : EReal) := min_le_left _ _
  revert l0 l1
  generalize min ((127 : ℝ) : EReal) (max ((-127 : ℝ) : EReal) (FloatOps.roundeven (F := Ideal) (φ := .f32) y)) = z
  induction z with
  | bot => intro l0 _; exact absurd l0 (not_le.mpr (EReal.bot_lt_coe _))
  | top => intro _ l1; exact absurd l1 (not_le.mpr (EReal.coe_lt_top _))
  | coe r => intro l0 l1; exact ⟨r, rfl, EReal.coe_le_coe_iff.mp l0, EReal.coe_le_coe_iff.mp l1⟩

theorem squant_word (y : EReal) :
    (FloatOps.fptosi (F := Ideal) (φ := .f32) 32 (limit y)).setWidth 8 = squant y := by
  unfold squant
  obtain ⟨r, e, lo, hi⟩ := limit_real y
  rw [e]
  exact fptosi_narrow r lo hi

end Cert.Proof.Spec

end
-- ==== Proof.MomBlock.lean ====
/- The first moment's kernel, one block of 128 rows and 128 columns at a time. The block's old scale is the column `n` of the
   scales, picked by a comparison with the lane number and a sum (`oldB`). From it, the codes and the gradient the block's new
   codes (`cB`), its scale (`sB`) and the scales with column `n` replaced (`stB`), each read element by element. -/
module

public import proofs.«01_k».proof.Proof.Gen.MomentumIdeal.Skeleton
public import proofs.«01_k».proof.Proof.SpecMom
public import Idealize.ShloMosaic.Lib.WordCmp
public import Idealize.ShloMosaic.Lib.Pipeline.ValueKit.Tiles

@[expose] public section

noncomputable section

namespace Cert.Proof.MomBlock

open Cert.MomentumIdeal Cert.MomentumIdeal.Gen Idealize.ShloMosaic Idealize.ShloMosaic.TcCoe Idealize.ShloMosaic.ValueIdx
  Cert.Proof.Spec

/-- The lane numbers. -/
abbrev lanes : IVec S128x18 32 := iota .tc S128x18 32 [1] iota_S128x18_d1_w32

/-- Column `n` of the scales. -/
def oldB (S : FVec Ideal S128x18 .f32) (n : BitVec 32) : FVec Ideal S128x1 .f32 :=
  shapeCast S128x1 (multiReduction .add [1] S128
    (select (cmpi .eq lanes (broadcast S128x18 n)) S (broadcast S128x18 (Scalar.ofBits .f32 0x00000000#32)))
    0x00000000#32 reduces_S128x18_S128 (.inl rfl) rfl) shapeCasts_S128_S128x1

/-- The block's new scales, codes, and the scales with column `n` replaced. -/
def sB (S : FVec Ideal S128x18 .f32) (n : BitVec 32) (x : Vec Ideal S1x128x128 .i8) (g : Vec Ideal S1x128x128 .bf16) :
    FVec Ideal S128x1 .f32 := k0_pay45 (F := Ideal) (oldB S n) (k0_pay43 (F := Ideal) x) g
def cB (S : FVec Ideal S128x18 .f32) (n : BitVec 32) (x : Vec Ideal S1x128x128 .i8) (g : Vec Ideal S1x128x128 .bf16) :
    IVec S1x128x128 8 := k0_pay46 (F := Ideal) (oldB S n) (k0_pay43 (F := Ideal) x) g
def stB (S : FVec Ideal S128x18 .f32) (n : BitVec 32) (x : Vec Ideal S1x128x128 .i8) (g : Vec Ideal S1x128x128 .bf16)
    (A : FVec Ideal S128x18 .f32) : FVec Ideal S128x18 .f32 :=
  k0_pay47 (F := Ideal) lanes A n (oldB S n) (k0_pay43 (F := Ideal) x) g

/-- A lane number equals a column number as words when they are equal. -/
theorem lane_eq : ∀ a c : Fin 18, IntOp.cmpi .eq (BitVec.ofNat 32 a.val) (BitVec.ofNat 32 c.val) = if a = c then 1#1 else 0#1 := by
  decide +kernel

theorem lane_at (r : Fin 128) (a : Fin 18) : lanes (ix2 r a) = BitVec.ofNat 32 a.val :=
  (WordCmp.iota_at (s := S128x18) .tc [1] iota_S128x18_d1_w32 (ix2 r a)).trans
    (congrArg (BitVec.ofNat 32) (show 0 * 18 + a.val = a.val by omega))

theorem cmp_apply (n : BitVec 32) (c : Fin 18) (hn : n = BitVec.ofNat 32 c.val) (r : Fin 128) (a : Fin 18) :
    cmpi .eq lanes (broadcast S128x18 n) (ix2 r a) = if a = c then 1#1 else 0#1 := by
  subst hn
  exact (congrArg (IntOp.cmpi .eq · (BitVec.ofNat 32 c.val)) (lane_at r a)).trans (lane_eq a c)

theorem oldB_apply (S : FVec Ideal S128x18 .f32) (n : BitVec 32) (c : Fin 18) (hn : n = BitVec.ofNat 32 c.val) (r : Fin 128) :
    oldB S n (ix2 r 0) = S (ix2 r c) := by
  unfold oldB
  refine (shapeCast_apply (s := S128) (t := S128x1) _ _ (ix2 r 0) (ix1 r) ?_).trans ?_
  · rw [Shape.rowMajor_val_one, Shape.rowMajor_val_two]
    show r.val = r.val * 1 + 0
    omega
  · refine (Ideal.multiReduction_add_single _ _ reduces_S128x18_S128 _ _ (ix1 r)).trans ?_
    have e : ∀ a : Fin 18, reduces_S128x18_S128.lift (ix1 r) a = ix2 r a := fun a =>
      funext fun b => match b with | ⟨0, _⟩ => rfl | ⟨1, _⟩ => rfl
    have z : Ideal.ofBits .f32 0x00000000#32 = 0 := by norm_num
    refine (Finset.sum_congr rfl (g := fun a : Fin 18 => if a = c then S (ix2 r c) else 0) fun a _ => ?_).trans ?_
    · refine (congrArg _ (e a)).trans ?_
      show Scalar.select (cmpi .eq lanes (broadcast S128x18 n) (ix2 r a)) (S (ix2 r a)) (Ideal.ofBits .f32 0x00000000#32) = _
      rw [cmp_apply n c hn, z]
      by_cases h : a = c
      · subst h; rw [if_pos rfl, if_pos rfl]; rfl
      · rw [if_neg h, if_neg h]; rfl
    · exact (Finset.sum_ite_eq' (Finset.univ : Finset (Fin 18)) c (fun _ => S (ix2 r c))).trans (if_pos (Finset.mem_univ _))

/-- Row `r` of a block. -/
abbrev row {α : Type} (x : S1x128x128.Idx → α) (r : Fin 128) (l : Fin 128) : α := x (ix3 0 r l)

theorem mom_apply (S : FVec Ideal S128x18 .f32) (n : BitVec 32) (x : Vec Ideal S1x128x128 .i8) (g : Vec Ideal S1x128x128 .bf16)
    (c : Fin 18) (hn : n = BitVec.ofNat 32 c.val) (r l : Fin 128) :
    k0_pay44 (F := Ideal) (oldB S n) (k0_pay43 (F := Ideal) x) g (ix2 r l)
      = rowMom (row x r) (S (ix2 r c)) (row g r) l := by
  have e1 : (shapeCast S128x128 x shapeCasts_S1x128x128_S128x128 : IVec S128x128 8) (ix2 r l) = x (ix3 0 r l) :=
    (shapeCast_dropUnit_apply ![128, 128] _ _ _).trans
      (congrArg x (funext fun a => match a with | ⟨0, _⟩ => rfl | ⟨1, _⟩ => rfl | ⟨2, _⟩ => rfl))
  have e2 : (shapeCast S128x128 g shapeCasts_S1x128x128_S128x128 : FVec Ideal S128x128 .bf16) (ix2 r l) = g (ix3 0 r l) :=
    (shapeCast_dropUnit_apply ![128, 128] _ _ _).trans
      (congrArg g (funext fun a => match a with | ⟨0, _⟩ => rfl | ⟨1, _⟩ => rfl | ⟨2, _⟩ => rfl))
  have e3 : broadcastTo S128x128 (oldB S n) broadcasts_S128x1_S128x128 (ix2 r l) = S (ix2 r c) :=
    (broadcastTo_apply (s := S128x1) (t := S128x128) _ _ (ix2 r l) (ix2 r 0) fun a => match a with | ⟨0, _⟩ => rfl | ⟨1, _⟩ => rfl).trans
      (oldB_apply S n c hn r)
  unfold rowMom row
  rw [← e1, ← e2, ← e3]
  rfl

theorem sB_apply (S : FVec Ideal S128x18 .f32) (n : BitVec 32) (x : Vec Ideal S1x128x128 .i8) (g : Vec Ideal S1x128x128 .bf16)
    (c : Fin 18) (hn : n = BitVec.ofNat 32 c.val) (r : Fin 128) :
    sB S n x g (ix2 r 0) = rowScale (row x r) (S (ix2 r c)) (row g r) := by
  unfold sB k0_pay45
  refine congrArg scaleFor ?_
  refine (shapeCast_apply (s := S128) (t := S128x1) _ _ (ix2 r 0) (ix1 r) ?_).trans ?_
  · rw [Shape.rowMajor_val_one, Shape.rowMajor_val_two]
    show r.val = r.val * 1 + 0
    omega
  · refine (Ideal.multiReduction_maximumf_single _ _ reduces_S128x128_S128 _ _ (ix1 r)).trans ?_
    refine congrArg (fun f => Finset.fold max (FloatOps.ofBits (F := Ideal) .f32 0xFF800000#32) f (Finset.univ : Finset (Fin 128)))
      (funext fun l => ?_)
    refine congrArg (FloatOps.absf (F := Ideal) (φ := .f32)) ?_
    refine Eq.trans (congrArg _ ?_) (mom_apply S n x g c hn r l)
    exact funext fun a => match a with | ⟨0, _⟩ => rfl | ⟨1, _⟩ => rfl

theorem cB_apply (S : FVec Ideal S128x18 .f32) (n : BitVec 32) (x : Vec Ideal S1x128x128 .i8) (g : Vec Ideal S1x128x128 .bf16)
    (c : Fin 18) (hn : n = BitVec.ofNat 32 c.val) (y : S1x128x128.Idx) :
    cB S n x g y = rowCode (row x (y 1)) (S (ix2 (y 1) c)) (row g (y 1)) (y 2) := by
  obtain ⟨r, l, e1, e2⟩ : ∃ r l : Fin 128, y 1 = r ∧ y 2 = l := ⟨_, _, rfl, rfl⟩
  rw [e1, e2]
  have e : broadcastTo S128x128 (sB S n x g) broadcasts_S128x1_S128x128 (ix2 r l)
      = rowScale (row x r) (S (ix2 r c)) (row g r) :=
    (broadcastTo_apply (s := S128x1) (t := S128x128) _ _ (ix2 r l) (ix2 r 0) fun a => match a with | ⟨0, _⟩ => rfl | ⟨1, _⟩ => rfl).trans
      (sB_apply S n x g c hn r)
  unfold cB k0_pay46
  refine (shapeCast_addUnit_apply ![128, 128] _ _ _).trans ?_
  refine (congrArg _ ((eq_ix2 (n0 := 128) (n1 := 128) fun a => y a.succ).trans (congrArg₂ ix2 e1 e2))).trans ?_
  unfold rowCode
  rw [← e, ← mom_apply S n x g c hn r l]
  rfl

theorem stB_apply (S : FVec Ideal S128x18 .f32) (n : BitVec 32) (x : Vec Ideal S1x128x128 .i8) (g : Vec Ideal S1x128x128 .bf16)
    (A : FVec Ideal S128x18 .f32) (c : Fin 18) (hn : n = BitVec.ofNat 32 c.val) (r : Fin 128) (a : Fin 18) :
    stB S n x g A (ix2 r a) = if a = c then rowScale (row x r) (S (ix2 r c)) (row g r) else A (ix2 r a) := by
  have e : broadcastTo S128x18 (shapeCast S128x1 (sB S n x g) shapeCasts_S128x1_S128x1) broadcasts_S128x1_S128x18 (ix2 r a)
      = rowScale (row x r) (S (ix2 r c)) (row g r) := by
    refine (broadcastTo_apply (s := S128x1) (t := S128x18) _ _ (ix2 r a) (ix2 r 0) fun a => match a with | ⟨0, _⟩ => rfl | ⟨1, _⟩ => rfl).trans ?_
    exact (congrFun (shapeCast_self (sB S n x g) shapeCasts_S128x1_S128x1) (ix2 r 0)).trans (sB_apply S n x g c hn r)
  have h : stB S n x g A (ix2 r a) = Scalar.select (cmpi .eq lanes (broadcast S128x18 n) (ix2 r a))
      (broadcastTo S128x18 (shapeCast S128x1 (sB S n x g) shapeCasts_S128x1_S128x1) broadcasts_S128x1_S128x18 (ix2 r a))
      (A (ix2 r a)) := rfl
  rw [h, cmp_apply n c hn, e]
  by_cases h : a = c
  · rw [if_pos h, if_pos h]; exact if_pos rfl
  · rw [if_neg h, if_neg h]; exact if_neg (by decide)

end Cert.Proof.MomBlock

end
-- ==== Proof.MomTrip.lean ====
/- The first moment's kernel, the loop over the twelve groups of 128 rows. What one trip stores (`trip8`, `trip9`), and so what
   the codes' and the scales' buffers hold after the first trips: in the rows met so far the new codes (`codes_after`), and the
   new scales in the six columns this grid point works on, the other columns as they were found (`scales_after`). -/
module

public import proofs.«01_k».proof.Proof.Gen.MomentumIdeal.Loops
public import proofs.«01_k».proof.Proof.MomBlock

@[expose] public section

noncomputable section

namespace Cert.Proof.MomTrip

open Cert.MomentumIdeal Cert.MomentumIdeal.Gen Idealize.ShloMosaic Idealize.ShloMosaic.TcCoe Idealize.ShloMosaic.ValueIdx
  Cert.Proof.Spec Cert.Proof.MomBlock Idealize.SL.Sem

/-- The number of block `q`'s column in the words the kernel computes. -/
abbrev colW (arg1 : BitVec 32) (q : BitVec 32) : BitVec 32 := Scalar.addi (Scalar.muli arg1 6#32) q

theorem trip8 (𝒱 : Variants) (c : Dev nD) (bd : Option 𝒱.V) (i : grid0.Coords) (arg2 : Memref sig .tc .vmem S1x1536x1536 .bf16) (harg2 : arg2.IsWhole) (arg3 : Memref sig .tc .vmem S1x1536x768 .bf16) (harg3 : arg3.IsWhole) (arg4 : Memref sig .tc .vmem S1x1536x768 .i8) (harg4 : arg4.IsWhole) (arg5 : Memref sig .tc .vmem S1x1536x18 .f32) (harg5 : arg5.IsWhole) (arg6 : Memref sig .tc .vmem S1x1536x768 .bf16) (harg6 : arg6.IsWhole) (arg7 : Memref sig .tc .vmem S1x1536x768 .bf16) (harg7 : arg7.IsWhole) (arg8 : Memref sig .tc .vmem S1x1536x768 .i8) (harg8 : arg8.IsWhole) (arg9 : Memref sig .tc .vmem S1x1536x18 .f32) (harg9 : arg9.IsWhole) (arg10 : Memref sig .tc .vmem S1536x768 .bf16) (harg10 : arg10.IsWhole) (arg1 : BitVec 32) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f8 : BufTy.Contents (Elt Ideal) arg8.view.ty) (f9 : BufTy.Contents (Elt Ideal) arg9.view.ty) (f10 : BufTy.Contents (Elt Ideal) arg10.view.ty) :
    (trip_k0_t1 (F := Ideal) 𝒱 c bd i arg2 harg2 arg3 harg3 arg4 harg4 arg5 harg5 arg6 harg6 arg7 harg7 arg8 harg8 arg9 harg9 arg10 harg10 arg1 X_arg3 X_arg4 X_arg5 k).1 f8 f9 f10 =
  [⟨Rect.unit (s := S1x1536x768) (k0_off12 k) S1x128x128.size (k0_off12_inb k), cB (k0_pay5 (F := Ideal) (arg5.view.readAt (Elt Ideal) (Rect.unit (s := S1x1536x18) (k0_off1 k) S1x128x18.size (k0_off1_inb k)).toLoadRect X_arg5)) (colW arg1 5#32) (arg4.view.readAt (Elt Ideal) (Rect.unit (s := S1x1536x768) (k0_off12 k) S1x128x128.size (k0_off12_inb k)).toLoadRect X_arg4) (arg3.view.readAt (Elt Ideal) (Rect.unit (s := S1x1536x768) (k0_off12 k) S1x128x128.size (k0_off12_inb k)).toLoadRect X_arg3)⟩,
   ⟨Rect.unit (s := S1x1536x768) (k0_off10 k) S1x128x128.size (k0_off10_inb k), cB (k0_pay5 (F := Ideal) (arg5.view.readAt (Elt Ideal) (Rect.unit (s := S1x1536x18) (k0_off1 k) S1x128x18.size (k0_off1_inb k)).toLoadRect X_arg5)) (colW arg1 4#32) (arg4.view.readAt (Elt Ideal) (Rect.unit (s := S1x1536x768) (k0_off10 k) S1x128x128.size (k0_off10_inb k)).toLoadRect X_arg4) (arg3.view.readAt (Elt Ideal) (Rect.unit (s := S1x1536x768) (k0_off10 k) S1x128x128.size (k0_off10_inb k)).toLoadRect X_arg3)⟩,
   ⟨Rect.unit (s := S1x1536x768) (k0_off8 k) S1x128x128.size (k0_off8_inb k), cB (k0_pay5 (F := Ideal) (arg5.view.readAt (Elt Ideal) (Rect.unit (s := S1x1536x18) (k0_off1 k) S1x128x18.size (k0_off1_inb k)).toLoadRect X_arg5)) (colW arg1 3#32) (arg4.view.readAt (Elt Ideal) (Rect.unit (s := S1x1536x768) (k0_off8 k) S1x128x128.size (k0_off8_inb k)).toLoadRect X_arg4) (arg3.view.readAt (Elt Ideal) (Rect.unit (s := S1x1536x768) (k0_off8 k) S1x128x128.size (k0_off8_inb k)).toLoadRect X_arg3)⟩,
   ⟨Rect.unit (s := S1x1536x768) (k0_off6 k) S1x128x128.size (k0_off6_inb k), cB (k0_pay5 (F := Ideal) (arg5.view.readAt (Elt Ideal) (Rect.unit (s := S1x1536x18) (k0_off1 k) S1x128x18.size (k0_off1_inb k)).toLoadRect X_arg5)) (colW arg1 2#32) (arg4.view.readAt (Elt Ideal) (Rect.unit (s := S1x1536x768) (k0_off6 k) S1x128x128.size (k0_off6_inb k)).toLoadRect X_arg4) (arg3.view.readAt (Elt Ideal) (Rect.unit (s := S1x1536x768) (k0_off6 k) S1x128x128.size (k0_off6_inb k)).toLoadRect X_arg3)⟩,
   ⟨Rect.unit (s := S1x1536x768) (k0_off4 k) S1x128x128.size (k0_off4_inb k), cB (k0_pay5 (F := Ideal) (arg5.view.readAt (Elt Ideal) (Rect.unit (s := S1x1536x18) (k0_off1 k) S1x128x18.size (k0_off1_inb k)).toLoadRect X_arg5)) (colW arg1 1#32) (arg4.view.readAt (Elt Ideal) (Rect.unit (s := S1x1536x768) (k0_off4 k) S1x128x128.size (k0_off4_inb k)).toLoadRect X_arg4) (arg3.view.readAt (Elt Ideal) (Rect.unit (s := S1x1536x768) (k0_off4 k) S1x128x128.size (k0_off4_inb k)).toLoadRect X_arg3)⟩,
   ⟨Rect.unit (s := S1x1536x768) (k0_off2 k) S1x128x128.size (k0_off2_inb k), cB (k0_pay5 (F := Ideal) (arg5.view.readAt (Elt Ideal) (Rect.unit (s := S1x1536x18) (k0_off1 k) S1x128x18.size (k0_off1_inb k)).toLoadRect X_arg5)) (colW arg1 0#32) (arg4.view.readAt (Elt Ideal) (Rect.unit (s := S1x1536x768) (k0_off2 k) S1x128x128.size (k0_off2_inb k)).toLoadRect X_arg4) (arg3.view.readAt (Elt Ideal) (Rect.unit (s := S1x1536x768) (k0_off2 k) S1x128x128.size (k0_off2_inb k)).toLoadRect X_arg3)⟩] := by
  unfold trip_k0_t1
  rfl

theorem trip9 (𝒱 : Variants) (c : Dev nD) (bd : Option 𝒱.V) (i : grid0.Coords) (arg2 : Memref sig .tc .vmem S1x1536x1536 .bf16) (harg2 : arg2.IsWhole) (arg3 : Memref sig .tc .vmem S1x1536x768 .bf16) (harg3 : arg3.IsWhole) (arg4 : Memref sig .tc .vmem S1x1536x768 .i8) (harg4 : arg4.IsWhole) (arg5 : Memref sig .tc .vmem S1x1536x18 .f32) (harg5 : arg5.IsWhole) (arg6 : Memref sig .tc .vmem S1x1536x768 .bf16) (harg6 : arg6.IsWhole) (arg7 : Memref sig .tc .vmem S1x1536x768 .bf16) (harg7 : arg7.IsWhole) (arg8 : Memref sig .tc .vmem S1x1536x768 .i8) (harg8 : arg8.IsWhole) (arg9 : Memref sig .tc .vmem S1x1536x18 .f32) (harg9 : arg9.IsWhole) (arg10 : Memref sig .tc .vmem S1536x768 .bf16) (harg10 : arg10.IsWhole) (arg1 : BitVec 32) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f8 : BufTy.Contents (Elt Ideal) arg8.view.ty) (f9 : BufTy.Contents (Elt Ideal) arg9.view.ty) (f10 : BufTy.Contents (Elt Ideal) arg10.view.ty) :
    (trip_k0_t1 (F := Ideal) 𝒱 c bd i arg2 harg2 arg3 harg3 arg4 harg4 arg5 harg5 arg6 harg6 arg7 harg7 arg8 harg8 arg9 harg9 arg10 harg10 arg1 X_arg3 X_arg4 X_arg5 k).2.1 f8 f9 f10 =
  [⟨Rect.unit (s := S1x1536x18) (k0_off1 k) S1x128x18.size (k0_off1_inb k), k0_pay3 (F := Ideal) (stB (k0_pay5 (F := Ideal) (arg5.view.readAt (Elt Ideal) (Rect.unit (s := S1x1536x18) (k0_off1 k) S1x128x18.size (k0_off1_inb k)).toLoadRect X_arg5)) (colW arg1 5#32) (arg4.view.readAt (Elt Ideal) (Rect.unit (s := S1x1536x768) (k0_off12 k) S1x128x128.size (k0_off12_inb k)).toLoadRect X_arg4) (arg3.view.readAt (Elt Ideal) (Rect.unit (s := S1x1536x768) (k0_off12 k) S1x128x128.size (k0_off12_inb k)).toLoadRect X_arg3)
      (stB (k0_pay5 (F := Ideal) (arg5.view.readAt (Elt Ideal) (Rect.unit (s := S1x1536x18) (k0_off1 k) S1x128x18.size (k0_off1_inb k)).toLoadRect X_arg5)) (colW arg1 4#32) (arg4.view.readAt (Elt Ideal) (Rect.unit (s := S1x1536x768) (k0_off10 k) S1x128x128.size (k0_off10_inb k)).toLoadRect X_arg4) (arg3.view.readAt (Elt Ideal) (Rect.unit (s := S1x1536x768) (k0_off10 k) S1x128x128.size (k0_off10_inb k)).toLoadRect X_arg3)
      (stB (k0_pay5 (F := Ideal) (arg5.view.readAt (Elt Ideal) (Rect.unit (s := S1x1536x18) (k0_off1 k) S1x128x18.size (k0_off1_inb k)).toLoadRect X_arg5)) (colW arg1 3#32) (arg4.view.readAt (Elt Ideal) (Rect.unit (s := S1x1536x768) (k0_off8 k) S1x128x128.size (k0_off8_inb k)).toLoadRect X_arg4) (arg3.view.readAt (Elt Ideal) (Rect.unit (s := S1x1536x768) (k0_off8 k) S1x128x128.size (k0_off8_inb k)).toLoadRect X_arg3)
      (stB (k0_pay5 (F := Ideal) (arg5.view.readAt (Elt Ideal) (Rect.unit (s := S1x1536x18) (k0_off1 k) S1x128x18.size (k0_off1_inb k)).toLoadRect X_arg5)) (colW arg1 2#32) (arg4.view.readAt (Elt Ideal) (Rect.unit (s := S1x1536x768) (k0_off6 k) S1x128x128.size (k0_off6_inb k)).toLoadRect X_arg4) (arg3.view.readAt (Elt Ideal) (Rect.unit (s := S1x1536x768) (k0_off6 k) S1x128x128.size (k0_off6_inb k)).toLoadRect X_arg3)
      (stB (k0_pay5 (F := Ideal) (arg5.view.readAt (Elt Ideal) (Rect.unit (s := S1x1536x18) (k0_off1 k) S1x128x18.size (k0_off1_inb k)).toLoadRect X_arg5)) (colW arg1 1#32) (arg4.view.readAt (Elt Ideal) (Rect.unit (s := S1x1536x768) (k0_off4 k) S1x128x128.size (k0_off4_inb k)).toLoadRect X_arg4) (arg3.view.readAt (Elt Ideal) (Rect.unit (s := S1x1536x768) (k0_off4 k) S1x128x128.size (k0_off4_inb k)).toLoadRect X_arg3)
      (stB (k0_pay5 (F := Ideal) (arg5.view.readAt (Elt Ideal) (Rect.unit (s := S1x1536x18) (k0_off1 k) S1x128x18.size (k0_off1_inb k)).toLoadRect X_arg5)) (colW arg1 0#32) (arg4.view.readAt (Elt Ideal) (Rect.unit (s := S1x1536x768) (k0_off2 k) S1x128x128.size (k0_off2_inb k)).toLoadRect X_arg4) (arg3.view.readAt (Elt Ideal) (Rect.unit (s := S1x1536x768) (k0_off2 k) S1x128x128.size (k0_off2_inb k)).toLoadRect X_arg3)
      (k0_pay6 (F := Ideal) (arg9.view.readAt (Elt Ideal) (Rect.unit (s := S1x1536x18) (k0_off1 k) S1x128x18.size (k0_off1_inb k)).toLoadRect f9))))))))⟩] := by
  unfold trip_k0_t1
  rfl

/-! ## Places -/

/-- The 128 cells of a row in block `j` of the six. -/
def cells {α : Type} (x : S1x1536x768.Idx → α) (p : Fin 1536) (j : ℕ) (l : Fin 128) : α :=
  x (ix3 0 p ⟨(128 * j + l.val) % 768, Nat.mod_lt _ (by decide)⟩)

/-- The new scale of row `p` in column `a`, and the new code at a place, from the gradient, the codes and the scales that one
    grid point is given; `kb` counts the groups of six columns. -/
def newScale (x1 : S1x1536x768.Idx → EReal) (x2 : S1x1536x768.Idx → BitVec 8) (x3 : S1x1536x18.Idx → EReal) (kb : Fin 3)
    (p : Fin 1536) (a : Fin 18) : EReal :=
  rowScale (cells x2 p (a.val - 6 * kb.val)) (x3 (ix3 0 p a)) (cells x1 p (a.val - 6 * kb.val))
def newCode (x1 : S1x1536x768.Idx → EReal) (x2 : S1x1536x768.Idx → BitVec 8) (x3 : S1x1536x18.Idx → EReal) (kb : Fin 3)
    (p : Fin 1536) (d : Fin 768) : BitVec 8 :=
  rowCode (cells x2 p (d.val / 128)) (x3 (ix3 0 p ⟨6 * kb.val + d.val / 128, by omega⟩)) (cells x1 p (d.val / 128))
    ⟨d.val % 128, Nat.mod_lt _ (by decide)⟩

theorem trips_eq : k0_t1_loop.trips = 12 := by decide +kernel

theorem colW_eq : ∀ (kb : Fin 3) (q : Fin 6), colW (BitVec.ofNat 32 kb.val) (BitVec.ofNat 32 q.val)
    = BitVec.ofNat 32 (6 * kb.val + q.val) := by decide +kernel

/-- A row of each of the blocks a trip loads. -/
theorem block0 {e : EltTy} {sig' : RefSig} {κ : Kind} {sp : Space} (v : View sig' κ sp S1x1536x768 e) (X : v.ty.Contents (Elt Ideal)) (k : Fin k0_t1_loop.trips)
    (r : Fin 128) (p : Fin 1536) (hp : p.val = 128 * k.val + r.val) :
    row (v.readAt (Elt Ideal) (Rect.unit (s := S1x1536x768) (k0_off2 k) S1x128x128.size (k0_off2_inb k)).toLoadRect X) r
      = cells (v.read (Elt Ideal) X) p 0 := by
  funext l
  refine congrArg (v.read (Elt Ideal) X) (funext fun a => Fin.ext ?_)
  match a with
  | ⟨0, _⟩ => have e := congrFun (k0_off2_eq k) 0; show k0_off2 k 0 + 1 * 0 = 0; rw [e]; rfl
  | ⟨1, _⟩ => have e := congrFun (k0_off2_eq k) 1; show k0_off2 k 1 + 1 * r.val = p.val; rw [e, hp]; show 128 * k.val + 1 * r.val = _; omega
  | ⟨2, _⟩ => have e := congrFun (k0_off2_eq k) 2; show k0_off2 k 2 + 1 * l.val = (128 * 0 + l.val) % 768; rw [e]; show 0 + 1 * l.val = _; omega

theorem block1 {e : EltTy} {sig' : RefSig} {κ : Kind} {sp : Space} (v : View sig' κ sp S1x1536x768 e) (X : v.ty.Contents (Elt Ideal)) (k : Fin k0_t1_loop.trips)
    (r : Fin 128) (p : Fin 1536) (hp : p.val = 128 * k.val + r.val) :
    row (v.readAt (Elt Ideal) (Rect.unit (s := S1x1536x768) (k0_off4 k) S1x128x128.size (k0_off4_inb k)).toLoadRect X) r
      = cells (v.read (Elt Ideal) X) p 1 := by
  funext l
  refine congrArg (v.read (Elt Ideal) X) (funext fun a => Fin.ext ?_)
  match a with
  | ⟨0, _⟩ => have e := congrFun (k0_off4_eq k) 0; show k0_off4 k 0 + 1 * 0 = 0; rw [e]; rfl
  | ⟨1, _⟩ => have e := congrFun (k0_off4_eq k) 1; show k0_off4 k 1 + 1 * r.val = p.val; rw [e, hp]; show 128 * k.val + 1 * r.val = _; omega
  | ⟨2, _⟩ => have e := congrFun (k0_off4_eq k) 2; show k0_off4 k 2 + 1 * l.val = (128 * 1 + l.val) % 768; rw [e]; show 128 + 1 * l.val = _; omega

theorem block2 {e : EltTy} {sig' : RefSig} {κ : Kind} {sp : Space} (v : View sig' κ sp S1x1536x768 e) (X : v.ty.Contents (Elt Ideal)) (k : Fin k0_t1_loop.trips)
    (r : Fin 128) (p : Fin 1536) (hp : p.val = 128 * k.val + r.val) :
    row (v.readAt (Elt Ideal) (Rect.unit (s := S1x1536x768) (k0_off6 k) S1x128x128.size (k0_off6_inb k)).toLoadRect X) r
      = cells (v.read (Elt Ideal) X) p 2 := by
  funext l
  refine congrArg (v.read (Elt Ideal) X) (funext fun a => Fin.ext ?_)
  match a with
  | ⟨0, _⟩ => have e := congrFun (k0_off6_eq k) 0; show k0_off6 k 0 + 1 * 0 = 0; rw [e]; rfl
  | ⟨1, _⟩ => have e := congrFun (k0_off6_eq k) 1; show k0_off6 k 1 + 1 * r.val = p.val; rw [e, hp]; show 128 * k.val + 1 * r.val = _; omega
  | ⟨2, _⟩ => have e := congrFun (k0_off6_eq k) 2; show k0_off6 k 2 + 1 * l.val = (128 * 2 + l.val) % 768; rw [e]; show 256 + 1 * l.val = _; omega

theorem block3 {e : EltTy} {sig' : RefSig} {κ : Kind} {sp : Space} (v : View sig' κ sp S1x1536x768 e) (X : v.ty.Contents (Elt Ideal)) (k : Fin k0_t1_loop.trips)
    (r : Fin 128) (p : Fin 1536) (hp : p.val = 128 * k.val + r.val) :
    row (v.readAt (Elt Ideal) (Rect.unit (s := S1x1536x768) (k0_off8 k) S1x128x128.size (k0_off8_inb k)).toLoadRect X) r
      = cells (v.read (Elt Ideal) X) p 3 := by
  funext l
  refine congrArg (v.read (Elt Ideal) X) (funext fun a => Fin.ext ?_)
  match a with
  | ⟨0, _⟩ => have e := congrFun (k0_off8_eq k) 0; show k0_off8 k 0 + 1 * 0 = 0; rw [e]; rfl
  | ⟨1, _⟩ => have e := congrFun (k0_off8_eq k) 1; show k0_off8 k 1 + 1 * r.val = p.val; rw [e, hp]; show 128 * k.val + 1 * r.val = _; omega
  | ⟨2, _⟩ => have e := congrFun (k0_off8_eq k) 2; show k0_off8 k 2 + 1 * l.val = (128 * 3 + l.val) % 768; rw [e]; show 384 + 1 * l.val = _; omega

theorem block4 {e : EltTy} {sig' : RefSig} {κ : Kind} {sp : Space} (v : View sig' κ sp S1x1536x768 e) (X : v.ty.Contents (Elt Ideal)) (k : Fin k0_t1_loop.trips)
    (r : Fin 128) (p : Fin 1536) (hp : p.val = 128 * k.val + r.val) :
    row (v.readAt (Elt Ideal) (Rect.unit (s := S1x1536x768) (k0_off10 k) S1x128x128.size (k0_off10_inb k)).toLoadRect X) r
      = cells (v.read (Elt Ideal) X) p 4 := by
  funext l
  refine congrArg (v.read (Elt Ideal) X) (funext fun a => Fin.ext ?_)
  match a with
  | ⟨0, _⟩ => have e := congrFun (k0_off10_eq k) 0; show k0_off10 k 0 + 1 * 0 = 0; rw [e]; rfl
  | ⟨1, _⟩ => have e := congrFun (k0_off10_eq k) 1; show k0_off10 k 1 + 1 * r.val = p.val; rw [e, hp]; show 128 * k.val + 1 * r.val = _; omega
  | ⟨2, _⟩ => have e := congrFun (k0_off10_eq k) 2; show k0_off10 k 2 + 1 * l.val = (128 * 4 + l.val) % 768; rw [e]; show 512 + 1 * l.val = _; omega

theorem block5 {e : EltTy} {sig' : RefSig} {κ : Kind} {sp : Space} (v : View sig' κ sp S1x1536x768 e) (X : v.ty.Contents (Elt Ideal)) (k : Fin k0_t1_loop.trips)
    (r : Fin 128) (p : Fin 1536) (hp : p.val = 128 * k.val + r.val) :
    row (v.readAt (Elt Ideal) (Rect.unit (s := S1x1536x768) (k0_off12 k) S1x128x128.size (k0_off12_inb k)).toLoadRect X) r
      = cells (v.read (Elt Ideal) X) p 5 := by
  funext l
  refine congrArg (v.read (Elt Ideal) X) (funext fun a => Fin.ext ?_)
  match a with
  | ⟨0, _⟩ => have e := congrFun (k0_off12_eq k) 0; show k0_off12 k 0 + 1 * 0 = 0; rw [e]; rfl
  | ⟨1, _⟩ => have e := congrFun (k0_off12_eq k) 1; show k0_off12 k 1 + 1 * r.val = p.val; rw [e, hp]; show 128 * k.val + 1 * r.val = _; omega
  | ⟨2, _⟩ => have e := congrFun (k0_off12_eq k) 2; show k0_off12 k 2 + 1 * l.val = (128 * 5 + l.val) % 768; rw [e]; show 640 + 1 * l.val = _; omega

theorem scale_row {sig' : RefSig} {κ : Kind} {sp : Space} (v : View sig' κ sp S1x1536x18 .f32) (X : v.ty.Contents (Elt Ideal)) (k : Fin k0_t1_loop.trips)
    (r : Fin 128) (a : Fin 18) (p : Fin 1536) (hp : p.val = 128 * k.val + r.val) :
    k0_pay5 (F := Ideal) (v.readAt (Elt Ideal) (Rect.unit (s := S1x1536x18) (k0_off1 k) S1x128x18.size (k0_off1_inb k)).toLoadRect X) (ix2 r a)
      = v.read (Elt Ideal) X (ix3 0 p a) := by
  unfold k0_pay5
  refine (shapeCast_dropUnit_apply ![128, 18] _ _ _).trans ?_
  refine congrArg (v.read (Elt Ideal) X) (funext fun b => Fin.ext ?_)
  match b with
  | ⟨0, _⟩ => have e := congrFun (k0_off1_eq k) 0; show k0_off1 k 0 + 1 * 0 = 0; rw [e]; rfl
  | ⟨1, _⟩ => have e := congrFun (k0_off1_eq k) 1; show k0_off1 k 1 + 1 * r.val = p.val; rw [e, hp]; show 128 * k.val + 1 * r.val = _; omega
  | ⟨2, _⟩ => have e := congrFun (k0_off1_eq k) 2; show k0_off1 k 2 + 1 * a.val = a.val; rw [e]; show 0 + 1 * a.val = _; omega

/-- Six blocks side by side over a row group: outside the group nothing changes, -/
theorem six_miss {sig' : RefSig} {κ : Kind} {sp : Space} (v : View sig' κ sp S1x1536x768 .i8) (f : v.ty.Contents (Elt Ideal)) (L : List (View.Piece (Elt Ideal) S1x1536x768 .i8))
    (k : Fin k0_t1_loop.trips) (w : Fin 6 → S1x128x128.Idx → BitVec 8) (y : S1x1536x768.Idx)
    (h : (y 1).val < 128 * k.val ∨ 128 * k.val + 128 ≤ (y 1).val) :
    v.read (Elt Ideal) (v.writes (Elt Ideal) f ([⟨Rect.unit (s := S1x1536x768) (k0_off12 k) S1x128x128.size (k0_off12_inb k), w 5⟩,
      ⟨Rect.unit (s := S1x1536x768) (k0_off10 k) S1x128x128.size (k0_off10_inb k), w 4⟩,
      ⟨Rect.unit (s := S1x1536x768) (k0_off8 k) S1x128x128.size (k0_off8_inb k), w 3⟩,
      ⟨Rect.unit (s := S1x1536x768) (k0_off6 k) S1x128x128.size (k0_off6_inb k), w 2⟩,
      ⟨Rect.unit (s := S1x1536x768) (k0_off4 k) S1x128x128.size (k0_off4_inb k), w 1⟩,
      ⟨Rect.unit (s := S1x1536x768) (k0_off2 k) S1x128x128.size (k0_off2_inb k), w 0⟩] ++ L)) y
      = v.read (Elt Ideal) (v.writes (Elt Ideal) f L) y := by
  refine (View.read_writes_cons_miss_of_axis v f _ _ y (1 : Fin 3) (128 * k.val) 128 (congrFun (k0_off12_eq k) 1) rfl rfl h).trans ?_
  refine (View.read_writes_cons_miss_of_axis v f _ _ y (1 : Fin 3) (128 * k.val) 128 (congrFun (k0_off10_eq k) 1) rfl rfl h).trans ?_
  refine (View.read_writes_cons_miss_of_axis v f _ _ y (1 : Fin 3) (128 * k.val) 128 (congrFun (k0_off8_eq k) 1) rfl rfl h).trans ?_
  refine (View.read_writes_cons_miss_of_axis v f _ _ y (1 : Fin 3) (128 * k.val) 128 (congrFun (k0_off6_eq k) 1) rfl rfl h).trans ?_
  refine (View.read_writes_cons_miss_of_axis v f _ _ y (1 : Fin 3) (128 * k.val) 128 (congrFun (k0_off4_eq k) 1) rfl rfl h).trans ?_
  refine (View.read_writes_cons_miss_of_axis v f _ _ y (1 : Fin 3) (128 * k.val) 128 (congrFun (k0_off2_eq k) 1) rfl rfl h).trans ?_
  rfl

/-- and inside it a place reads the block it lies in. -/
theorem six_hit {sig' : RefSig} {κ : Kind} {sp : Space} (v : View sig' κ sp S1x1536x768 .i8) (f : v.ty.Contents (Elt Ideal)) (L : List (View.Piece (Elt Ideal) S1x1536x768 .i8))
    (k : Fin k0_t1_loop.trips) (w : Fin 6 → S1x128x128.Idx → BitVec 8) (y : S1x1536x768.Idx) (r l : Fin 128) (q : Fin 6)
    (h1 : (y 1).val = 128 * k.val + r.val) (h2 : (y 2).val = 128 * q.val + l.val) :
    v.read (Elt Ideal) (v.writes (Elt Ideal) f ([⟨Rect.unit (s := S1x1536x768) (k0_off12 k) S1x128x128.size (k0_off12_inb k), w 5⟩,
      ⟨Rect.unit (s := S1x1536x768) (k0_off10 k) S1x128x128.size (k0_off10_inb k), w 4⟩,
      ⟨Rect.unit (s := S1x1536x768) (k0_off8 k) S1x128x128.size (k0_off8_inb k), w 3⟩,
      ⟨Rect.unit (s := S1x1536x768) (k0_off6 k) S1x128x128.size (k0_off6_inb k), w 2⟩,
      ⟨Rect.unit (s := S1x1536x768) (k0_off4 k) S1x128x128.size (k0_off4_inb k), w 1⟩,
      ⟨Rect.unit (s := S1x1536x768) (k0_off2 k) S1x128x128.size (k0_off2_inb k), w 0⟩] ++ L)) y
      = w q (ix3 0 r l) := by
  match q with
  | ⟨0, _⟩ =>
    refine (View.read_writes_cons_miss_of_axis v f _ _ y (2 : Fin 3) 640 128 (congrFun (k0_off12_eq k) 2) rfl rfl (by rw [h2]; show 128 * 0 + l.val < 640 ∨ _; omega)).trans ?_
    refine (View.read_writes_cons_miss_of_axis v f _ _ y (2 : Fin 3) 512 128 (congrFun (k0_off10_eq k) 2) rfl rfl (by rw [h2]; show 128 * 0 + l.val < 512 ∨ _; omega)).trans ?_
    refine (View.read_writes_cons_miss_of_axis v f _ _ y (2 : Fin 3) 384 128 (congrFun (k0_off8_eq k) 2) rfl rfl (by rw [h2]; show 128 * 0 + l.val < 384 ∨ _; omega)).trans ?_
    refine (View.read_writes_cons_miss_of_axis v f _ _ y (2 : Fin 3) 256 128 (congrFun (k0_off6_eq k) 2) rfl rfl (by rw [h2]; show 128 * 0 + l.val < 256 ∨ _; omega)).trans ?_
    refine (View.read_writes_cons_miss_of_axis v f _ _ y (2 : Fin 3) 128 128 (congrFun (k0_off4_eq k) 2) rfl rfl (by rw [h2]; show 128 * 0 + l.val < 128 ∨ _; omega)).trans ?_
    exact View.read_writes_cons_hit_of_coords v f (Rect.unit (s := S1x1536x768) (k0_off2 k) S1x128x128.size (k0_off2_inb k)) (w 0) _ (ix3 0 r l) y fun a => match a with
      | ⟨0, _⟩ => by have e := congrFun (k0_off2_eq k) 0; show (y 0).val = k0_off2 k 0 + 1 * 0; rw [e]; have : (y 0).val < 1 := (y 0).isLt; show (y 0).val = 0 + 1 * 0; omega
      | ⟨1, _⟩ => by have e := congrFun (k0_off2_eq k) 1; show (y 1).val = k0_off2 k 1 + 1 * r.val; rw [e, h1]; show _ = 128 * k.val + 1 * r.val; omega
      | ⟨2, _⟩ => by have e := congrFun (k0_off2_eq k) 2; show (y 2).val = k0_off2 k 2 + 1 * l.val; rw [e, h2]; show 128 * 0 + l.val = 0 + 1 * l.val; omega
  | ⟨1, _⟩ =>
    refine (View.read_writes_cons_miss_of_axis v f _ _ y (2 : Fin 3) 640 128 (congrFun (k0_off12_eq k) 2) rfl rfl (by rw [h2]; show 128 * 1 + l.val < 640 ∨ _; omega)).trans ?_
    refine (View.read_writes_cons_miss_of_axis v f _ _ y (2 : Fin 3) 512 128 (congrFun (k0_off10_eq k) 2) rfl rfl (by rw [h2]; show 128 * 1 + l.val < 512 ∨ _; omega)).trans ?_
    refine (View.read_writes_cons_miss_of_axis v f _ _ y (2 : Fin 3) 384 128 (congrFun (k0_off8_eq k) 2) rfl rfl (by rw [h2]; show 128 * 1 + l.val < 384 ∨ _; omega)).trans ?_
    refine (View.read_writes_cons_miss_of_axis v f _ _ y (2 : Fin 3) 256 128 (congrFun (k0_off6_eq k) 2) rfl rfl (by rw [h2]; show 128 * 1 + l.val < 256 ∨ _; omega)).trans ?_
    exact View.read_writes_cons_hit_of_coords v f (Rect.unit (s := S1x1536x768) (k0_off4 k) S1x128x128.size (k0_off4_inb k)) (w 1) _ (ix3 0 r l) y fun a => match a with
      | ⟨0, _⟩ => by have e := congrFun (k0_off4_eq k) 0; show (y 0).val = k0_off4 k 0 + 1 * 0; rw [e]; have : (y 0).val < 1 := (y 0).isLt; show (y 0).val = 0 + 1 * 0; omega
      | ⟨1, _⟩ => by have e := congrFun (k0_off4_eq k) 1; show (y 1).val = k0_off4 k 1 + 1 * r.val; rw [e, h1]; show _ = 128 * k.val + 1 * r.val; omega
      | ⟨2, _⟩ => by have e := congrFun (k0_off4_eq k) 2; show (y 2).val = k0_off4 k 2 + 1 * l.val; rw [e, h2]; show 128 * 1 + l.val = 128 + 1 * l.val; omega
  | ⟨2, _⟩ =>
    refine (View.read_writes_cons_miss_of_axis v f _ _ y (2 : Fin 3) 640 128 (congrFun (k0_off12_eq k) 2) rfl rfl (by rw [h2]; show 128 * 2 + l.val < 640 ∨ _; omega)).trans ?_
    refine (View.read_writes_cons_miss_of_axis v f _ _ y (2 : Fin 3) 512 128 (congrFun (k0_off10_eq k) 2) rfl rfl (by rw [h2]; show 128 * 2 + l.val < 512 ∨ _; omega)).trans ?_
    refine (View.read_writes_cons_miss_of_axis v f _ _ y (2 : Fin 3) 384 128 (congrFun (k0_off8_eq k) 2) rfl rfl (by rw [h2]; show 128 * 2 + l.val < 384 ∨ _; omega)).trans ?_
    exact View.read_writes_cons_hit_of_coords v f (Rect.unit (s := S1x1536x768) (k0_off6 k) S1x128x128.size (k0_off6_inb k)) (w 2) _ (ix3 0 r l) y fun a => match a with
      | ⟨0, _⟩ => by have e := congrFun (k0_off6_eq k) 0; show (y 0).val = k0_off6 k 0 + 1 * 0; rw [e]; have : (y 0).val < 1 := (y 0).isLt; show (y 0).val = 0 + 1 * 0; omega
      | ⟨1, _⟩ => by have e := congrFun (k0_off6_eq k) 1; show (y 1).val = k0_off6 k 1 + 1 * r.val; rw [e, h1]; show _ = 128 * k.val + 1 * r.val; omega
      | ⟨2, _⟩ => by have e := congrFun (k0_off6_eq k) 2; show (y 2).val = k0_off6 k 2 + 1 * l.val; rw [e, h2]; show 128 * 2 + l.val = 256 + 1 * l.val; omega
  | ⟨3, _⟩ =>
    refine (View.read_writes_cons_miss_of_axis v f _ _ y (2 : Fin 3) 640 128 (congrFun (k0_off12_eq k) 2) rfl rfl (by rw [h2]; show 128 * 3 + l.val < 640 ∨ _; omega)).trans ?_
    refine (View.read_writes_cons_miss_of_axis v f _ _ y (2 : Fin 3) 512 128 (congrFun (k0_off10_eq k) 2) rfl rfl (by rw [h2]; show 128 * 3 + l.val < 512 ∨ _; omega)).trans ?_
    exact View.read_writes_cons_hit_of_coords v f (Rect.unit (s := S1x1536x768) (k0_off8 k) S1x128x128.size (k0_off8_inb k)) (w 3) _ (ix3 0 r l) y fun a => match a with
      | ⟨0, _⟩ => by have e := congrFun (k0_off8_eq k) 0; show (y 0).val = k0_off8 k 0 + 1 * 0; rw [e]; have : (y 0).val < 1 := (y 0).isLt; show (y 0).val = 0 + 1 * 0; omega
      | ⟨1, _⟩ => by have e := congrFun (k0_off8_eq k) 1; show (y 1).val = k0_off8 k 1 + 1 * r.val; rw [e, h1]; show _ = 128 * k.val + 1 * r.val; omega
      | ⟨2, _⟩ => by have e := congrFun (k0_off8_eq k) 2; show (y 2).val = k0_off8 k 2 + 1 * l.val; rw [e, h2]; show 128 * 3 + l.val = 384 + 1 * l.val; omega
  | ⟨4, _⟩ =>
    refine (View.read_writes_cons_miss_of_axis v f _ _ y (2 : Fin 3) 640 128 (congrFun (k0_off12_eq k) 2) rfl rfl (by rw [h2]; show 128 * 4 + l.val < 640 ∨ _; omega)).trans ?_
    exact View.read_writes_cons_hit_of_coords v f (Rect.unit (s := S1x1536x768) (k0_off10 k) S1x128x128.size (k0_off10_inb k)) (w 4) _ (ix3 0 r l) y fun a => match a with
      | ⟨0, _⟩ => by have e := congrFun (k0_off10_eq k) 0; show (y 0).val = k0_off10 k 0 + 1 * 0; rw [e]; have : (y 0).val < 1 := (y 0).isLt; show (y 0).val = 0 + 1 * 0; omega
      | ⟨1, _⟩ => by have e := congrFun (k0_off10_eq k) 1; show (y 1).val = k0_off10 k 1 + 1 * r.val; rw [e, h1]; show _ = 128 * k.val + 1 * r.val; omega
      | ⟨2, _⟩ => by have e := congrFun (k0_off10_eq k) 2; show (y 2).val = k0_off10 k 2 + 1 * l.val; rw [e, h2]; show 128 * 4 + l.val = 512 + 1 * l.val; omega
  | ⟨5, _⟩ =>
    exact View.read_writes_cons_hit_of_coords v f (Rect.unit (s := S1x1536x768) (k0_off12 k) S1x128x128.size (k0_off12_inb k)) (w 5) _ (ix3 0 r l) y fun a => match a with
      | ⟨0, _⟩ => by have e := congrFun (k0_off12_eq k) 0; show (y 0).val = k0_off12 k 0 + 1 * 0; rw [e]; have : (y 0).val < 1 := (y 0).isLt; show (y 0).val = 0 + 1 * 0; omega
      | ⟨1, _⟩ => by have e := congrFun (k0_off12_eq k) 1; show (y 1).val = k0_off12 k 1 + 1 * r.val; rw [e, h1]; show _ = 128 * k.val + 1 * r.val; omega
      | ⟨2, _⟩ => by have e := congrFun (k0_off12_eq k) 2; show (y 2).val = k0_off12 k 2 + 1 * l.val; rw [e, h2]; show 128 * 5 + l.val = 640 + 1 * l.val; omega

/-! ## After the first trips -/

section loop

variable (𝒱 : Variants) (c : Dev nD) (bd : Option 𝒱.V) (i : grid0.Coords) (arg2 : Memref sig .tc .vmem S1x1536x1536 .bf16) (harg2 : arg2.IsWhole) (arg3 : Memref sig .tc .vmem S1x1536x768 .bf16) (harg3 : arg3.IsWhole) (arg4 : Memref sig .tc .vmem S1x1536x768 .i8) (harg4 : arg4.IsWhole) (arg5 : Memref sig .tc .vmem S1x1536x18 .f32) (harg5 : arg5.IsWhole) (arg6 : Memref sig .tc .vmem S1x1536x768 .bf16) (harg6 : arg6.IsWhole) (arg7 : Memref sig .tc .vmem S1x1536x768 .bf16) (harg7 : arg7.IsWhole) (arg8 : Memref sig .tc .vmem S1x1536x768 .i8) (harg8 : arg8.IsWhole) (arg9 : Memref sig .tc .vmem S1x1536x18 .f32) (harg9 : arg9.IsWhole) (arg10 : Memref sig .tc .vmem S1536x768 .bf16) (harg10 : arg10.IsWhole) (arg1 : BitVec 32) (X_arg3 : BufTy.Contents (Elt Ideal) arg3.view.ty) (X_arg4 : BufTy.Contents (Elt Ideal) arg4.view.ty) (X_arg5 : BufTy.Contents (Elt Ideal) arg5.view.ty) (G_arg8 : BufTy.Contents (Elt Ideal) arg8.view.ty) (G_arg9 : BufTy.Contents (Elt Ideal) arg9.view.ty)
  (G_arg10 : BufTy.Contents (Elt Ideal) arg10.view.ty) (kb : Fin 3) (hkb : arg1 = BitVec.ofNat 32 kb.val)

include hkb

theorem codes_after (n : ℕ) (hn : n ≤ 12) (p : Fin 1536) (hp : p.val < 128 * n) (d : Fin 768) :
    arg8.view.read (Elt Ideal) (arg8.view.writes (Elt Ideal) G_arg8
      (pb_k0_t1 (F := Ideal) 𝒱 c bd i arg2 harg2 arg3 harg3 arg4 harg4 arg5 harg5 arg6 harg6 arg7 harg7 arg8 harg8 arg9 harg9 arg10 harg10 arg1 X_arg3 X_arg4 X_arg5 G_arg8 G_arg9 G_arg10 n).1) (ix3 0 p d)
    = newCode (arg3.view.read (Elt Ideal) X_arg3) (arg4.view.read (Elt Ideal) X_arg4) (arg5.view.read (Elt Ideal) X_arg5) kb p d := by
  induction n with
  | zero => omega
  | succ n ih =>
    have hk : n < k0_t1_loop.trips := by rw [trips_eq]; omega
    have e := (congrArg Prod.fst (pb_k0_t1_succ (F := Ideal) 𝒱 c bd i arg2 harg2 arg3 harg3 arg4 harg4 arg5 harg5 arg6 harg6 arg7 harg7 arg8 harg8 arg9 harg9 arg10 harg10 arg1 X_arg3 X_arg4 X_arg5 G_arg8 G_arg9 G_arg10 ⟨n, hk⟩)).trans
      (congrArg (· ++ (pb_k0_t1 (F := Ideal) 𝒱 c bd i arg2 harg2 arg3 harg3 arg4 harg4 arg5 harg5 arg6 harg6 arg7 harg7 arg8 harg8 arg9 harg9 arg10 harg10 arg1 X_arg3 X_arg4 X_arg5 G_arg8 G_arg9 G_arg10 n).1) (trip8 𝒱 c bd i arg2 harg2 arg3 harg3 arg4 harg4 arg5 harg5 arg6 harg6 arg7 harg7 arg8 harg8 arg9 harg9 arg10 harg10 arg1 X_arg3 X_arg4 X_arg5 ⟨n, hk⟩ _ _ _))
    refine (congrArg (fun L => arg8.view.read (Elt Ideal) (arg8.view.writes (Elt Ideal) G_arg8 L) (ix3 0 p d)) e).trans ?_
    clear e
    by_cases h : p.val < 128 * n
    · refine (six_miss arg8.view _ _ ⟨n, hk⟩ ![_, _, _, _, _, _] (ix3 0 p d) (Or.inl h)).trans (ih (by omega) h)
    · obtain ⟨r, hr⟩ : ∃ r : Fin 128, p.val = 128 * n + r.val := ⟨⟨p.val - 128 * n, by omega⟩, by show _ = 128 * n + (p.val - 128 * n); omega⟩
      refine (six_hit arg8.view _ _ ⟨n, hk⟩ ![_, _, _, _, _, _] (ix3 0 p d) r ⟨d.val % 128, Nat.mod_lt _ (by decide)⟩ ⟨d.val / 128, by omega⟩ hr
        (by show d.val = 128 * (d.val / 128) + d.val % 128; omega)).trans ?_
      unfold newCode
      obtain ⟨q, hq⟩ : ∃ q : Fin 6, q = (⟨d.val / 128, by omega⟩ : Fin 6) := ⟨_, rfl⟩
      have hq' : d.val / 128 = q.val := by rw [hq]
      rw [← hq]
      simp only [hq']
      have hc := colW_eq kb q
      rw [← hkb] at hc
      match q, hc with
      | ⟨0, _⟩, hc => exact (cB_apply _ _ _ _ ⟨6 * kb.val + 0, by omega⟩ hc _).trans (by rw [block0 _ _ ⟨n, hk⟩ r p hr, block0 _ _ ⟨n, hk⟩ r p hr, scale_row _ _ ⟨n, hk⟩ r _ p hr])
      | ⟨1, _⟩, hc => exact (cB_apply _ _ _ _ ⟨6 * kb.val + 1, by omega⟩ hc _).trans (by rw [block1 _ _ ⟨n, hk⟩ r p hr, block1 _ _ ⟨n, hk⟩ r p hr, scale_row _ _ ⟨n, hk⟩ r _ p hr])
      | ⟨2, _⟩, hc => exact (cB_apply _ _ _ _ ⟨6 * kb.val + 2, by omega⟩ hc _).trans (by rw [block2 _ _ ⟨n, hk⟩ r p hr, block2 _ _ ⟨n, hk⟩ r p hr, scale_row _ _ ⟨n, hk⟩ r _ p hr])
      | ⟨3, _⟩, hc => exact (cB_apply _ _ _ _ ⟨6 * kb.val + 3, by omega⟩ hc _).trans (by rw [block3 _ _ ⟨n, hk⟩ r p hr, block3 _ _ ⟨n, hk⟩ r p hr, scale_row _ _ ⟨n, hk⟩ r _ p hr])
      | ⟨4, _⟩, hc => exact (cB_apply _ _ _ _ ⟨6 * kb.val + 4, by omega⟩ hc _).trans (by rw [block4 _ _ ⟨n, hk⟩ r p hr, block4 _ _ ⟨n, hk⟩ r p hr, scale_row _ _ ⟨n, hk⟩ r _ p hr])
      | ⟨5, _⟩, hc => exact (cB_apply _ _ _ _ ⟨6 * kb.val + 5, by omega⟩ hc _).trans (by rw [block5 _ _ ⟨n, hk⟩ r p hr, block5 _ _ ⟨n, hk⟩ r p hr, scale_row _ _ ⟨n, hk⟩ r _ p hr])

theorem scales_after (n : ℕ) (hn : n ≤ 12) (p : Fin 1536) (a : Fin 18) :
    arg9.view.read (Elt Ideal) (arg9.view.writes (Elt Ideal) G_arg9
      (pb_k0_t1 (F := Ideal) 𝒱 c bd i arg2 harg2 arg3 harg3 arg4 harg4 arg5 harg5 arg6 harg6 arg7 harg7 arg8 harg8 arg9 harg9 arg10 harg10 arg1 X_arg3 X_arg4 X_arg5 G_arg8 G_arg9 G_arg10 n).2.1) (ix3 0 p a)
    = if p.val < 128 * n ∧ 6 * kb.val ≤ a.val ∧ a.val < 6 * kb.val + 6 then
        newScale (arg3.view.read (Elt Ideal) X_arg3) (arg4.view.read (Elt Ideal) X_arg4) (arg5.view.read (Elt Ideal) X_arg5) kb p a
      else arg9.view.read (Elt Ideal) G_arg9 (ix3 0 p a) := by
  induction n with
  | zero => rw [if_neg (by omega)]; rfl
  | succ n ih =>
    have hk : n < k0_t1_loop.trips := by rw [trips_eq]; omega
    have ih := ih (by omega)
    have e := (congrArg (fun L => L.2.1) (pb_k0_t1_succ (F := Ideal) 𝒱 c bd i arg2 harg2 arg3 harg3 arg4 harg4 arg5 harg5 arg6 harg6 arg7 harg7 arg8 harg8 arg9 harg9 arg10 harg10 arg1 X_arg3 X_arg4 X_arg5 G_arg8 G_arg9 G_arg10 ⟨n, hk⟩)).trans
      (congrArg (· ++ (pb_k0_t1 (F := Ideal) 𝒱 c bd i arg2 harg2 arg3 harg3 arg4 harg4 arg5 harg5 arg6 harg6 arg7 harg7 arg8 harg8 arg9 harg9 arg10 harg10 arg1 X_arg3 X_arg4 X_arg5 G_arg8 G_arg9 G_arg10 n).2.1) (trip9 𝒱 c bd i arg2 harg2 arg3 harg3 arg4 harg4 arg5 harg5 arg6 harg6 arg7 harg7 arg8 harg8 arg9 harg9 arg10 harg10 arg1 X_arg3 X_arg4 X_arg5 ⟨n, hk⟩ _ _ _))
    refine (congrArg (fun L => arg9.view.read (Elt Ideal) (arg9.view.writes (Elt Ideal) G_arg9 L) (ix3 0 p a)) e).trans ?_
    clear e
    by_cases h : p.val < 128 * n ∨ 128 * n + 128 ≤ p.val
    · refine (View.read_writes_cons_miss_of_axis arg9.view _ _ _ (ix3 0 p a) (1 : Fin 3) (128 * n) 128 (congrFun (k0_off1_eq ⟨n, hk⟩) 1) rfl rfl h).trans ?_
      refine ih.trans ?_
      refine if_congr ?_ rfl rfl
      omega
    · obtain ⟨r, hr⟩ : ∃ r : Fin 128, p.val = 128 * n + r.val := ⟨⟨p.val - 128 * n, by omega⟩, by show _ = 128 * n + (p.val - 128 * n); omega⟩
      rw [if_neg (by omega)] at ih
      refine (View.read_writes_cons_hit_of_coords arg9.view _ _ _ _ (ix3 0 r a) (ix3 0 p a) fun b => match b with
        | ⟨0, _⟩ => by have e := congrFun (k0_off1_eq ⟨n, hk⟩) 0; show 0 = k0_off1 ⟨n, hk⟩ 0 + 1 * 0; rw [e]; rfl
        | ⟨1, _⟩ => by have e := congrFun (k0_off1_eq ⟨n, hk⟩) 1; show p.val = k0_off1 ⟨n, hk⟩ 1 + 1 * r.val; rw [e, hr]; show _ = 128 * n + 1 * r.val; omega
        | ⟨2, _⟩ => by have e := congrFun (k0_off1_eq ⟨n, hk⟩) 2; show a.val = k0_off1 ⟨n, hk⟩ 2 + 1 * a.val; rw [e]; show _ = 0 + 1 * a.val; omega).trans ?_
      unfold k0_pay3
      refine (shapeCast_addUnit_apply ![128, 18] _ _ _).trans ?_
      refine (congrArg _ (eq_ix2 (n0 := 128) (n1 := 18) fun b => (ix3 (n0 := 1) (n1 := 128) (n2 := 18) 0 r a) b.succ)).trans ?_
      refine Eq.trans (b := _) (show _ = stB _ _ _ _ _ (ix2 r a) from rfl) ?_
      have hc := fun q : Fin 6 => (congrArg (colW · (BitVec.ofNat 32 q.val)) hkb).trans (colW_eq kb q)
      rw [stB_apply _ (colW arg1 5#32) _ _ _ ⟨6 * kb.val + 5, by omega⟩ (hc 5)]
      rw [stB_apply _ (colW arg1 4#32) _ _ _ ⟨6 * kb.val + 4, by omega⟩ (hc 4)]
      rw [stB_apply _ (colW arg1 3#32) _ _ _ ⟨6 * kb.val + 3, by omega⟩ (hc 3)]
      rw [stB_apply _ (colW arg1 2#32) _ _ _ ⟨6 * kb.val + 2, by omega⟩ (hc 2)]
      rw [stB_apply _ (colW arg1 1#32) _ _ _ ⟨6 * kb.val + 1, by omega⟩ (hc 1)]
      rw [stB_apply _ (colW arg1 0#32) _ _ _ ⟨6 * kb.val + 0, by omega⟩ (hc 0)]
      rw [show k0_pay6 (F := Ideal) = k0_pay5 (F := Ideal) from rfl]
      simp only [block0 _ _ ⟨n, hk⟩ r p hr, block1 _ _ ⟨n, hk⟩ r p hr, block2 _ _ ⟨n, hk⟩ r p hr, block3 _ _ ⟨n, hk⟩ r p hr, block4 _ _ ⟨n, hk⟩ r p hr, block5 _ _ ⟨n, hk⟩ r p hr, scale_row _ _ ⟨n, hk⟩ r _ p hr]
      rw [ih]
      unfold newScale
      by_cases h5 : a = ⟨6 * kb.val + 5, by omega⟩
      · have e : a.val - 6 * kb.val = 5 := by rw [h5]; show 6 * kb.val + 5 - 6 * kb.val = 5; omega
        rw [if_pos h5, if_pos (by rw [h5]; show _ ∧ _ ≤ 6 * kb.val + 5 ∧ 6 * kb.val + 5 < _; omega), e, ← h5]
      rw [if_neg h5]
      by_cases h4 : a = ⟨6 * kb.val + 4, by omega⟩
      · have e : a.val - 6 * kb.val = 4 := by rw [h4]; show 6 * kb.val + 4 - 6 * kb.val = 4; omega
        rw [if_pos h4, if_pos (by rw [h4]; show _ ∧ _ ≤ 6 * kb.val + 4 ∧ 6 * kb.val + 4 < _; omega), e, ← h4]
      rw [if_neg h4]
      by_cases h3 : a = ⟨6 * kb.val + 3, by omega⟩
      · have e : a.val - 6 * kb.val = 3 := by rw [h3]; show 6 * kb.val + 3 - 6 * kb.val = 3; omega
        rw [if_pos h3, if_pos (by rw [h3]; show _ ∧ _ ≤ 6 * kb.val + 3 ∧ 6 * kb.val + 3 < _; omega), e, ← h3]
      rw [if_neg h3]
      by_cases h2 : a = ⟨6 * kb.val + 2, by omega⟩
      · have e : a.val - 6 * kb.val = 2 := by rw [h2]; show 6 * kb.val + 2 - 6 * kb.val = 2; omega
        rw [if_pos h2, if_pos (by rw [h2]; show _ ∧ _ ≤ 6 * kb.val + 2 ∧ 6 * kb.val + 2 < _; omega), e, ← h2]
      rw [if_neg h2]
      by_cases h1 : a = ⟨6 * kb.val + 1, by omega⟩
      · have e : a.val - 6 * kb.val = 1 := by rw [h1]; show 6 * kb.val + 1 - 6 * kb.val = 1; omega
        rw [if_pos h1, if_pos (by rw [h1]; show _ ∧ _ ≤ 6 * kb.val + 1 ∧ 6 * kb.val + 1 < _; omega), e, ← h1]
      rw [if_neg h1]
      by_cases h0 : a = ⟨6 * kb.val + 0, by omega⟩
      · have e : a.val - 6 * kb.val = 0 := by rw [h0]; show 6 * kb.val + 0 - 6 * kb.val = 0; omega
        rw [if_pos h0, if_pos (by rw [h0]; show _ ∧ _ ≤ 6 * kb.val + 0 ∧ 6 * kb.val + 0 < _; omega), e, ← h0]
      rw [if_neg h0]
      rw [if_neg]
      rintro ⟨_, ha, hb⟩
      have : ∀ q : ℕ, ∀ hq : 6 * kb.val + q < 18, a ≠ ⟨6 * kb.val + q, hq⟩ → a.val ≠ 6 * kb.val + q :=
        fun q hq h e => h (Fin.ext e)
      have h0 := this 0 _ h0
      have h1 := this 1 _ h1
      have h2 := this 2 _ h2
      have h3 := this 3 _ h3
      have h4 := this 4 _ h4
      have h5 := this 5 _ h5
      omega

end loop

end Cert.Proof.MomTrip

end
-- ==== Proof.MomScratch.lean ====
/- The first moment's kernel, the moment itself, which it keeps in a buffer of its own. What one trip of the loop stores there
   (`trip10`), and so what the buffer holds after the first trips: in the rows met so far the new moment (`mom_after`). -/
module

public import proofs.«01_k».proof.Proof.MomTrip

@[expose] public section

noncomputable section

namespace Cert.Proof.MomTrip

open Cert.MomentumIdeal Cert.MomentumIdeal.Gen Idealize.ShloMosaic Idealize.ShloMosaic.TcCoe Idealize.ShloMosaic.ValueIdx
  Cert.Proof.Spec Cert.Proof.MomBlock Idealize.SL.Sem

/-- The new moment in a block. -/
def mB (S : FVec Ideal S128x18 .f32) (n : BitVec 32) (x : Vec Ideal S1x128x128 .i8) (g : Vec Ideal S1x128x128 .bf16) :
    FVec Ideal S128x128 .bf16 := k0_pay48 (F := Ideal) (oldB S n) (k0_pay43 (F := Ideal) x) g

theorem mB_apply (S : FVec Ideal S128x18 .f32) (n : BitVec 32) (x : Vec Ideal S1x128x128 .i8) (g : Vec Ideal S1x128x128 .bf16)
    (c : Fin 18) (hn : n = BitVec.ofNat 32 c.val) (r l : Fin 128) :
    mB S n x g (ix2 r l) = rowMom (row x r) (S (ix2 r c)) (row g r) l := by
  unfold mB k0_pay48
  exact (congrFun (shapeCast_self (truncf .bf16 (k0_pay44 (F := Ideal) (oldB S n) (k0_pay43 (F := Ideal) x) g) bitsLt_bf16_f32)
    shapeCasts_S128x128_S128x128) (ix2 r l)).trans (mom_apply S n x g c hn r l)

theorem trip10 (𝒱 : Variants) (c : Dev nD) (bd : Option 𝒱.V) (i : grid0.Coords) (arg2 : Memref sig .tc .vmem S1x1536x1536 .bf16) (harg2 : arg2.IsWhole) (arg3 : Memref sig .tc .vmem S1x1536x768 .bf16) (harg3 : arg3.IsWhole) (arg4 : Memref sig .tc .vmem S1x1536x768 .i8) (harg4 : arg4.IsWhole) (arg5 : Memref sig .tc .vmem S1x1536x18 .f32) (harg5 : arg5.IsWhole) (arg6 : Memref sig .tc .vmem S1x1536x768 .bf16) (harg6 : arg6.IsWhole) (arg7 : Memref sig .tc .vmem S1x1536x768 .bf16) (harg7 : arg7.IsWhole) (arg8 : Memref sig .tc .vmem S1x1536x768 .i8) (harg8 : arg8.IsWhole) (arg9 : Memref sig .tc .vmem S1x1536x18 .f32) (harg9 : arg9.IsWhole) (arg10 : Memref sig .tc .vmem S1536x768 .bf16) (harg10 : arg10.IsWhole) (arg1 : BitVec 32) (X_arg3 : BufTy.Contents (Elt Ideal) arg3.view.ty) (X_arg4 : BufTy.Contents (Elt Ideal) arg4.view.ty) (X_arg5 : BufTy.Contents (Elt Ideal) arg5.view.ty) (k : Fin k0_t1_loop.trips)
    (f8 : BufTy.Contents (Elt Ideal) arg8.view.ty) (f9 : BufTy.Contents (Elt Ideal) arg9.view.ty) (f10 : BufTy.Contents (Elt Ideal) arg10.view.ty) :
    (trip_k0_t1 (F := Ideal) 𝒱 c bd i arg2 harg2 arg3 harg3 arg4 harg4 arg5 harg5 arg6 harg6 arg7 harg7 arg8 harg8 arg9 harg9 arg10 harg10 arg1 X_arg3 X_arg4 X_arg5 k).2.2.1 f8 f9 f10 =
  [⟨Rect.unit (s := S1536x768) (k0_off13 k) S128x128.size (k0_off13_inb k), mB (k0_pay5 (F := Ideal) (arg5.view.readAt (Elt Ideal) (Rect.unit (s := S1x1536x18) (k0_off1 k) S1x128x18.size (k0_off1_inb k)).toLoadRect X_arg5)) (colW arg1 5#32) (arg4.view.readAt (Elt Ideal) (Rect.unit (s := S1x1536x768) (k0_off12 k) S1x128x128.size (k0_off12_inb k)).toLoadRect X_arg4) (arg3.view.readAt (Elt Ideal) (Rect.unit (s := S1x1536x768) (k0_off12 k) S1x128x128.size (k0_off12_inb k)).toLoadRect X_arg3)⟩,
   ⟨Rect.unit (s := S1536x768) (k0_off11 k) S128x128.size (k0_off11_inb k), mB (k0_pay5 (F := Ideal) (arg5.view.readAt (Elt Ideal) (Rect.unit (s := S1x1536x18) (k0_off1 k) S1x128x18.size (k0_off1_inb k)).toLoadRect X_arg5)) (colW arg1 4#32) (arg4.view.readAt (Elt Ideal) (Rect.unit (s := S1x1536x768) (k0_off10 k) S1x128x128.size (k0_off10_inb k)).toLoadRect X_arg4) (arg3.view.readAt (Elt Ideal) (Rect.unit (s := S1x1536x768) (k0_off10 k) S1x128x128.size (k0_off10_inb k)).toLoadRect X_arg3)⟩,
   ⟨Rect.unit (s := S1536x768) (k0_off9 k) S128x128.size (k0_off9_inb k), mB (k0_pay5 (F := Ideal) (arg5.view.readAt (Elt Ideal) (Rect.unit (s := S1x1536x18) (k0_off1 k) S1x128x18.size (k0_off1_inb k)).toLoadRect X_arg5)) (colW arg1 3#32) (arg4.view.readAt (Elt Ideal) (Rect.unit (s := S1x1536x768) (k0_off8 k) S1x128x128.size (k0_off8_inb k)).toLoadRect X_arg4) (arg3.view.readAt (Elt Ideal) (Rect.unit (s := S1x1536x768) (k0_off8 k) S1x128x128.size (k0_off8_inb k)).toLoadRect X_arg3)⟩,
   ⟨Rect.unit (s := S1536x768) (k0_off7 k) S128x128.size (k0_off7_inb k), mB (k0_pay5 (F := Ideal) (arg5.view.readAt (Elt Ideal) (Rect.unit (s := S1x1536x18) (k0_off1 k) S1x128x18.size (k0_off1_inb k)).toLoadRect X_arg5)) (colW arg1 2#32) (arg4.view.readAt (Elt Ideal) (Rect.unit (s := S1x1536x768) (k0_off6 k) S1x128x128.size (k0_off6_inb k)).toLoadRect X_arg4) (arg3.view.readAt (Elt Ideal) (Rect.unit (s := S1x1536x768) (k0_off6 k) S1x128x128.size (k0_off6_inb k)).toLoadRect X_arg3)⟩,
   ⟨Rect.unit (s := S1536x768) (k0_off5 k) S128x128.size (k0_off5_inb k), mB (k0_pay5 (F := Ideal) (arg5.view.readAt (Elt Ideal) (Rect.unit (s := S1x1536x18) (k0_off1 k) S1x128x18.size (k0_off1_inb k)).toLoadRect X_arg5)) (colW arg1 1#32) (arg4.view.readAt (Elt Ideal) (Rect.unit (s := S1x1536x768) (k0_off4 k) S1x128x128.size (k0_off4_inb k)).toLoadRect X_arg4) (arg3.view.readAt (Elt Ideal) (Rect.unit (s := S1x1536x768) (k0_off4 k) S1x128x128.size (k0_off4_inb k)).toLoadRect X_arg3)⟩,
   ⟨Rect.unit (s := S1536x768) (k0_off3 k) S128x128.size (k0_off3_inb k), mB (k0_pay5 (F := Ideal) (arg5.view.readAt (Elt Ideal) (Rect.unit (s := S1x1536x18) (k0_off1 k) S1x128x18.size (k0_off1_inb k)).toLoadRect X_arg5)) (colW arg1 0#32) (arg4.view.readAt (Elt Ideal) (Rect.unit (s := S1x1536x768) (k0_off2 k) S1x128x128.size (k0_off2_inb k)).toLoadRect X_arg4) (arg3.view.readAt (Elt Ideal) (Rect.unit (s := S1x1536x768) (k0_off2 k) S1x128x128.size (k0_off2_inb k)).toLoadRect X_arg3)⟩] := by
  unfold trip_k0_t1
  rfl

/-- The new moment at a place of a grid point's block. -/
def newMom (x1 : S1x1536x768.Idx → EReal) (x2 : S1x1536x768.Idx → BitVec 8) (x3 : S1x1536x18.Idx → EReal) (kb : Fin 3)
    (p : Fin 1536) (d : Fin 768) : EReal :=
  rowMom (cells x2 p (d.val / 128)) (x3 (ix3 0 p ⟨6 * kb.val + d.val / 128, by omega⟩)) (cells x1 p (d.val / 128))
    ⟨d.val % 128, Nat.mod_lt _ (by decide)⟩

/-- Six blocks side by side over a row group: outside the group nothing changes, -/
theorem flat_miss {sig' : RefSig} {κ : Kind} {sp : Space} (v : View sig' κ sp S1536x768 .bf16) (f : v.ty.Contents (Elt Ideal)) (L : List (View.Piece (Elt Ideal) S1536x768 .bf16))
    (k : Fin k0_t1_loop.trips) (w : Fin 6 → S128x128.Idx → EReal) (y : S1536x768.Idx)
    (h : (y 0).val < 128 * k.val ∨ 128 * k.val + 128 ≤ (y 0).val) :
    v.read (Elt Ideal) (v.writes (Elt Ideal) f ([⟨Rect.unit (s := S1536x768) (k0_off13 k) S128x128.size (k0_off13_inb k), w 5⟩,
      ⟨Rect.unit (s := S1536x768) (k0_off11 k) S128x128.size (k0_off11_inb k), w 4⟩,
      ⟨Rect.unit (s := S1536x768) (k0_off9 k) S128x128.size (k0_off9_inb k), w 3⟩,
      ⟨Rect.unit (s := S1536x768) (k0_off7 k) S128x128.size (k0_off7_inb k), w 2⟩,
      ⟨Rect.unit (s := S1536x768) (k0_off5 k) S128x128.size (k0_off5_inb k), w 1⟩,
      ⟨Rect.unit (s := S1536x768) (k0_off3 k) S128x128.size (k0_off3_inb k), w 0⟩] ++ L)) y
      = v.read (Elt Ideal) (v.writes (Elt Ideal) f L) y := by
  refine (View.read_writes_cons_miss_of_axis v f _ _ y (0 : Fin 2) (128 * k.val) 128 (congrFun (k0_off13_eq k) 0) rfl rfl h).trans ?_
  refine (View.read_writes_cons_miss_of_axis v f _ _ y (0 : Fin 2) (128 * k.val) 128 (congrFun (k0_off11_eq k) 0) rfl rfl h).trans ?_
  refine (View.read_writes_cons_miss_of_axis v f _ _ y (0 : Fin 2) (128 * k.val) 128 (congrFun (k0_off9_eq k) 0) rfl rfl h).trans ?_
  refine (View.read_writes_cons_miss_of_axis v f _ _ y (0 : Fin 2) (128 * k.val) 128 (congrFun (k0_off7_eq k) 0) rfl rfl h).trans ?_
  refine (View.read_writes_cons_miss_of_axis v f _ _ y (0 : Fin 2) (128 * k.val) 128 (congrFun (k0_off5_eq k) 0) rfl rfl h).trans ?_
  refine (View.read_writes_cons_miss_of_axis v f _ _ y (0 : Fin 2) (128 * k.val) 128 (congrFun (k0_off3_eq k) 0) rfl rfl h).trans ?_
  rfl

/-- and inside it a place reads the block it lies in. -/
theorem flat_hit {sig' : RefSig} {κ : Kind} {sp : Space} (v : View sig' κ sp S1536x768 .bf16) (f : v.ty.Contents (Elt Ideal)) (L : List (View.Piece (Elt Ideal) S1536x768 .bf16))
    (k : Fin k0_t1_loop.trips) (w : Fin 6 → S128x128.Idx → EReal) (y : S1536x768.Idx) (r l : Fin 128) (q : Fin 6)
    (h1 : (y 0).val = 128 * k.val + r.val) (h2 : (y 1).val = 128 * q.val + l.val) :
    v.read (Elt Ideal) (v.writes (Elt Ideal) f ([⟨Rect.unit (s := S1536x768) (k0_off13 k) S128x128.size (k0_off13_inb k), w 5⟩,
      ⟨Rect.unit (s := S1536x768) (k0_off11 k) S128x128.size (k0_off11_inb k), w 4⟩,
      ⟨Rect.unit (s := S1536x768) (k0_off9 k) S128x128.size (k0_off9_inb k), w 3⟩,
      ⟨Rect.unit (s := S1536x768) (k0_off7 k) S128x128.size (k0_off7_inb k), w 2⟩,
      ⟨Rect.unit (s := S1536x768) (k0_off5 k) S128x128.size (k0_off5_inb k), w 1⟩,
      ⟨Rect.unit (s := S1536x768) (k0_off3 k) S128x128.size (k0_off3_inb k), w 0⟩] ++ L)) y
      = w q (ix2 r l) := by
  match q with
  | ⟨0, _⟩ =>
    refine (View.read_writes_cons_miss_of_axis v f _ _ y (1 : Fin 2) 640 128 (congrFun (k0_off13_eq k) 1) rfl rfl (by rw [h2]; show 128 * 0 + l.val < 640 ∨ _; omega)).trans ?_
    refine (View.read_writes_cons_miss_of_axis v f _ _ y (1 : Fin 2) 512 128 (congrFun (k0_off11_eq k) 1) rfl rfl (by rw [h2]; show 128 * 0 + l.val < 512 ∨ _; omega)).trans ?_
    refine (View.read_writes_cons_miss_of_axis v f _ _ y (1 : Fin 2) 384 128 (congrFun (k0_off9_eq k) 1) rfl rfl (by rw [h2]; show 128 * 0 + l.val < 384 ∨ _; omega)).trans ?_
    refine (View.read_writes_cons_miss_of_axis v f _ _ y (1 : Fin 2) 256 128 (congrFun (k0_off7_eq k) 1) rfl rfl (by rw [h2]; show 128 * 0 + l.val < 256 ∨ _; omega)).trans ?_
    refine (View.read_writes_cons_miss_of_axis v f _ _ y (1 : Fin 2) 128 128 (congrFun (k0_off5_eq k) 1) rfl rfl (by rw [h2]; show 128 * 0 + l.val < 128 ∨ _; omega)).trans ?_
    exact View.read_writes_cons_hit_of_coords v f (Rect.unit (s := S1536x768) (k0_off3 k) S128x128.size (k0_off3_inb k)) (w 0) _ (ix2 r l) y fun a => match a with
      | ⟨0, _⟩ => by have e := congrFun (k0_off3_eq k) 0; show (y 0).val = k0_off3 k 0 + 1 * r.val; rw [e, h1]; show _ = 128 * k.val + 1 * r.val; omega
      | ⟨1, _⟩ => by have e := congrFun (k0_off3_eq k) 1; show (y 1).val = k0_off3 k 1 + 1 * l.val; rw [e, h2]; show 128 * 0 + l.val = 0 + 1 * l.val; omega
  | ⟨1, _⟩ =>
    refine (View.read_writes_cons_miss_of_axis v f _ _ y (1 : Fin 2) 640 128 (congrFun (k0_off13_eq k) 1) rfl rfl (by rw [h2]; show 128 * 1 + l.val < 640 ∨ _; omega)).trans ?_
    refine (View.read_writes_cons_miss_of_axis v f _ _ y (1 : Fin 2) 512 128 (congrFun (k0_off11_eq k) 1) rfl rfl (by rw [h2]; show 128 * 1 + l.val < 512 ∨ _; omega)).trans ?_
    refine (View.read_writes_cons_miss_of_axis v f _ _ y (1 : Fin 2) 384 128 (congrFun (k0_off9_eq k) 1) rfl rfl (by rw [h2]; show 128 * 1 + l.val < 384 ∨ _; omega)).trans ?_
    refine (View.read_writes_cons_miss_of_axis v f _ _ y (1 : Fin 2) 256 128 (congrFun (k0_off7_eq k) 1) rfl rfl (by rw [h2]; show 128 * 1 + l.val < 256 ∨ _; omega)).trans ?_
    exact View.read_writes_cons_hit_of_coords v f (Rect.unit (s := S1536x768) (k0_off5 k) S128x128.size (k0_off5_inb k)) (w 1) _ (ix2 r l) y fun a => match a with
      | ⟨0, _⟩ => by have e := congrFun (k0_off5_eq k) 0; show (y 0).val = k0_off5 k 0 + 1 * r.val; rw [e, h1]; show _ = 128 * k.val + 1 * r.val; omega
      | ⟨1, _⟩ => by have e := congrFun (k0_off5_eq k) 1; show (y 1).val = k0_off5 k 1 + 1 * l.val; rw [e, h2]; show 128 * 1 + l.val = 128 + 1 * l.val; omega
  | ⟨2, _⟩ =>
    refine (View.read_writes_cons_miss_of_axis v f _ _ y (1 : Fin 2) 640 128 (congrFun (k0_off13_eq k) 1) rfl rfl (by rw [h2]; show 128 * 2 + l.val < 640 ∨ _; omega)).trans ?_
    refine (View.read_writes_cons_miss_of_axis v f _ _ y (1 : Fin 2) 512 128 (congrFun (k0_off11_eq k) 1) rfl rfl (by rw [h2]; show 128 * 2 + l.val < 512 ∨ _; omega)).trans ?_
    refine (View.read_writes_cons_miss_of_axis v f _ _ y (1 : Fin 2) 384 128 (congrFun (k0_off9_eq k) 1) rfl rfl (by rw [h2]; show 128 * 2 + l.val < 384 ∨ _; omega)).trans ?_
    exact View.read_writes_cons_hit_of_coords v f (Rect.unit (s := S1536x768) (k0_off7 k) S128x128.size (k0_off7_inb k)) (w 2) _ (ix2 r l) y fun a => match a with
      | ⟨0, _⟩ => by have e := congrFun (k0_off7_eq k) 0; show (y 0).val = k0_off7 k 0 + 1 * r.val; rw [e, h1]; show _ = 128 * k.val + 1 * r.val; omega
      | ⟨1, _⟩ => by have e := congrFun (k0_off7_eq k) 1; show (y 1).val = k0_off7 k 1 + 1 * l.val; rw [e, h2]; show 128 * 2 + l.val = 256 + 1 * l.val; omega
  | ⟨3, _⟩ =>
    refine (View.read_writes_cons_miss_of_axis v f _ _ y (1 : Fin 2) 640 128 (congrFun (k0_off13_eq k) 1) rfl rfl (by rw [h2]; show 128 * 3 + l.val < 640 ∨ _; omega)).trans ?_
    refine (View.read_writes_cons_miss_of_axis v f _ _ y (1 : Fin 2) 512 128 (congrFun (k0_off11_eq k) 1) rfl rfl (by rw [h2]; show 128 * 3 + l.val < 512 ∨ _; omega)).trans ?_
    exact View.read_writes_cons_hit_of_coords v f (Rect.unit (s := S1536x768) (k0_off9 k) S128x128.size (k0_off9_inb k)) (w 3) _ (ix2 r l) y fun a => match a with
      | ⟨0, _⟩ => by have e := congrFun (k0_off9_eq k) 0; show (y 0).val = k0_off9 k 0 + 1 * r.val; rw [e, h1]; show _ = 128 * k.val + 1 * r.val; omega
      | ⟨1, _⟩ => by have e := congrFun (k0_off9_eq k) 1; show (y 1).val = k0_off9 k 1 + 1 * l.val; rw [e, h2]; show 128 * 3 + l.val = 384 + 1 * l.val; omega
  | ⟨4, _⟩ =>
    refine (View.read_writes_cons_miss_of_axis v f _ _ y (1 : Fin 2) 640 128 (congrFun (k0_off13_eq k) 1) rfl rfl (by rw [h2]; show 128 * 4 + l.val < 640 ∨ _; omega)).trans ?_
    exact View.read_writes_cons_hit_of_coords v f (Rect.unit (s := S1536x768) (k0_off11 k) S128x128.size (k0_off11_inb k)) (w 4) _ (ix2 r l) y fun a => match a with
      | ⟨0, _⟩ => by have e := congrFun (k0_off11_eq k) 0; show (y 0).val = k0_off11 k 0 + 1 * r.val; rw [e, h1]; show _ = 128 * k.val + 1 * r.val; omega
      | ⟨1, _⟩ => by have e := congrFun (k0_off11_eq k) 1; show (y 1).val = k0_off11 k 1 + 1 * l.val; rw [e, h2]; show 128 * 4 + l.val = 512 + 1 * l.val; omega
  | ⟨5, _⟩ =>
    exact View.read_writes_cons_hit_of_coords v f (Rect.unit (s := S1536x768) (k0_off13 k) S128x128.size (k0_off13_inb k)) (w 5) _ (ix2 r l) y fun a => match a with
      | ⟨0, _⟩ => by have e := congrFun (k0_off13_eq k) 0; show (y 0).val = k0_off13 k 0 + 1 * r.val; rw [e, h1]; show _ = 128 * k.val + 1 * r.val; omega
      | ⟨1, _⟩ => by have e := congrFun (k0_off13_eq k) 1; show (y 1).val = k0_off13 k 1 + 1 * l.val; rw [e, h2]; show 128 * 5 + l.val = 640 + 1 * l.val; omega

section loop

variable (𝒱 : Variants) (c : Dev nD) (bd : Option 𝒱.V) (i : grid0.Coords) (arg2 : Memref sig .tc .vmem S1x1536x1536 .bf16) (harg2 : arg2.IsWhole) (arg3 : Memref sig .tc .vmem S1x1536x768 .bf16) (harg3 : arg3.IsWhole) (arg4 : Memref sig .tc .vmem S1x1536x768 .i8) (harg4 : arg4.IsWhole) (arg5 : Memref sig .tc .vmem S1x1536x18 .f32) (harg5 : arg5.IsWhole) (arg6 : Memref sig .tc .vmem S1x1536x768 .bf16) (harg6 : arg6.IsWhole) (arg7 : Memref sig .tc .vmem S1x1536x768 .bf16) (harg7 : arg7.IsWhole) (arg8 : Memref sig .tc .vmem S1x1536x768 .i8) (harg8 : arg8.IsWhole) (arg9 : Memref sig .tc .vmem S1x1536x18 .f32) (harg9 : arg9.IsWhole) (arg10 : Memref sig .tc .vmem S1536x768 .bf16) (harg10 : arg10.IsWhole) (arg1 : BitVec 32) (X_arg3 : BufTy.Contents (Elt Ideal) arg3.view.ty) (X_arg4 : BufTy.Contents (Elt Ideal) arg4.view.ty) (X_arg5 : BufTy.Contents (Elt Ideal) arg5.view.ty) (G_arg8 : BufTy.Contents (Elt Ideal) arg8.view.ty) (G_arg9 : BufTy.Contents (Elt Ideal) arg9.view.ty)
  (G_arg10 : BufTy.Contents (Elt Ideal) arg10.view.ty) (kb : Fin 3) (hkb : arg1 = BitVec.ofNat 32 kb.val)

include hkb

theorem mom_after (n : ℕ) (hn : n ≤ 12) (p : Fin 1536) (hp : p.val < 128 * n) (d : Fin 768) :
    arg10.view.read (Elt Ideal) (arg10.view.writes (Elt Ideal) G_arg10
      (pb_k0_t1 (F := Ideal) 𝒱 c bd i arg2 harg2 arg3 harg3 arg4 harg4 arg5 harg5 arg6 harg6 arg7 harg7 arg8 harg8 arg9 harg9 arg10 harg10 arg1 X_arg3 X_arg4 X_arg5 G_arg8 G_arg9 G_arg10 n).2.2) (ix2 p d)
    = newMom (arg3.view.read (Elt Ideal) X_arg3) (arg4.view.read (Elt Ideal) X_arg4) (arg5.view.read (Elt Ideal) X_arg5) kb p d := by
  induction n with
  | zero => omega
  | succ n ih =>
    have hk : n < k0_t1_loop.trips := by rw [trips_eq]; omega
    have e := (congrArg (fun L => L.2.2) (pb_k0_t1_succ (F := Ideal) 𝒱 c bd i arg2 harg2 arg3 harg3 arg4 harg4 arg5 harg5 arg6 harg6 arg7 harg7 arg8 harg8 arg9 harg9 arg10 harg10 arg1 X_arg3 X_arg4 X_arg5 G_arg8 G_arg9 G_arg10 ⟨n, hk⟩)).trans
      (congrArg (· ++ (pb_k0_t1 (F := Ideal) 𝒱 c bd i arg2 harg2 arg3 harg3 arg4 harg4 arg5 harg5 arg6 harg6 arg7 harg7 arg8 harg8 arg9 harg9 arg10 harg10 arg1 X_arg3 X_arg4 X_arg5 G_arg8 G_arg9 G_arg10 n).2.2) (trip10 𝒱 c bd i arg2 harg2 arg3 harg3 arg4 harg4 arg5 harg5 arg6 harg6 arg7 harg7 arg8 harg8 arg9 harg9 arg10 harg10 arg1 X_arg3 X_arg4 X_arg5 ⟨n, hk⟩ _ _ _))
    refine (congrArg (fun L => arg10.view.read (Elt Ideal) (arg10.view.writes (Elt Ideal) G_arg10 L) (ix2 p d)) e).trans ?_
    clear e
    by_cases h : p.val < 128 * n
    · refine (flat_miss arg10.view _ _ ⟨n, hk⟩ ![_, _, _, _, _, _] (ix2 p d) (Or.inl h)).trans (ih (by omega) h)
    · obtain ⟨r, hr⟩ : ∃ r : Fin 128, p.val = 128 * n + r.val := ⟨⟨p.val - 128 * n, by omega⟩, by show _ = 128 * n + (p.val - 128 * n); omega⟩
      refine (flat_hit arg10.view _ _ ⟨n, hk⟩ ![_, _, _, _, _, _] (ix2 p d) r ⟨d.val % 128, Nat.mod_lt _ (by decide)⟩ ⟨d.val / 128, by omega⟩ hr
        (by show d.val = 128 * (d.val / 128) + d.val % 128; omega)).trans ?_
      unfold newMom
      obtain ⟨q, hq⟩ : ∃ q : Fin 6, q = (⟨d.val / 128, by omega⟩ : Fin 6) := ⟨_, rfl⟩
      have hq' : d.val / 128 = q.val := by rw [hq]
      rw [← hq]
      simp only [hq']
      have hc := colW_eq kb q
      rw [← hkb] at hc
      match q, hc with
      | ⟨0, _⟩, hc => exact (mB_apply _ _ _ _ ⟨6 * kb.val + 0, by omega⟩ hc _ _).trans (by rw [block0 _ _ ⟨n, hk⟩ r p hr, block0 _ _ ⟨n, hk⟩ r p hr, scale_row _ _ ⟨n, hk⟩ r _ p hr])
      | ⟨1, _⟩, hc => exact (mB_apply _ _ _ _ ⟨6 * kb.val + 1, by omega⟩ hc _ _).trans (by rw [block1 _ _ ⟨n, hk⟩ r p hr, block1 _ _ ⟨n, hk⟩ r p hr, scale_row _ _ ⟨n, hk⟩ r _ p hr])
      | ⟨2, _⟩, hc => exact (mB_apply _ _ _ _ ⟨6 * kb.val + 2, by omega⟩ hc _ _).trans (by rw [block2 _ _ ⟨n, hk⟩ r p hr, block2 _ _ ⟨n, hk⟩ r p hr, scale_row _ _ ⟨n, hk⟩ r _ p hr])
      | ⟨3, _⟩, hc => exact (mB_apply _ _ _ _ ⟨6 * kb.val + 3, by omega⟩ hc _ _).trans (by rw [block3 _ _ ⟨n, hk⟩ r p hr, block3 _ _ ⟨n, hk⟩ r p hr, scale_row _ _ ⟨n, hk⟩ r _ p hr])
      | ⟨4, _⟩, hc => exact (mB_apply _ _ _ _ ⟨6 * kb.val + 4, by omega⟩ hc _ _).trans (by rw [block4 _ _ ⟨n, hk⟩ r p hr, block4 _ _ ⟨n, hk⟩ r p hr, scale_row _ _ ⟨n, hk⟩ r _ p hr])
      | ⟨5, _⟩, hc => exact (mB_apply _ _ _ _ ⟨6 * kb.val + 5, by omega⟩ hc _ _).trans (by rw [block5 _ _ ⟨n, hk⟩ r p hr, block5 _ _ ⟨n, hk⟩ r p hr, scale_row _ _ ⟨n, hk⟩ r _ p hr])

end loop

end Cert.Proof.MomTrip

end
-- ==== Proof.MomBody.lean ====
/- The body of the first moment's kernel at a grid point: from its blocks of the basis, the gradient, the codes and the scales it
   leaves the gradient and the new moment times the basis, the new codes, and in the scales' block the new scales in its own six
   columns, the others as they were found. -/
module

public import proofs.«01_k».proof.Proof.MomScratch
public import proofs.«01_k».proof.Proof.Dot
public import proofs.«01_k».proof.Proof.Gen.MomentumIdeal.Launch
public import proofs.«01_k».proof.Proof.Gen.MomentumIdeal.Points
public import Idealize.ShloMosaic.Lib.Pipeline.FrameBody
public import Idealize.ShloMosaic.Lib.Ring
public import Idealize.ShloMosaic.Lib.Tactic

@[expose] public section

set_option maxRecDepth 16384

noncomputable section

namespace Cert.Proof.MomBody

open Cert.MomentumIdeal Cert.MomentumIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dot Cert.Proof.MomTrip

local notation "𝕄" => MT nD τ sig Unit (Elt Ideal) ℕ (UR sig nD τ) ℕ

/-- A block is the gradient's, or the new moment's, times the basis. -/
def GradAt (x0 : Vec Ideal S1x1536x1536 .bf16) (x1 d : Vec Ideal S1x1536x768 .bf16) : Prop :=
  ∀ (p : Fin 1536) (a : Fin 768), d (ix3 0 p a) = ∑ k : Fin 1536, x0 (ix3 0 p k) * x1 (ix3 0 k a)
def MomAt (x0 : Vec Ideal S1x1536x1536 .bf16) (x1 : Vec Ideal S1x1536x768 .bf16) (x2 : Vec Ideal S1x1536x768 .i8)
    (x3 : Vec Ideal S1x1536x18 .f32) (kb : Fin 3) (d : Vec Ideal S1x1536x768 .bf16) : Prop :=
  ∀ (p : Fin 1536) (a : Fin 768), d (ix3 0 p a) = ∑ k : Fin 1536, x0 (ix3 0 p k) * newMom x1 x2 x3 kb k a

/-- A block of codes is the new one of a grid point whose second coordinate is `kb`. -/
def CodesAt (x1 : Vec Ideal S1x1536x768 .bf16) (x2 : Vec Ideal S1x1536x768 .i8) (x3 : Vec Ideal S1x1536x18 .f32) (kb : Fin 3)
    (d : Vec Ideal S1x1536x768 .i8) : Prop :=
  ∀ (p : Fin 1536) (a : Fin 768), d (ix3 0 p a) = newCode x1 x2 x3 kb p a

/-- A block of scales is the one found, `x7`, with the six columns of such a point replaced by the new ones. -/
def ScalesAt (x1 : Vec Ideal S1x1536x768 .bf16) (x2 : Vec Ideal S1x1536x768 .i8) (x3 : Vec Ideal S1x1536x18 .f32) (kb : Fin 3)
    (x7 d : Vec Ideal S1x1536x18 .f32) : Prop :=
  ∀ (p : Fin 1536) (a : Fin 18), d (ix3 0 p a)
    = if 6 * kb.val ≤ a.val ∧ a.val < 6 * kb.val + 6 then newScale x1 x2 x3 kb p a else x7 (ix3 0 p a)

theorem basis_apply (x0 : Vec Ideal S1x1536x1536 .bf16) (p k : Fin 1536) : k0_pay1 (F := Ideal) x0 (ix2 p k) = x0 (ix3 0 p k) := by
  unfold k0_pay1
  refine (shapeCast_dropUnit_apply ![1536, 1536] _ _ _).trans (congrArg x0 ?_)
  funext a; match a with | ⟨0, _⟩ => rfl | ⟨1, _⟩ => rfl | ⟨2, _⟩ => rfl

/-- What the two stores of products hold. -/
theorem pay4_apply (x0 : Vec Ideal S1x1536x1536 .bf16) (y : Vec Ideal S1536x768 .bf16) (p : Fin 1536) (a : Fin 768) :
    k0_pay4 (F := Ideal) x0 y (ix3 0 p a) = ∑ k : Fin 1536, x0 (ix3 0 p k) * y (ix2 k a) := by
  unfold k0_pay4
  refine (shapeCast_addUnit_apply ![1536, 768] _ _ _).trans ?_
  refine Eq.trans (dot_nn (M := 1536) (N := 768) (K := 1536) (φ₁ := .bf16) (φ₂ := .bf16)
    dot_S1536x1536_S1536x768_S1536x768_1_0_0_1_n_n _ rfl _ _ _) (sum_congr' fun k => congrArg₂ (· * ·) ?_ ?_)
  · exact basis_apply x0 p k
  · exact congrArg y (funext fun a => match a with | ⟨0, _⟩ => rfl | ⟨1, _⟩ => rfl)
theorem pay2_apply (x1 : Vec Ideal S1x1536x768 .bf16) (x0 : Vec Ideal S1x1536x1536 .bf16) (p : Fin 1536) (a : Fin 768) :
    k0_pay2 (F := Ideal) x1 x0 (ix3 0 p a) = ∑ k : Fin 1536, x0 (ix3 0 p k) * x1 (ix3 0 k a) := by
  unfold k0_pay2
  refine (shapeCast_addUnit_apply ![1536, 768] _ _ _).trans ?_
  refine Eq.trans (dot_nn (M := 1536) (N := 768) (K := 1536) (φ₁ := .bf16) (φ₂ := .bf16)
    dot_S1536x1536_S1536x768_S1536x768_1_0_0_1_n_n _ rfl _ _ _) (sum_congr' fun k => congrArg₂ (· * ·) ?_ ?_)
  · exact basis_apply x0 p k
  · refine (shapeCast_dropUnit_apply ![1536, 768] _ _ _).trans (congrArg x1 ?_)
    funext a; match a with | ⟨0, _⟩ => rfl | ⟨1, _⟩ => rfl | ⟨2, _⟩ => rfl

theorem hz3 : (![0, 0, 0] : Fin 3 → Nat) = fun _ => 0 := by decide
theorem hz2 : (![0, 0] : Fin 2 → Nat) = fun _ => 0 := by decide

/-- A block after a store to the whole of it. -/
theorem stored {κ : Kind} {sp : Space} (v : View sig κ sp S1x1536x768 .bf16) (f : v.ty.Contents (Elt Ideal))
    (w : Vec Ideal S1x1536x768 .bf16) (L : List (View.Piece (Elt Ideal) S1x1536x768 .bf16)) (y : S1x1536x768.Idx) :
    v.read (Elt Ideal) (v.writes (Elt Ideal) f (⟨Rect.unit (s := S1x1536x768) ![0, 0, 0] S1x1536x768.size
      inb_S1x1536x768_S1x1536x768_0_0_0, w⟩ :: L)) y = w y := by
  refine View.read_writes_cons_hit_of_coords v f (Rect.unit (s := S1x1536x768) ![0, 0, 0] S1x1536x768.size
    inb_S1x1536x768_S1x1536x768_0_0_0) w L y y fun b => ?_
  have e : (Rect.unit (s := S1x1536x768) ![0, 0, 0] S1x1536x768.size inb_S1x1536x768_S1x1536x768_0_0_0).off b = 0 :=
    congrFun hz3 b
  rw [e]
  show (y b).val = 0 + 1 * (y b).val
  omega

-- (the run's proof term is large: checking it walks past the default budget)
set_option maxHeartbeats 1000000 in
theorem bodyRun (c : Dev nD) (i : grid0.Coords) (arg2 : Memref sig .tc .vmem S1x1536x1536 .bf16) (harg2 : arg2.IsWhole) (arg3 : Memref sig .tc .vmem S1x1536x768 .bf16) (harg3 : arg3.IsWhole) (arg4 : Memref sig .tc .vmem S1x1536x768 .i8) (harg4 : arg4.IsWhole) (arg5 : Memref sig .tc .vmem S1x1536x18 .f32) (harg5 : arg5.IsWhole) (arg6 : Memref sig .tc .vmem S1x1536x768 .bf16) (harg6 : arg6.IsWhole) (arg7 : Memref sig .tc .vmem S1x1536x768 .bf16) (harg7 : arg7.IsWhole) (arg8 : Memref sig .tc .vmem S1x1536x768 .i8) (harg8 : arg8.IsWhole) (arg9 : Memref sig .tc .vmem S1x1536x18 .f32) (harg9 : arg9.IsWhole) (arg10 : Memref sig .tc .vmem S1536x768 .bf16) (harg10 : arg10.IsWhole)
    (x0 : Vec Ideal S1x1536x1536 .bf16) (x1 : Vec Ideal S1x1536x768 .bf16) (x2 : Vec Ideal S1x1536x768 .i8) (x3 : Vec Ideal S1x1536x18 .f32) (x7 : Vec Ideal S1x1536x18 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, ⌜GradAt x0 x1 d⌝ ∗ owns (c : Thread nD τ) arg6 fullShare d) ∗ (∃ d, ⌜MomAt x0 x1 x2 x3 (i 1) d⌝ ∗ owns (c : Thread nD τ) arg7 fullShare d) ∗ (∃ d, ⌜CodesAt x1 x2 x3 (i 1) d⌝ ∗ owns (c : Thread nD τ) arg8 fullShare d) ∗ (∃ d, ⌜ScalesAt x1 x2 x3 (i 1) x7 d⌝ ∗ owns (c : Thread nD τ) arg9 fullShare d) ∗ (∃ d, owns (c : Thread nD τ) arg10 fullShare d)) -∗ K PUnit.unit))
          ⊢ wp frame (wpE (defs₀ (F := Ideal)) Variants.none c none) E (cc0_rot1 (F := Ideal) i arg2 harg2 arg3 harg3 arg4 harg4 arg5 harg5 arg6 harg6 arg7 harg7 arg8 harg8 arg9 harg9 arg10 harg10) K := by
    intro E K
    simp only [cc0_rot1_eq_skeleton]; unfold cc0_rot1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap
      · iexists _; isplitr; swap; · iexact H4
        ipureintro; rfl
      ipureintro
      intro p a
      refine (stored arg6.view _ _ _ (ix3 0 p a)).trans ?_
      rw [View.readAt_eq_ld, View.readAt_eq_ld, View.ld_unit_zero hz3, View.ld_unit_zero hz3, harg2.read_unread, harg3.read_unread]
      exact pay2_apply x1 x0 p a
    isplitl [H5]
    · iexists _; isplitr; swap
      · iexists _; isplitr; swap; · iexact H5
        ipureintro; rfl
      ipureintro
      intro p a
      refine (stored arg7.view _ _ _ (ix3 0 p a)).trans ?_
      rw [View.readAt_eq_ld, View.ld_unit_zero hz3, harg2.read_unread]
      refine (pay4_apply _ _ p a).trans (sum_congr' fun k => congrArg (_ * ·) ?_)
      unfold bodyRun.sl.v10
      rw [View.readAt_eq_ld, View.ld_unit_zero hz2]
      have h := mom_after Variants.none c none i arg2 harg2 arg3 harg3 arg4 harg4 arg5 harg5 arg6 harg6 arg7 harg7 arg8 harg8 arg9 harg9 arg10 harg10 _ (harg3.unread x1) (harg4.unread x2) (harg5.unread x3) f6 (harg9.unread x7) fs0 (i 1) rfl
        k0_t1_loop.trips trips_eq.le k (by rw [trips_eq]; omega) a
      rw [harg3.read_unread, harg4.read_unread, harg5.read_unread] at h
      exact h
    isplitl [H6]
    · iexists _; isplitr; swap
      · iexists _; isplitr; swap; · iexact H6
        ipureintro; rfl
      ipureintro
      intro p a
      have h := codes_after Variants.none c none i arg2 harg2 arg3 harg3 arg4 harg4 arg5 harg5 arg6 harg6 arg7 harg7 arg8 harg8 arg9 harg9 arg10 harg10 _ (harg3.unread x1) (harg4.unread x2) (harg5.unread x3) f6 (harg9.unread x7) fs0 (i 1) rfl
        k0_t1_loop.trips trips_eq.le p (by rw [trips_eq]; omega) a
      rw [harg3.read_unread, harg4.read_unread, harg5.read_unread] at h
      exact h
    isplitl [H7]
    · iexists _; isplitr; swap
      · iexists _; isplitr; swap; · iexact H7
        ipureintro; rfl
      ipureintro
      intro p a
      have h := scales_after Variants.none c none i arg2 harg2 arg3 harg3 arg4 harg4 arg5 harg5 arg6 harg6 arg7 harg7 arg8 harg8 arg9 harg9 arg10 harg10 _ (harg3.unread x1) (harg4.unread x2) (harg5.unread x3) f6 (harg9.unread x7) fs0 (i 1) rfl
        k0_t1_loop.trips trips_eq.le p a
      rw [harg3.read_unread, harg4.read_unread, harg5.read_unread, harg9.read_unread] at h
      refine h.trans (if_congr ?_ rfl rfl)
      exact and_iff_right (by rw [trips_eq]; omega)
    iexists _, _; isplitr; swap; · iexact HS0
    ipureintro; rfl

end Cert.Proof.MomBody

end
-- ==== Proof.MomRun.lean ====
/- The first moment's program, from its launch to its end. A grid point handles one matrix and one of three groups of 768 columns.
   The three points of a matrix share one block of scales: each replaces its own six columns and leaves the others. So the proof
   states of that block that the columns met so far are right (`Rl`), and at the third point, which writes it back, all are. The
   four arrays end as the specification says (`run_all`). -/
module

public import proofs.«01_k».proof.Proof.MomBody
public import Idealize.ShloMosaic.Lib.Pipeline.ArrRel
public import Idealize.ShloMosaic.Lib.Pipeline.DatRel
public import Idealize.ShloMosaic.Lib.Claim

@[expose] public section

set_option maxRecDepth 16384

noncomputable section

namespace Cert.Proof.MomRun

open Cert.MomentumIdeal Cert.MomentumIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf BodyObligationRel)
open Cert.Proof.Spec Cert.Proof.Dot Cert.Proof.MomTrip Cert.Proof.MomBody

local notation "𝕄" => MT nD τ sig Unit (Elt Ideal) ℕ (UR sig nD τ) ℕ

variable (m : (ℓ : Loc nD τ sig) → Buf (Elt Ideal) ℓ) (ρ : Dev nD → PrngReg)

/-! ## @main up to the region -/

/-- Core `c`'s TensorCore buffers when the region is entered: as launched (@main is the region alone). -/
abbrev V (c : Dev nD) (b : Ref sig .tc) : Buf (Elt Ideal) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := Ideal)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt Ideal) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt Ideal) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt Ideal) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt Ideal) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where the blocks lie -/

theorem idx0 : ∀ t : Fin cfg0.N, win0_0.index t (0 : Fin 3) = t.val / 3 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 3 ∧ win0_1.index t (1 : Fin 3) = 0 ∧ win0_1.index t (2 : Fin 3) = t.val % 3 :=
  (by decide +kernel : ∀ t : Fin grid0.N, _)
theorem idx2 : ∀ t : Fin cfg0.N, win0_2.index t (0 : Fin 3) = t.val / 3 ∧ win0_2.index t (1 : Fin 3) = 0 ∧ win0_2.index t (2 : Fin 3) = t.val % 3 :=
  (by decide +kernel : ∀ t : Fin grid0.N, _)
theorem idx3 : ∀ t : Fin cfg0.N, win0_3.index t (0 : Fin 3) = t.val / 3 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 3 ∧ win0_4.index t (1 : Fin 3) = 0 ∧ win0_4.index t (2 : Fin 3) = t.val % 3 :=
  (by decide +kernel : ∀ t : Fin grid0.N, _)
theorem idx5 : ∀ t : Fin cfg0.N, win0_5.index t (0 : Fin 3) = t.val / 3 ∧ win0_5.index t (1 : Fin 3) = 0 ∧ win0_5.index t (2 : Fin 3) = t.val % 3 :=
  (by decide +kernel : ∀ t : Fin grid0.N, _)
theorem idx6 : ∀ t : Fin cfg0.N, win0_6.index t (0 : Fin 3) = t.val / 3 ∧ win0_6.index t (1 : Fin 3) = 0 ∧ win0_6.index t (2 : Fin 3) = t.val % 3 :=
  (by decide +kernel : ∀ t : Fin grid0.N, _)
theorem idx7 : ∀ t : Fin cfg0.N, win0_7.index t (0 : Fin 3) = t.val / 3 ∧ win0_7.index t (1 : Fin 3) = 0 ∧ win0_7.index t (2 : Fin 3) = 0 :=
  (by decide +kernel : ∀ t : Fin grid0.N, _)

theorem kb_eq : ∀ t : Fin cfg0.N, ((grid0.coords t) (1 : Fin 2)).val = t.val % 3 := (by decide +kernel : ∀ t : Fin grid0.N, _)

theorem lt (t : Fin cfg0.N) : t.val < 27 := t.isLt

/-- The matrix a point works on. -/
abbrev mat (t : Fin cfg0.N) : Fin 9 := ⟨t.val / 3, by have := lt t; omega⟩
/-- Column `d` of a point's 768, as a column of the array. -/
abbrev col (t : Fin cfg0.N) (d : Fin 768) : Fin 2304 := ⟨768 * (t.val % 3) + d.val, by omega⟩

theorem emb0 (t : Fin cfg0.N) (j : S1x1536x1536.Idx) :
    ((cfg0.win 0).blk t).view.emb j = ix3 (mat t) (j 1) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val / 3; omega
  | ⟨1, _⟩ => show win0_0.index t (1 : Fin 3) * 1536 + 1 * (j 1).val = (j 1).val; omega
  | ⟨2, _⟩ => show win0_0.index t (2 : Fin 3) * 1536 + 1 * (j 2).val = (j 2).val; omega
theorem iblk_0 (c : Dev nD) (t : Fin cfg0.N) (j : S1x1536x1536.Idx) :
    iblk m c 0 t j = V m c main_arg0 (ix3 (mat t) (j 1) (j 2)) := congrArg (V m c main_arg0) (emb0 t j)
theorem emb1 (t : Fin cfg0.N) (j : S1x1536x768.Idx) :
    ((cfg0.win 1).blk t).view.emb j = ix3 (mat t) (j 1) (col t (j 2)) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val / 3; omega
  | ⟨1, _⟩ => show win0_1.index t (1 : Fin 3) * 1536 + 1 * (j 1).val = (j 1).val; omega
  | ⟨2, _⟩ => show win0_1.index t (2 : Fin 3) * 768 + 1 * (j 2).val = 768 * (t.val % 3) + (j 2).val; omega
theorem iblk_1 (c : Dev nD) (t : Fin cfg0.N) (j : S1x1536x768.Idx) :
    iblk m c 1 t j = V m c main_arg1 (ix3 (mat t) (j 1) (col t (j 2))) := congrArg (V m c main_arg1) (emb1 t j)
theorem emb2 (t : Fin cfg0.N) (j : S1x1536x768.Idx) :
    ((cfg0.win 2).blk t).view.emb j = ix3 (mat t) (j 1) (col t (j 2)) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val / 3; omega
  | ⟨1, _⟩ => show win0_2.index t (1 : Fin 3) * 1536 + 1 * (j 1).val = (j 1).val; omega
  | ⟨2, _⟩ => show win0_2.index t (2 : Fin 3) * 768 + 1 * (j 2).val = 768 * (t.val % 3) + (j 2).val; omega
theorem iblk_2 (c : Dev nD) (t : Fin cfg0.N) (j : S1x1536x768.Idx) :
    iblk m c 2 t j = V m c main_arg2 (ix3 (mat t) (j 1) (col t (j 2))) := congrArg (V m c main_arg2) (emb2 t j)
theorem emb3 (t : Fin cfg0.N) (j : S1x1536x18.Idx) :
    ((cfg0.win 3).blk t).view.emb j = ix3 (mat t) (j 1) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val / 3; omega
  | ⟨1, _⟩ => show win0_3.index t (1 : Fin 3) * 1536 + 1 * (j 1).val = (j 1).val; omega
  | ⟨2, _⟩ => show win0_3.index t (2 : Fin 3) * 18 + 1 * (j 2).val = (j 2).val; omega
theorem iblk_3 (c : Dev nD) (t : Fin cfg0.N) (j : S1x1536x18.Idx) :
    iblk m c 3 t j = V m c main_arg3 (ix3 (mat t) (j 1) (j 2)) := congrArg (V m c main_arg3) (emb3 t j)
theorem emb4 (t : Fin cfg0.N) (j : S1x1536x768.Idx) :
    ((cfg0.win 4).blk t).view.emb j = ix3 (mat t) (j 1) (col t (j 2)) := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val / 3; omega
  | ⟨1, _⟩ => show win0_4.index t (1 : Fin 3) * 1536 + 1 * (j 1).val = (j 1).val; omega
  | ⟨2, _⟩ => show win0_4.index t (2 : Fin 3) * 768 + 1 * (j 2).val = 768 * (t.val % 3) + (j 2).val; omega
theorem emb5 (t : Fin cfg0.N) (j : S1x1536x768.Idx) :
    ((cfg0.win 5).blk t).view.emb j = ix3 (mat t) (j 1) (col t (j 2)) := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val / 3; omega
  | ⟨1, _⟩ => show win0_5.index t (1 : Fin 3) * 1536 + 1 * (j 1).val = (j 1).val; omega
  | ⟨2, _⟩ => show win0_5.index t (2 : Fin 3) * 768 + 1 * (j 2).val = 768 * (t.val % 3) + (j 2).val; omega
theorem emb6 (t : Fin cfg0.N) (j : S1x1536x768.Idx) :
    ((cfg0.win 6).blk t).view.emb j = ix3 (mat t) (j 1) (col t (j 2)) := by
  obtain ⟨e0, e1, e2⟩ := idx6 t
  have h0 : (j 0).val < 1 := (j 0).isLt
  funext a; apply Fin.ext
  match a with
  | ⟨0, _⟩ => show win0_6.index t (0 : Fin 3) * 1 + 1 * (j 0).val = t.val / 3; omega
  | ⟨1, _⟩ => show win0_6.index t (1 : Fin 3) * 1536 + 1 * (j 1).val = (j 1).val; omega
  | ⟨2, _⟩ => show win0_6.index t (2 : Fin 3) * 768 + 1 * (j 2).val = 768 * (t.val % 3) + (j 2).val; omega
theorem emb7 (t : Fin cfg0.N) (j : S1x1536x18.Idx) :
    ((cfg0.win 7).blk t).view.emb j = ix3 (mat t) (j 1) (j 2) := by
  obtain ⟨e0, e1, e2⟩ := idx7 t
  have h0 : (j 0).val < 1 := (j 0).isLt
  funext a; apply Fin.ext
  match a with
  | ⟨0, _⟩ => show win0_7.index t (0 : Fin 3) * 1 + 1 * (j 0).val = t.val / 3; omega
  | ⟨1, _⟩ => show win0_7.index t (1 : Fin 3) * 1536 + 1 * (j 1).val = (j 1).val; omega
  | ⟨2, _⟩ => show win0_7.index t (2 : Fin 3) * 18 + 1 * (j 2).val = (j 2).val; omega

/-- The arrays the program is to end with. -/
abbrev newMoment (c : Dev nD) : (A3 9 1536 2304).Idx → EReal := momNew (V m c main_arg2) (V m c main_arg3) (V m c main_arg1)
abbrev gradTurned (c : Dev nD) : (A3 9 1536 2304).Idx → EReal := turned (V m c main_arg0) (V m c main_arg1)
abbrev momTurned (c : Dev nD) : (A3 9 1536 2304).Idx → EReal := turned (V m c main_arg0) (newMoment m c)
abbrev newCodes (c : Dev nD) : (A3 9 1536 2304).Idx → BitVec 8 := momCode (V m c main_arg2) (V m c main_arg3) (V m c main_arg1)
abbrev newScales (c : Dev nD) : (A3 9 1536 18).Idx → EReal := momScale (V m c main_arg2) (V m c main_arg3) (V m c main_arg1)

theorem rowScale_congr {x x' : Fin 128 → BitVec 8} {s s' : EReal} {g g' : Fin 128 → EReal} (hx : x = x') (hs : s = s')
    (hg : g = g') : rowScale x s g = rowScale x' s' g' := by rw [hx, hs, hg]
theorem rowCode_congr {x x' : Fin 128 → BitVec 8} {s s' : EReal} {g g' : Fin 128 → EReal} {l l' : Fin 128} (hx : x = x')
    (hs : s = s') (hg : g = g') (hl : l = l') : rowCode x s g l = rowCode x' s' g' l' := by rw [hx, hs, hg, hl]

theorem rowMom_congr {x x' : Fin 128 → BitVec 8} {s s' : EReal} {g g' : Fin 128 → EReal} {l l' : Fin 128} (hx : x = x')
    (hs : s = s') (hg : g = g') (hl : l = l') : rowMom x s g l = rowMom x' s' g' l' := by rw [hx, hs, hg, hl]

/-- A point's row of 128 cells is a row of the array. -/
theorem cells_1 (c : Dev nD) (t : Fin cfg0.N) (p : Fin 1536) (j : ℕ) (hj : j < 6) (k : Fin 18) (hk : k.val = 6 * (t.val % 3) + j) :
    cells (iblk m c 1 t) p j = fun l => V m c main_arg1 (ix3 (mat t) p (colOf k l)) := by
  funext l
  refine (iblk_1 m c t _).trans (congrArg (fun x => V m c main_arg1 (ix3 (mat t) p x)) (Fin.ext ?_))
  show 768 * (t.val % 3) + (128 * j + l.val) % 768 = 128 * k.val + l.val
  omega
theorem cells_2 (c : Dev nD) (t : Fin cfg0.N) (p : Fin 1536) (j : ℕ) (hj : j < 6) (k : Fin 18) (hk : k.val = 6 * (t.val % 3) + j) :
    cells (iblk m c 2 t) p j = fun l => V m c main_arg2 (ix3 (mat t) p (colOf k l)) := by
  funext l
  refine (iblk_2 m c t _).trans (congrArg (fun x => V m c main_arg2 (ix3 (mat t) p x)) (Fin.ext ?_))
  show 768 * (t.val % 3) + (128 * j + l.val) % 768 = 128 * k.val + l.val
  omega

/-- What a point computes is its part of the arrays. -/
theorem scale_here (c : Dev nD) (t : Fin cfg0.N) (kb : Fin 3) (hkb : kb.val = t.val % 3) (p : Fin 1536) (a : Fin 18)
    (h : 6 * kb.val ≤ a.val) (h' : a.val < 6 * kb.val + 6) :
    newScale (iblk m c 1 t) (iblk m c 2 t) (iblk m c 3 t) kb p a = newScales m c (ix3 (mat t) p a) :=
  rowScale_congr (cells_2 m c t p _ (by omega) a (by omega)) (iblk_3 m c t _) (cells_1 m c t p _ (by omega) a (by omega))
theorem code_here (c : Dev nD) (t : Fin cfg0.N) (kb : Fin 3) (hkb : kb.val = t.val % 3) (p : Fin 1536) (d : Fin 768) :
    newCode (iblk m c 1 t) (iblk m c 2 t) (iblk m c 3 t) kb p d = newCodes m c (ix3 (mat t) p (col t d)) := by
  have hb : (blockOf (col t d)).val = 6 * (t.val % 3) + d.val / 128 := by
    show (768 * (t.val % 3) + d.val) / 128 = _
    omega
  refine rowCode_congr (cells_2 m c t p _ (by omega) (blockOf (col t d)) hb) ((iblk_3 m c t _).trans ?_)
    (cells_1 m c t p _ (by omega) (blockOf (col t d)) hb) (Fin.ext ?_)
  · refine congrArg (fun x => V m c main_arg3 (ix3 (mat t) p x)) (Fin.ext ?_)
    show 6 * kb.val + d.val / 128 = (blockOf (col t d)).val
    omega
  · show d.val % 128 = (768 * (t.val % 3) + d.val) % 128
    omega
theorem mom_here (c : Dev nD) (t : Fin cfg0.N) (kb : Fin 3) (hkb : kb.val = t.val % 3) (p : Fin 1536) (d : Fin 768) :
    newMom (iblk m c 1 t) (iblk m c 2 t) (iblk m c 3 t) kb p d = newMoment m c (ix3 (mat t) p (col t d)) := by
  have hb : (blockOf (col t d)).val = 6 * (t.val % 3) + d.val / 128 := by
    show (768 * (t.val % 3) + d.val) / 128 = _
    omega
  refine rowMom_congr (cells_2 m c t p _ (by omega) (blockOf (col t d)) hb) ((iblk_3 m c t _).trans ?_)
    (cells_1 m c t p _ (by omega) (blockOf (col t d)) hb) (Fin.ext ?_)
  · refine congrArg (fun x => V m c main_arg3 (ix3 (mat t) p x)) (Fin.ext ?_)
    show 6 * kb.val + d.val / 128 = (blockOf (col t d)).val
    omega
  · show d.val % 128 = (768 * (t.val % 3) + d.val) % 128
    omega

/-! ## The pipeline's buffers -/

/-- Each window's current staging memref at point `t`, spelled as the pipeline passes it (`bodyAt0`), and its wholeness. -/
abbrev ms0_0 (t : Fin cfg0.N) : Memref sig .tc .vmem S1x1536x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536x18 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536x768 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1536x18 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x768 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The windows of which the proof says a property of what the body leaves, and not the contents themselves: the outputs. -/
def related0 : Fin 8 → Bool := fun w => w.val == 4 || w.val == 5 || w.val == 6 || w.val == 7

/-- The proof data of the one pipeline on core `c`: the arrays as the region finds them (`V`); after the body at
    point `t` each input's buffer at its block and the outputs unnamed, a property of them being stated beside (`Rl`); the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## What the body leaves -/

/-- The codes' block after a point: its part of the array. -/
def CodesNow (c : Dev nD) (t : Fin cfg0.N) (X : Vec Ideal S1x1536x768 .i8) : Prop :=
  ∀ (p : Fin 1536) (d : Fin 768), X (ix3 0 p d) = newCodes m c (ix3 (mat t) p (col t d))

/-- The scales' block after a point: the columns of this group and of those before it are the array's. -/
def ScalesNow (c : Dev nD) (t : Fin cfg0.N) (X : Vec Ideal S1x1536x18 .f32) : Prop :=
  ∀ (p : Fin 1536) (a : Fin 18), a.val < 6 * (t.val % 3) + 6 → X (ix3 0 p a) = newScales m c (ix3 (mat t) p a)

/-- The blocks of the two products after a point: their parts of the arrays. -/
def GradNow (c : Dev nD) (t : Fin cfg0.N) (X : Vec Ideal S1x1536x768 .bf16) : Prop :=
  ∀ (p : Fin 1536) (d : Fin 768), X (ix3 0 p d) = gradTurned m c (ix3 (mat t) p (col t d))
def MomNow (c : Dev nD) (t : Fin cfg0.N) (X : Vec Ideal S1x1536x768 .bf16) : Prop :=
  ∀ (p : Fin 1536) (d : Fin 768), X (ix3 0 p d) = momTurned m c (ix3 (mat t) p (col t d))

/-- What is said of each output's block after a point. -/
def Rl (c : Dev nD) (w : Fin cfg0.W) (t : Fin cfg0.N) (X : (cfg0.win w).block.Idx → Elt Ideal (cfg0.win w).elt) : Prop :=
  match w, X with
  | ⟨4, _⟩, X => GradNow m c t X
  | ⟨5, _⟩, X => MomNow m c t X
  | ⟨6, _⟩, X => CodesNow m c t X
  | ⟨7, _⟩, X => ScalesNow m c t X
  | _, _ => True

/-- The proof data as a relation. -/
abbrev rdat (c : Dev nD) := (dats m 0 c).toRRel related0 (Rl m c)

/-- Where a point is not the first of its matrix, it finds in the scales' block what the point before left. -/
theorem found7 (c : Dev nD) (t : Fin cfg0.N) (Y : Vec Ideal S1x1536x18 .f32) (hY : (rdat m c).Finds 7 t Y) (ht : t.val % 3 ≠ 0)
    (p : Fin 1536) (a : Fin 18) (ha : a.val < 6 * (t.val % 3)) : Y (ix3 0 p a) = newScales m c (ix3 (mat t) p a) := by
  have h0 : t.val ≠ 0 := by omega
  rcases ((rdat m c).finds_of_pos (w := 7) (t := t) rfl h0 Y).mp hY with h | h
  · have h2 := (flush0_7 _).mp h
    have h3 : (t.val - 1) % 3 = 2 := h2
    omega
  · have h1 : ScalesNow m c ⟨t.val - 1, Nat.lt_of_le_of_lt (Nat.sub_le _ _) t.isLt⟩ Y := (dats m 0 c).toRRel_leaves (Rl := Rl m c) (w := 7) rfl h
    refine (h1 p a (by show a.val < 6 * ((t.val - 1) % 3) + 6; omega)).trans ?_
    refine congrArg (fun b => newScales m c (ix3 b p a)) (Fin.ext ?_)
    show (t.val - 1) / 3 = t.val / 3
    omega

/-- What a point leaves in the scales' block is right in the columns met so far. -/
theorem scalesNow (c : Dev nD) (t : Fin cfg0.N) (Y d : Vec Ideal S1x1536x18 .f32) (hY : (rdat m c).Finds 7 t Y)
    (h : ScalesAt (iblk m c 1 t) (iblk m c 2 t) (iblk m c 3 t) ((grid0.coords t) (1 : Fin 2)) Y d) : ScalesNow m c t d := by
  intro p a ha
  have hk := kb_eq t
  refine (h p a).trans ?_
  by_cases hc : 6 * ((grid0.coords t) (1 : Fin 2)).val ≤ a.val ∧ a.val < 6 * ((grid0.coords t) (1 : Fin 2)).val + 6
  · rw [if_pos hc]
    exact scale_here m c t _ hk p a hc.1 hc.2
  · rw [if_neg hc]
    exact found7 m c t Y hY (by omega) p a (by omega)

theorem codesNow (c : Dev nD) (t : Fin cfg0.N) (d : Vec Ideal S1x1536x768 .i8)
    (h : CodesAt (iblk m c 1 t) (iblk m c 2 t) (iblk m c 3 t) ((grid0.coords t) (1 : Fin 2)) d) : CodesNow m c t d :=
  fun p a => (h p a).trans (code_here m c t _ (kb_eq t) p a)

theorem gradNow (c : Dev nD) (t : Fin cfg0.N) (d : Vec Ideal S1x1536x768 .bf16) (h : GradAt (iblk m c 0 t) (iblk m c 1 t) d) :
    GradNow m c t d :=
  fun p a => (h p a).trans (sum_congr' fun k => congrArg₂ (· * ·) (iblk_0 m c t _) (iblk_1 m c t _))

theorem momNow (c : Dev nD) (t : Fin cfg0.N) (d : Vec Ideal S1x1536x768 .bf16)
    (h : MomAt (iblk m c 0 t) (iblk m c 1 t) (iblk m c 2 t) (iblk m c 3 t) ((grid0.coords t) (1 : Fin 2)) d) : MomNow m c t d :=
  fun p a => (h p a).trans (sum_congr' fun k => congrArg₂ (· * ·) (iblk_0 m c t _) (mom_here m c t _ (kb_eq t) k a))

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X)
    ∗ (∃ X, ⌜Rl m c 6 t X⌝ ∗ owns (c : Thread nD τ) (ms0_6 t) fullShare X)
    ∗ (∃ X, ⌜Rl m c 7 t X⌝ ∗ owns (c : Thread nD τ) (ms0_7 t) fullShare X))

set_option maxHeartbeats 800000 in
/-- The body at any point. -/
theorem sound_body (c : Dev nD) (t : Fin cfg0.N) :
    bodyPre m c t ⊢ wp frame (wpE (defs₀ (F := Ideal)) Variants.none c none) Set.univ (bodyAt0 (F := Ideal) t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, -, H4⟩, ⟨%d5, -, H5⟩, ⟨%d6, -, H6⟩, ⟨%d7, %hd7, H7⟩⟩
  iapply ((bodyRun c (grid0.coords t) _ _ _ _ _ _ _ _ _ _ _ _ _ _ _ _ _ _ (iblk m c 0 t) (iblk m c 1 t) (iblk m c 2 t) (iblk m c 3 t) d7) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [HS0]; · iexact HS0
  iintro ⟨H0, H1, H2, H3, ⟨%e4, %he4, H4⟩, ⟨%e5, %he5, H5⟩, ⟨%e6, %he6, H6⟩, ⟨%e7, %he7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]
  · iexists e4; isplitr; · ipureintro; exact gradNow m c t e4 he4
    iexact H4
  isplitl [H5]
  · iexists e5; isplitr; · ipureintro; exact momNow m c t e5 he5
    iexact H5
  isplitl [H6]
  · iexists e6; isplitr; · ipureintro; exact codesNow m c t e6 he6
    iexact H6
  iexists e7; isplitr; · ipureintro; exact scalesNow m c t d7 e7 hd7 he7
  iexact H7

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligationRel (dats m 0 c) (defs₀ (F := Ideal)) Variants.none () Set.univ related0 (Rl m c) := fun t => by
  rw [bigSep_W0, bigSep_W0, defs₀_row]
  exact triple_restated (sound_body m c t) rfl .rfl fun _ => .rfl

/-! ## The run -/

-- the launch theorem's implicit arguments are found by unifying its conclusion with this one, which takes unfolding plain
-- definitions in a metavariable's type
set_option backward.isDefEq.respectTransparency.types false in
/-- The launch: every execution ends, with what the relation allows in the arrays and every semaphore at zero. -/
theorem run_main : θ_run defs (onTc (τ := τ) (main (F := Ideal))) (s₀ m ρ)
    (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-! ## What the arrays hold at the end -/

/-- The last point of the matrix of `i`, which writes the block of scales back. -/
def pt18 (i : (A3 9 1536 18).Idx) : Fin cfg0.N :=
  (⟨(i 0).val * 3 + 2, by
    have h0 : (i 0).val < 9 := (i 0).isLt
    show _ < 27; omega⟩ : Fin 27)
/-- The point of the column of `i`. -/
def pt2304 (i : (A3 9 1536 2304).Idx) : Fin cfg0.N :=
  (⟨(i 0).val * 3 + (i 2).val / 768, by
    have h0 : (i 0).val < 9 := (i 0).isLt
    have h2 : (i 2).val < 2304 := (i 2).isLt
    show _ < 27; omega⟩ : Fin 27)

theorem covered18 (i : (A3 9 1536 18).Idx) (t : Fin cfg0.N) (ht : t.val = (i 0).val * 3 + 2) : ix3 (mat t) (i 1) (i 2) = i := by
  funext a; apply Fin.ext
  match a with
  | ⟨0, _⟩ => show t.val / 3 = (i 0).val; omega
  | ⟨1, _⟩ => rfl
  | ⟨2, _⟩ => rfl
theorem covered2304 (i : (A3 9 1536 2304).Idx) (t : Fin cfg0.N) (ht : t.val = (i 0).val * 3 + (i 2).val / 768) :
    ix3 (mat t) (i 1) (col t ⟨(i 2).val % 768, Nat.mod_lt _ (by decide)⟩) = i := by
  have h2 : (i 2).val < 2304 := (i 2).isLt
  funext a; apply Fin.ext
  match a with
  | ⟨0, _⟩ => show t.val / 3 = (i 0).val; omega
  | ⟨1, _⟩ => rfl
  | ⟨2, _⟩ => show 768 * (t.val % 3) + (i 2).val % 768 = (i 2).val; omega
theorem cov4 (i : (A3 9 1536 2304).Idx) (t : Fin cfg0.N) (ht : t.val = (i 0).val * 3 + (i 2).val / 768) :
    i ∈ ((cfg0.win 4).blk t).view.set := by
  have h := ((cfg0.win 4).blk t).view.emb_mem_set (ix3 0 (i 1) ⟨(i 2).val % 768, Nat.mod_lt _ (by decide)⟩)
  have e := (emb4 t (ix3 0 (i 1) ⟨(i 2).val % 768, Nat.mod_lt _ (by decide)⟩)).trans (covered2304 i t ht)
  exact Eq.mp (congrArg (fun x => x ∈ ((cfg0.win 4).blk t).view.set) e) h
theorem cov5 (i : (A3 9 1536 2304).Idx) (t : Fin cfg0.N) (ht : t.val = (i 0).val * 3 + (i 2).val / 768) :
    i ∈ ((cfg0.win 5).blk t).view.set := by
  have h := ((cfg0.win 5).blk t).view.emb_mem_set (ix3 0 (i 1) ⟨(i 2).val % 768, Nat.mod_lt _ (by decide)⟩)
  have e := (emb5 t (ix3 0 (i 1) ⟨(i 2).val % 768, Nat.mod_lt _ (by decide)⟩)).trans (covered2304 i t ht)
  exact Eq.mp (congrArg (fun x => x ∈ ((cfg0.win 5).blk t).view.set) e) h
theorem cov6 (i : (A3 9 1536 2304).Idx) (t : Fin cfg0.N) (ht : t.val = (i 0).val * 3 + (i 2).val / 768) :
    i ∈ ((cfg0.win 6).blk t).view.set := by
  have h := ((cfg0.win 6).blk t).view.emb_mem_set (ix3 0 (i 1) ⟨(i 2).val % 768, Nat.mod_lt _ (by decide)⟩)
  have e := (emb6 t (ix3 0 (i 1) ⟨(i 2).val % 768, Nat.mod_lt _ (by decide)⟩)).trans (covered2304 i t ht)
  exact Eq.mp (congrArg (fun x => x ∈ ((cfg0.win 6).blk t).view.set) e) h
theorem cov7 (i : (A3 9 1536 18).Idx) (t : Fin cfg0.N) (ht : t.val = (i 0).val * 3 + 2) :
    i ∈ ((cfg0.win 7).blk t).view.set := by
  have h := ((cfg0.win 7).blk t).view.emb_mem_set (ix3 0 (i 1) (i 2))
  have e := (emb7 t (ix3 0 (i 1) (i 2))).trans (covered18 i t ht)
  exact Eq.mp (congrArg (fun x => x ∈ ((cfg0.win 7).blk t).view.set) e) h

/-- An index of a block with one matrix. -/
theorem one768 (j : S1x1536x768.Idx) : ix3 0 (j 1) (j 2) = j := by
  have h0 : (j 0).val < 1 := (j 0).isLt
  funext a; apply Fin.ext
  match a with
  | ⟨0, _⟩ => show 0 = (j 0).val; omega
  | ⟨1, _⟩ => rfl
  | ⟨2, _⟩ => rfl
theorem one18 (j : S1x1536x18.Idx) : ix3 0 (j 1) (j 2) = j := by
  have h0 : (j 0).val < 1 := (j 0).isLt
  funext a; apply Fin.ext
  match a with
  | ⟨0, _⟩ => show 0 = (j 0).val; omega
  | ⟨1, _⟩ => rfl
  | ⟨2, _⟩ => rfl

section
variable (c : Dev nD) (after : (w' : Fin cfg0.W) → Fin cfg0.N → (cfg0.win w').block.Idx → Elt Ideal (cfg0.win w').elt)

theorem final4 (hL : ∀ u : Fin cfg0.N, GradNow m c u (after 4 u)) :
    ((rdat m c).withAfter after).arrAt 4 cfg0.N = gradTurned m c := by
  refine Dat.arrAt_eq_of_cover _ 4 _ (fun t _ => ?_) fun i => ⟨pt2304 i, flush0_4 _, cov4 i (pt2304 i) rfl⟩
  funext j
  show after 4 t j = gradTurned m c (((cfg0.win 4).blk t).view.emb j)
  rw [emb4]
  exact (congrArg (after 4 t) (one768 j).symm).trans (hL t (j 1) (j 2))

theorem final5 (hL : ∀ u : Fin cfg0.N, MomNow m c u (after 5 u)) :
    ((rdat m c).withAfter after).arrAt 5 cfg0.N = momTurned m c := by
  refine Dat.arrAt_eq_of_cover _ 5 _ (fun t _ => ?_) fun i => ⟨pt2304 i, flush0_5 _, cov5 i (pt2304 i) rfl⟩
  funext j
  show after 5 t j = momTurned m c (((cfg0.win 5).blk t).view.emb j)
  rw [emb5]
  exact (congrArg (after 5 t) (one768 j).symm).trans (hL t (j 1) (j 2))

theorem final6 (hL : ∀ u : Fin cfg0.N, CodesNow m c u (after 6 u)) :
    ((rdat m c).withAfter after).arrAt 6 cfg0.N = newCodes m c := by
  refine Dat.arrAt_eq_of_cover _ 6 _ (fun t _ => ?_) fun i => ⟨pt2304 i, flush0_6 _, cov6 i (pt2304 i) rfl⟩
  funext j
  show after 6 t j = newCodes m c (((cfg0.win 6).blk t).view.emb j)
  rw [emb6]
  exact (congrArg (after 6 t) (one768 j).symm).trans (hL t (j 1) (j 2))

theorem final7 (hL : ∀ u : Fin cfg0.N, (cfg0.win 7).flush u = true → ScalesNow m c u (after 7 u)) :
    ((rdat m c).withAfter after).arrAt 7 cfg0.N = newScales m c := by
  refine Dat.arrAt_eq_of_cover _ 7 _ (fun t hf => ?_) fun i => ⟨pt18 i, (flush0_7 _).mpr ?_, cov7 i (pt18 i) rfl⟩
  · funext j
    show after 7 t j = newScales m c (((cfg0.win 7).blk t).view.emb j)
    rw [emb7]
    have h2 := (flush0_7 t).mp hf
    have hj : (j 2).val < 18 := (j 2).isLt
    exact (congrArg (after 7 t) (one18 j).symm).trans (hL t hf (j 1) (j 2) (by omega))
  · show ((i 0).val * 3 + 2) % 3 = 2
    omega
end

/-- The program ends with the gradient and the new moment times the basis, the new codes and the new scales, its arguments unchanged and every semaphore at zero. -/
theorem run_all : θ_run defs (onTc (τ := τ) (main (F := Ideal))) (s₀ m ρ) (fun r => (∀ c : Dev nD,
      r.2.mem ((c.tc : Thread nD τ).loc main_v0_0) = gradTurned m c
      ∧ r.2.mem ((c.tc : Thread nD τ).loc main_v0_1) = momTurned m c
      ∧ r.2.mem ((c.tc : Thread nD τ).loc main_v0_2) = newCodes m c
      ∧ r.2.mem ((c.tc : Thread nD τ).loc main_v0_3) = newScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run_main m ρ)
  obtain ⟨after, hL, hA⟩ := Pipeline.RDat.FramePost.exists_exact h.1 c
  refine ⟨(hA 4).trans (final4 m c after fun u => ?_), (hA 5).trans (final5 m c after fun u => ?_),
    (hA 6).trans (final6 m c after fun u => ?_), (hA 7).trans (final7 m c after fun u hf => ?_),
    (Pipeline.RDat.FramePost.arr_in h.1 c 0 rfl).trans ((A_eq m c 0).trans (V_main_arg0 m c)),
    (Pipeline.RDat.FramePost.arr_in h.1 c 1 rfl).trans ((A_eq m c 1).trans (V_main_arg1 m c)),
    (Pipeline.RDat.FramePost.arr_in h.1 c 2 rfl).trans ((A_eq m c 2).trans (V_main_arg2 m c)),
    (Pipeline.RDat.FramePost.arr_in h.1 c 3 rfl).trans ((A_eq m c 3).trans (V_main_arg3 m c))⟩
  · exact (dats m 0 c).toRRel_leaves (Rl := Rl m c) (w := 4) rfl (hL 4 u (flush0_4 u))
  · exact (dats m 0 c).toRRel_leaves (Rl := Rl m c) (w := 5) rfl (hL 5 u (flush0_5 u))
  · exact (dats m 0 c).toRRel_leaves (Rl := Rl m c) (w := 6) rfl (hL 6 u (flush0_6 u))
  · exact (dats m 0 c).toRRel_leaves (Rl := Rl m c) (w := 7) rfl (hL 7 u hf)

end Cert.Proof.MomRun

end
-- ==== Proof.MomRef.lean ====
/- The first moment's reference, read: its results are the gradient and the new moment times the left basis (`turnedGradient`,
   `turnedMoment`), the new codes and the new scales (`codes`, `scales`). -/
module

public import proofs.«01_k».proof.Proof.Gen.MomentumReferenceIdeal.Read
public import proofs.«01_k».proof.Proof.SpecMom
public import proofs.«01_k».proof.Proof.Dot

@[expose] public section

noncomputable section

namespace Cert.Proof.MomRef

open Cert.MomentumReferenceIdeal Cert.MomentumReferenceIdeal.Read Idealize.ShloMosaic Idealize.ShloMosaic.ValueIdx Cert.Proof.Spec
  Cert.Proof.Dot

variable (g : (⟨S9x1536x2304, .bf16⟩ : BufTy).Contents (Elt Ideal)) (x : (⟨S9x1536x2304, .i8⟩ : BufTy).Contents (Elt Ideal))
  (s : (⟨S9x1536x18, .f32⟩ : BufTy).Contents (Elt Ideal))

/-- Where splitting the columns into blocks of 128 reads, and where joining them does. -/
theorem split2 (b : Fin 9) (i : Fin 1536) (k : Fin 18) (l : Fin 128) :
    idx_main_v2 (ix4 b i k l) = ix3 b i (colOf k l) := by
  funext a; apply Fin.ext
  match a with
  | ⟨0, _⟩ => show (((b.val * 1536 + i.val) * 18 + k.val) * 128 + l.val) / 3538944 = b.val; omega
  | ⟨1, _⟩ => show (((b.val * 1536 + i.val) * 18 + k.val) * 128 + l.val) / 2304 % 1536 = i.val; omega
  | ⟨2, _⟩ => show (((b.val * 1536 + i.val) * 18 + k.val) * 128 + l.val) % 2304 = 128 * k.val + l.val; omega
theorem split13 (b : Fin 9) (i : Fin 1536) (k : Fin 18) (l : Fin 128) :
    idx_main_v13 (ix4 b i k l) = ix3 b i (colOf k l) := split2 b i k l
theorem join6 (b : Fin 9) (i : Fin 1536) (c : Fin 2304) :
    idx_main_v6 (ix3 b i c) = ix4 b i (blockOf c) ⟨c.val % 128, by omega⟩ := by
  funext a; apply Fin.ext
  match a with
  | ⟨0, _⟩ => show ((b.val * 1536 + i.val) * 2304 + c.val) / 3538944 = b.val; omega
  | ⟨1, _⟩ => show ((b.val * 1536 + i.val) * 2304 + c.val) / 2304 % 1536 = i.val; omega
  | ⟨2, _⟩ => show ((b.val * 1536 + i.val) * 2304 + c.val) / 128 % 18 = c.val / 128; omega
  | ⟨3, _⟩ => show ((b.val * 1536 + i.val) * 2304 + c.val) % 128 = c.val % 128; omega
theorem join28 (b : Fin 9) (i : Fin 1536) (c : Fin 2304) :
    idx_main_v28 (ix3 b i c) = ix4 b i (blockOf c) ⟨c.val % 128, by omega⟩ := join6 b i c
theorem block_col (k : Fin 18) (l : Fin 128) : blockOf (colOf k l) = k :=
  Fin.ext (by show (128 * k.val + l.val) / 128 = k.val; omega)
theorem place_col (k : Fin 18) (l : Fin 128) (h : (colOf k l).val % 128 < 128) : (⟨(colOf k l).val % 128, h⟩ : Fin 128) = l :=
  Fin.ext (by show (128 * k.val + l.val) % 128 = l.val; omega)

theorem moment (b : Fin 9) (i : Fin 1536) (k : Fin 18) (l : Fin 128) :
    val_main_v13 (F := Ideal) g x s (ix4 b i k l)
      = rowMom (fun l => x (ix3 b i (colOf k l))) (s (ix3 b i k)) (fun l => g (ix3 b i (colOf k l))) l := by
  rw [val_main_v13_apply, split13, val_main_v12_apply, val_main_v8_apply, val_main_v7_apply, val_main_cst_apply,
    val_main_v11_apply, val_main_v10_apply, val_main_cst_0_apply, val_main_v9_apply, val_main_v6_apply, join6, block_col,
    place_col, val_main_v5_apply, val_main_v2_apply, split2, val_main_v1_apply, val_main_v0_apply, val_main_v4_apply,
    val_main_v3_apply, sbyte_word]
  have e : idx_main_v3 (idx_main_v4 (ix4 b i k l)) = ix3 b i k :=
    funext fun a => match a with | ⟨0, _⟩ => rfl | ⟨1, _⟩ => rfl | ⟨2, _⟩ => rfl
  rw [e]
  rfl

theorem reduces : S9x1536x18x128.Reduces [3] S9x1536x18 := by decide

/-- The host's maximum along one axis, as a fold over it. -/
theorem reduce_max {p q o : Shape} {a : Fin p.rank} (y : p.Idx → EReal) (z : o.Idx → EReal) (h' : p.ReducesTo [a] q)
    (h : p.Reduces [a] q) (hu : 0 < o.numel) (j : q.Idx) :
    Host.reduce (FloatOps.maximumf (F := Ideal) (φ := .f32)) y z h' hu j
      = (Finset.univ : Finset (Fin (p.size a))).fold max (z (Shape.Idx.first hu)) (fun l => y (h.lift j l)) :=
  Host.reduce_eq_fold_single (max : EReal → EReal → EReal) y z h' h hu j

theorem size (b : Fin 9) (i : Fin 1536) (k : Fin 18) (l : Fin 128) :
    val_main_v14 (F := Ideal) g x s (ix4 b i k l) = FloatOps.absf (F := Ideal) (φ := .f32)
      (rowMom (fun l => x (ix3 b i (colOf k l))) (s (ix3 b i k)) (fun l => g (ix3 b i (colOf k l))) l) := by
  rw [val_main_v14_apply, moment]
  rfl

theorem largest (b : Fin 9) (i : Fin 1536) (k : Fin 18) : val_main_v15 (F := Ideal) g x s (ix3 b i k)
    = (Finset.univ : Finset (Fin 128)).fold max (FloatOps.ofBits (F := Ideal) .f32 0xFF800000#32)
      (fun l => FloatOps.absf (F := Ideal) (φ := .f32)
        (rowMom (fun l => x (ix3 b i (colOf k l))) (s (ix3 b i k)) (fun l => g (ix3 b i (colOf k l))) l)) := by
  unfold val_main_v15
  rw [reduce_max _ _ _ reduces]
  refine congrArg (fun f => Finset.fold max (FloatOps.ofBits (F := Ideal) .f32 0xFF800000#32) f (Finset.univ : Finset (Fin 128)))
    (funext fun l => ?_)
  exact (congrArg (val_main_v14 (F := Ideal) g x s)
    (funext fun a => match a with | ⟨0, _⟩ => rfl | ⟨1, _⟩ => rfl | ⟨2, _⟩ => rfl | ⟨3, _⟩ => rfl)).trans (size g x s b i k l)

theorem scale (b : Fin 9) (i : Fin 1536) (k : Fin 18) : val_main_v20 (F := Ideal) g x s (ix3 b i k)
    = rowScale (fun l => x (ix3 b i (colOf k l))) (s (ix3 b i k)) (fun l => g (ix3 b i (colOf k l))) := by
  rw [val_main_v20_apply, val_main_v17_apply, val_main_v19_apply, val_main_v16_apply, val_main_v18_apply, val_main_cst_2_apply,
    val_main_cst_3_apply, val_main_call0_v1_apply, val_main_call0_v0_apply, val_main_cst_4_apply, largest]
  rfl

theorem scales : val_main_v20 (F := Ideal) g x s = momScale x s g := by
  funext i
  obtain ⟨b, r, k, rfl⟩ : ∃ b r k, i = ix3 b r k := ⟨i 0, i 1, i 2, eq_ix3 i⟩
  exact scale g x s b r k

theorem codes : val_main_v28 (F := Ideal) g x s = momCode x s g := by
  funext i
  obtain ⟨b, r, c, rfl⟩ : ∃ b r c, i = ix3 b r c := ⟨i 0, i 1, i 2, eq_ix3 i⟩
  rw [val_main_v28_apply, join28, val_main_v27_apply, val_main_v26_apply, val_main_v25_apply, val_main_call2_v4_apply,
    val_main_call2_v3_apply, val_main_call2_v2_apply, val_main_call2_v1_apply, val_main_call2_v0_apply, val_main_v24_apply,
    val_main_v23_apply, moment, val_main_v22_apply, val_main_v21_apply]
  have e : idx_main_v21 (idx_main_v22 (ix4 b r (blockOf c) ⟨c.val % 128, by omega⟩)) = ix3 b r (blockOf c) :=
    funext fun a => match a with | ⟨0, _⟩ => rfl | ⟨1, _⟩ => rfl | ⟨2, _⟩ => rfl
  rw [e, scale]
  exact squant_word _

theorem momentAll : val_main_v12 (F := Ideal) g x s = momNew x s g := by
  funext i
  obtain ⟨b, r, c, rfl⟩ : ∃ b r c, i = ix3 b r c := ⟨i 0, i 1, i 2, eq_ix3 i⟩
  rw [val_main_v12_apply, val_main_v8_apply, val_main_v7_apply, val_main_cst_apply, val_main_v11_apply, val_main_v10_apply,
    val_main_cst_0_apply, val_main_v9_apply, val_main_v6_apply, join6, val_main_v5_apply, val_main_v2_apply, split2,
    val_main_v1_apply, val_main_v0_apply, val_main_v4_apply, val_main_v3_apply, sbyte_word]
  have e : idx_main_v3 (idx_main_v4 (ix4 b r (blockOf c) ⟨c.val % 128, by omega⟩)) = ix3 b r (blockOf c) :=
    funext fun a => match a with | ⟨0, _⟩ => rfl | ⟨1, _⟩ => rfl | ⟨2, _⟩ => rfl
  have ec : colOf (blockOf c) ⟨c.val % 128, by omega⟩ = c :=
    Fin.ext (by show 128 * (c.val / 128) + c.val % 128 = c.val; omega)
  rw [e]
  show _ = c90 * (sbyte (x (ix3 b r (colOf (blockOf c) ⟨c.val % 128, by omega⟩))) * s (ix3 b r (blockOf c)))
    + c10 * g (ix3 b r (colOf (blockOf c) ⟨c.val % 128, by omega⟩))
  rw [ec]
  rfl

variable (q : (⟨S9x1536x1536, .bf16⟩ : BufTy).Contents (Elt Ideal))

theorem turnedGradient : val_main_v30 (F := Ideal) q g = turned q g := by
  funext i
  rw [val_main_v30_apply]
  refine (val_main_v29_apply q g i).trans (sum_congr' fun k => congrArg₂ (· * ·) (congrArg q ?_) (congrArg g ?_))
  · exact funext fun c => match c with | ⟨0, _⟩ => rfl | ⟨1, _⟩ => rfl | ⟨2, _⟩ => rfl
  · exact funext fun c => match c with | ⟨0, _⟩ => rfl | ⟨1, _⟩ => rfl | ⟨2, _⟩ => rfl

theorem turnedMoment : val_main_v33 (F := Ideal) q g x s = turned q (momNew x s g) := by
  funext i
  rw [val_main_v33_apply]
  refine (val_main_v32_apply q g x s i).trans (sum_congr' fun k => congrArg₂ (· * ·) (congrArg q ?_) ?_)
  · exact funext fun c => match c with | ⟨0, _⟩ => rfl | ⟨1, _⟩ => rfl | ⟨2, _⟩ => rfl
  · rw [val_main_v31_apply]
    refine (congrFun (momentAll g x s) _).trans (congrArg (momNew x s g) ?_)
    exact funext fun c => match c with | ⟨0, _⟩ => rfl | ⟨1, _⟩ => rfl | ⟨2, _⟩ => rfl

end Cert.Proof.MomRef

end
-- ==== Proof.lean ====
/- The certificate: the frames of the six programs, the rewrite that makes the idealized kernel, the equality of the idealized
   kernel's eight results with the reference's, and the equality of the first moment's four. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Momentum
public import proofs.«01_k».proof.Proof.Gen.MomentumIdeal
public import proofs.«01_k».proof.Proof.Gen.MomentumReferenceIdeal
public import proofs.«01_k».proof.Proof.Gen.MomentumReferenceIdeal.Run
public import proofs.«01_k».proof.Proof.Gen.MomentumReferenceIdeal.Read
public import proofs.«01_k».proof.Proof.Gen.Kernel.Skeleton
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Momentum.Skeleton
public import proofs.«01_k».proof.Proof.Gen.Momentum.Launch
public import proofs.«01_k».proof.Proof.Gen.Momentum.Points
public import proofs.«01_k».proof.Proof.Gen.Momentum.Loops
public import proofs.«01_k».proof.Proof.Gen.MomentumIdeal.Skeleton
public import proofs.«01_k».proof.Proof.Gen.MomentumIdeal.Launch
public import proofs.«01_k».proof.Proof.Gen.MomentumIdeal.Points
public import proofs.«01_k».proof.Proof.Gen.MomentumIdeal.Loops
public import proofs.«01_k».proof.Proof.Run
public import proofs.«01_k».proof.Proof.Ref
public import proofs.«01_k».proof.Proof.MomentumFrame
public import proofs.«01_k».proof.Proof.MomRun
public import proofs.«01_k».proof.Proof.MomRef
public import Idealize.ShloMosaic.Lib.Bf16Pair

@[expose] public section

noncomputable section

namespace Cert.Proof

open Idealize.ShloMosaic Idealize.SL.Sem Cert.Proof.Spec

/-- Packing two arrays as the halves of words and reading the words as rows of half width is interleaving their rows. -/
theorem preserves : Cert.preserves_Kernel_KernelIdeal :=
  ⟨IdealRules.bf16_pair.packStatement _, IdealRules.bf16_pair.statement _ _, IdealRules.bf16_pair.packStatement _,
    IdealRules.bf16_pair.statement _ _⟩

/-- The reference terminates with its arguments unchanged; it has no semaphore. -/
theorem frameRef : Cert.quiescent_ReferenceIdeal (hReferenceIdeal := Cert.ReferenceIdeal.Gen.facts) := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

/-- Both programs end with the same eight arrays. -/
theorem algebraic : Cert.algebraic_KernelIdeal_ReferenceIdeal (hKernelIdeal := Cert.KernelIdeal.Gen.facts)
    (hReferenceIdeal := Cert.ReferenceIdeal.Gen.facts) := by
  intro m g m' g' _ hin
  refine ⟨_, _, _, _, _, _, _, _, Cert.Proof.Run.run m g, ?_⟩
  refine (θ_run _ _ _).mono (fun r h c => ?_) (Cert.ReferenceIdeal.Value.run (F := Ideal) m' g')
  obtain ⟨e0, e1, e2, e3, e4, e5, e6, e7, e8, e9, e10, e11, e12, e13, e14, e15, e16⟩ := hin c
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩
  · rw [Cert.ReferenceIdeal.Read.val_main_v119_eq, Ref.weights, e0, e2, e3, e4, e5, e8, e9, e10, e11, e12, e13, e14, e15, e16]
    rfl
  · rw [Cert.ReferenceIdeal.Read.val_main_v111_eq, Ref.backBoth, e2, e3, e4, e5, e8, e9, e10, e11, e12, e13, e14]
    rfl
  · rw [Cert.ReferenceIdeal.Read.val_main_v125_eq, Ref.left, e1, e6]
  · rw [Cert.ReferenceIdeal.Read.val_main_v131_eq, Ref.right, e1, e7]
  · rw [Cert.ReferenceIdeal.Read.val_main_v134_eq, Ref.projLeft, e1, e6, e8, e9]
    rfl
  · rw [Cert.ReferenceIdeal.Read.val_main_v137_eq, Ref.projRight, e1, e7, e10, e11]
    rfl
  · rw [Cert.ReferenceIdeal.Read.val_main_v108_eq, Ref.codes, e2, e4, e5, e10, e11]
    rfl
  · rw [Cert.ReferenceIdeal.Read.val_main_v100_eq, Ref.scales, e2, e4, e5, e10, e11]
    rfl

/-! ## The first moment's program -/

/-- Its idealization terminates with its arguments unchanged and every semaphore at zero. -/
theorem frameMomIdeal : Cert.quiescent_MomentumIdeal (hMomentumIdeal := Cert.MomentumIdeal.Gen.facts) := fun m ρ _ =>
  (θ_run Cert.MomentumIdeal.defs _ _).mono (fun _ h => ⟨fun c => (h.1 c).2.2.2.2, h.2⟩) (MomRun.run_all m ρ)

/-- So does its reference, which has no semaphore. -/
theorem frameMomRef : Cert.quiescent_MomentumReferenceIdeal (hMomentumReferenceIdeal := Cert.MomentumReferenceIdeal.Gen.facts) :=
  fun m ρ _ =>
  (θ_run Cert.MomentumReferenceIdeal.defs _ _).mono (fun r h => ⟨fun c => (h c).2.2.2.2,
      Idealize.ShloMosaic.sem_eq_zero_of_no_sems (by decide) r.2⟩)
    (Cert.MomentumReferenceIdeal.Value.run (F := Ideal) m ρ)

/-- Both end with the same products, the same codes and the same scales. -/
theorem algebraicMom : Cert.algebraic_MomentumIdeal_MomentumReferenceIdeal (hMomentumIdeal := Cert.MomentumIdeal.Gen.facts)
    (hMomentumReferenceIdeal := Cert.MomentumReferenceIdeal.Gen.facts) := by
  intro m g m' g' _ hin
  refine ⟨_, _, _, _, (θ_run Cert.MomentumIdeal.defs _ _).mono (fun _ h => h.1) (MomRun.run_all m g), ?_⟩
  refine (θ_run _ _ _).mono (fun r h c => ?_) (Cert.MomentumReferenceIdeal.Value.run (F := Ideal) m' g')
  obtain ⟨e0, e1, e2, e3⟩ := hin c
  obtain ⟨h0, h1, h2, h3, hargs⟩ := h c
  refine ⟨h0.trans ?_, h1.trans ?_, h2.trans ?_, h3.trans ?_, hargs⟩
  · rw [Cert.MomentumReferenceIdeal.Read.val_main_v30_eq, MomRef.turnedGradient, e0, e1]
  · rw [Cert.MomentumReferenceIdeal.Read.val_main_v33_eq, MomRef.turnedMoment, e0, e1, e2, e3]
  · rw [Cert.MomentumReferenceIdeal.Read.val_main_v28_eq, MomRef.codes, e1, e2, e3]
  · rw [Cert.MomentumReferenceIdeal.Read.val_main_v20_eq, MomRef.scales, e1, e2, e3]

theorem claim : Cert.Claim := ⟨Cert.Kernel.Gen.facts, Cert.KernelIdeal.Gen.facts, Cert.ReferenceIdeal.Gen.facts,
  Cert.Momentum.Gen.facts, Cert.MomentumIdeal.Gen.facts, Cert.MomentumReferenceIdeal.Gen.facts,
  fun m ρ _ => Cert.Kernel.Gen.frame m ρ, fun m ρ _ => Cert.KernelIdeal.Gen.frame m ρ, frameRef,
  fun m ρ _ => Cert.Proof.MomentumFrame.frame m ρ, frameMomIdeal, frameMomRef,
  preserves, algebraic, trivial, algebraicMom⟩

end Cert.Proof

end
